-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v537) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x96x224x224 : Shape := ⟨4, ![2, 96, 224, 224]⟩
abbrev S2x19x112x112 : Shape := ⟨4, ![2, 19, 112, 112]⟩
abbrev S2x19x64 : Shape := ⟨3, ![2, 19, 64]⟩
abbrev S2x3x112x112 : Shape := ⟨4, ![2, 3, 112, 112]⟩
abbrev S2x224x224x1 : Shape := ⟨4, ![2, 224, 224, 1]⟩
abbrev S96 : Shape := ⟨1, ![96]⟩
abbrev S128x3x3x3 : Shape := ⟨4, ![128, 3, 3, 3]⟩
abbrev S128 : Shape := ⟨1, ![128]⟩
abbrev S96x128x3x3 : Shape := ⟨4, ![96, 128, 3, 3]⟩
abbrev S96x64x3x3 : Shape := ⟨4, ![96, 64, 3, 3]⟩
abbrev S1 : Shape := ⟨1, ![1]⟩
abbrev S_ : Shape := ⟨0, ![]⟩

class Facts : Prop where
  bcast_S_S96 : S_.BroadcastsInDim S96 (![] : Fin 0 → Fin S96.rank)
  reducesTo_S96_S_d0 : S96.ReducesTo [0] S_
  h_S_ : 0 < S_.numel

variable [Facts]

def fn {F : FTy → Type} [FloatOps F] (main_arg0 : FVec F S2x96x224x224 .f32) (main_arg1 : FVec F S2x19x112x112 .f32) (main_arg2 : FVec F S2x19x64 .f32) (main_arg3 : FVec F S2x3x112x112 .f32) (main_arg4 : FVec F S2x224x224x1 .f32) (main_arg5 : FVec F S96 .f32) (main_arg6 : FVec F S96 .f32) (main_arg7 : FVec F S96 .f32) (main_arg8 : FVec F S128x3x3x3 .f32) (main_arg9 : FVec F S128 .f32) (main_arg10 : FVec F S96x128x3x3 .f32) (main_arg11 : FVec F S96 .f32) (main_arg12 : FVec F S96x128x3x3 .f32) (main_arg13 : FVec F S96 .f32) (main_arg14 : FVec F S96x64x3x3 .f32) (main_arg15 : FVec F S96 .f32) (main_arg16 : FVec F S96x64x3x3 .f32) (main_arg17 : FVec F S96 .f32) (main_arg18 : FVec F S1 .f32) (main_arg19 : FVec F S1 .f32) : IVec S_ 1 :=
  let main_v0 : FVec F S96 .f32 := Host.absf main_arg6
  let main_cst : FVec F S_ .f32 := constant S_ .f32 0x7F800000#32
  let main_v1 : FVec F S96 .f32 := broadcastInDim S96 ![] bcast_S_S96 main_cst
  let main_v2 : IVec S96 1 := cmpf .olt main_v0 main_v1
  let main_c : IVec S_ 1 := constantI S_ 1 1#1
  let main_v3 : IVec S_ 1 := (fun x v => Host.reduce IntOp.andi x v reducesTo_S96_S_d0 h_S_) main_v2 main_c
  main_v3
-- ==== Kernel.lean ====
abbrev S2x96x224x224 : Shape := ⟨4, ![2, 96, 224, 224]⟩
abbrev S2x19x112x112 : Shape := ⟨4, ![2, 19, 112, 112]⟩
abbrev S2x19x64 : Shape := ⟨3, ![2, 19, 64]⟩
abbrev S2x3x112x112 : Shape := ⟨4, ![2, 3, 112, 112]⟩
abbrev S2x224x224x1 : Shape := ⟨4, ![2, 224, 224, 1]⟩
abbrev S96 : Shape := ⟨1, ![96]⟩
abbrev S128x3x3x3 : Shape := ⟨4, ![128, 3, 3, 3]⟩
abbrev S128 : Shape := ⟨1, ![128]⟩
abbrev S96x128x3x3 : Shape := ⟨4, ![96, 128, 3, 3]⟩
abbrev S96x64x3x3 : Shape := ⟨4, ![96, 64, 3, 3]⟩
abbrev S1 : Shape := ⟨1, ![1]⟩
abbrev S_ : Shape := ⟨0, ![]⟩
abbrev S3x3x64x96 : Shape := ⟨4, ![3, 3, 64, 96]⟩
abbrev S9x64x96 : Shape := ⟨3, ![9, 64, 96]⟩
abbrev S9x64x192 : Shape := ⟨3, ![9, 64, 192]⟩
abbrev S3x3x128x96 : Shape := ⟨4, ![3, 3, 128, 96]⟩
abbrev S9x128x96 : Shape := ⟨3, ![9, 128, 96]⟩
abbrev S9x128x192 : Shape := ⟨3, ![9, 128, 192]⟩
abbrev S3x3x3x128 : Shape := ⟨4, ![3, 3, 3, 128]⟩
abbrev S27x128 : Shape := ⟨2, ![27, 128]⟩
abbrev S192 : Shape := ⟨1, ![192]⟩
abbrev S1x192 : Shape := ⟨2, ![1, 192]⟩
abbrev S1x128 : Shape := ⟨2, ![1, 128]⟩
abbrev S2x224x224 : Shape := ⟨3, ![2, 224, 224]⟩
abbrev S2x112x112x19 : Shape := ⟨4, ![2, 112, 112, 19]⟩
abbrev S2x12544x19 : Shape := ⟨3, ![2, 12544, 19]⟩
abbrev S2x112x112x3 : Shape := ⟨4, ![2, 112, 112, 3]⟩
abbrev S2x112x2x112x3 : Shape := ⟨5, ![2, 112, 2, 112, 3]⟩
abbrev S2x224x112x3 : Shape := ⟨4, ![2, 224, 112, 3]⟩
abbrev S2x224x112x2x3 : Shape := ⟨5, ![2, 224, 112, 2, 3]⟩
abbrev S2x224x224x3 : Shape := ⟨4, ![2, 224, 224, 3]⟩
abbrev S1x96 : Shape := ⟨2, ![1, 96]⟩
abbrev S3x1x32 : Shape := ⟨3, ![3, 1, 32]⟩
abbrev S2x3x1x32 : Shape := ⟨4, ![2, 3, 1, 32]⟩
abbrev S1x32x224x224 : Shape := ⟨4, ![1, 32, 224, 224]⟩
abbrev S1x224x224 : Shape := ⟨3, ![1, 224, 224]⟩
abbrev S1x1x32 : Shape := ⟨3, ![1, 1, 32]⟩
abbrev S1x1x1x32 : Shape := ⟨4, ![1, 1, 1, 32]⟩
abbrev S32x224x224 : Shape := ⟨3, ![32, 224, 224]⟩
abbrev S224x224 : Shape := ⟨2, ![224, 224]⟩
abbrev S32 : Shape := ⟨1, ![32]⟩
abbrev S1x1x1 : Shape := ⟨3, ![1, 1, 1]⟩
abbrev S2x1x96 : Shape := ⟨3, ![2, 1, 96]⟩
abbrev S2x12544x64 : Shape := ⟨3, ![2, 12544, 64]⟩
abbrev S1x12544x19 : Shape := ⟨3, ![1, 12544, 19]⟩
abbrev S1x19x64 : Shape := ⟨3, ![1, 19, 64]⟩
abbrev S1x12544x64 : Shape := ⟨3, ![1, 12544, 64]⟩
abbrev S12544x19 : Shape := ⟨2, ![12544, 19]⟩
abbrev S12544 : Shape := ⟨1, ![12544]⟩
abbrev S12544x1 : Shape := ⟨2, ![12544, 1]⟩
abbrev S19x64 : Shape := ⟨2, ![19, 64]⟩
abbrev S12544x64 : Shape := ⟨2, ![12544, 64]⟩
abbrev S2x112x112x64 : Shape := ⟨4, ![2, 112, 112, 64]⟩
abbrev S2x112x2x112x64 : Shape := ⟨5, ![2, 112, 2, 112, 64]⟩
abbrev S2x224x112x64 : Shape := ⟨4, ![2, 224, 112, 64]⟩
abbrev S2x224x112x2x64 : Shape := ⟨5, ![2, 224, 112, 2, 64]⟩
abbrev S2x224x224x64 : Shape := ⟨4, ![2, 224, 224, 64]⟩
abbrev S1x1x224x64 : Shape := ⟨4, ![1, 1, 224, 64]⟩
abbrev S1x32x224x64 : Shape := ⟨4, ![1, 32, 224, 64]⟩
abbrev S1x2x224x3 : Shape := ⟨4, ![1, 2, 224, 3]⟩
abbrev S1x32x224x3 : Shape := ⟨4, ![1, 32, 224, 3]⟩
abbrev S1x96x32x224 : Shape := ⟨4, ![1, 96, 32, 224]⟩
abbrev S1x32x224 : Shape := ⟨3, ![1, 32, 224]⟩
abbrev S1x1x96 : Shape := ⟨3, ![1, 1, 96]⟩
abbrev S34x226x64 : Shape := ⟨3, ![34, 226, 64]⟩
abbrev S34x226x128 : Shape := ⟨3, ![34, 226, 128]⟩
abbrev S7168x192 : Shape := ⟨2, ![7168, 192]⟩
abbrev S34x1x64 : Shape := ⟨3, ![34, 1, 64]⟩
abbrev S34x2x64 : Shape := ⟨3, ![34, 2, 64]⟩
abbrev S1x224x64 : Shape := ⟨3, ![1, 224, 64]⟩
abbrev S1x226x64 : Shape := ⟨3, ![1, 226, 64]⟩
abbrev S32x224x64 : Shape := ⟨3, ![32, 224, 64]⟩
abbrev S32x226x64 : Shape := ⟨3, ![32, 226, 64]⟩
abbrev S2x224x3 : Shape := ⟨3, ![2, 224, 3]⟩
abbrev S32x224x3 : Shape := ⟨3, ![32, 224, 3]⟩
abbrev S36x224x3 : Shape := ⟨3, ![36, 224, 3]⟩
abbrev S36x1x3 : Shape := ⟨3, ![36, 1, 3]⟩
abbrev S36x226x3 : Shape := ⟨3, ![36, 226, 3]⟩
abbrev S34x224x3 : Shape := ⟨3, ![34, 224, 3]⟩
abbrev S34x224x27 : Shape := ⟨3, ![34, 224, 27]⟩
abbrev S7616x27 : Shape := ⟨2, ![7616, 27]⟩
abbrev S7616x128 : Shape := ⟨2, ![7616, 128]⟩
abbrev S34x224x128 : Shape := ⟨3, ![34, 224, 128]⟩
abbrev S34x1x1 : Shape := ⟨3, ![34, 1, 1]⟩
abbrev S34x1x128 : Shape := ⟨3, ![34, 1, 128]⟩
abbrev S34x2x128 : Shape := ⟨3, ![34, 2, 128]⟩
abbrev S7168x64 : Shape := ⟨2, ![7168, 64]⟩
abbrev S32x224x128 : Shape := ⟨3, ![32, 224, 128]⟩
abbrev S7168x128 : Shape := ⟨2, ![7168, 128]⟩
abbrev S1x64x192 : Shape := ⟨3, ![1, 64, 192]⟩
abbrev S64x192 : Shape := ⟨2, ![64, 192]⟩
abbrev S1x128x192 : Shape := ⟨3, ![1, 128, 192]⟩
abbrev S128x192 : Shape := ⟨2, ![128, 192]⟩
abbrev S7168x96 : Shape := ⟨2, ![7168, 96]⟩
abbrev S32x224x96 : Shape := ⟨3, ![32, 224, 96]⟩
abbrev S96x32x224 : Shape := ⟨3, ![96, 32, 224]⟩
abbrev S32x224 : Shape := ⟨2, ![32, 224]⟩
abbrev S32x224x1 : Shape := ⟨3, ![32, 224, 1]⟩

abbrev nBuf : Space → Nat
  | .hbm => 103
  | .vmem => 51
  | .smem => 0
  | _ => 0

abbrev bufTy : (tb : Table) → Fin (tcTables nBuf tb) → BufTy
  | .hbm, ⟨0, _⟩ => ⟨S2x96x224x224, .f32⟩
  | .hbm, ⟨1, _⟩ => ⟨S2x19x112x112, .f32⟩
  | .hbm, ⟨2, _⟩ => ⟨S2x19x64, .f32⟩
  | .hbm, ⟨3, _⟩ => ⟨S2x3x112x112, .f32⟩
  | .hbm, ⟨4, _⟩ => ⟨S2x224x224x1, .f32⟩
  | .hbm, ⟨5, _⟩ => ⟨S96, .f32⟩
  | .hbm, ⟨6, _⟩ => ⟨S96, .f32⟩
  | .hbm, ⟨7, _⟩ => ⟨S96, .f32⟩
  | .hbm, ⟨8, _⟩ => ⟨S128x3x3x3, .f32⟩
  | .hbm, ⟨9, _⟩ => ⟨S128, .f32⟩
  | .hbm, ⟨10, _⟩ => ⟨S96x128x3x3, .f32⟩
  | .hbm, ⟨11, _⟩ => ⟨S96, .f32⟩
  | .hbm, ⟨12, _⟩ => ⟨S96x128x3x3, .f32⟩
  | .hbm, ⟨13, _⟩ => ⟨S96, .f32⟩
  | .hbm, ⟨14, _⟩ => ⟨S96x64x3x3, .f32⟩
  | .hbm, ⟨15, _⟩ => ⟨S96, .f32⟩
  | .hbm, ⟨16, _⟩ => ⟨S96x64x3x3, .f32⟩
  | .hbm, ⟨17, _⟩ => ⟨S96, .f32⟩
  | .hbm, ⟨18, _⟩ => ⟨S1, .f32⟩
  | .hbm, ⟨19, _⟩ => ⟨S1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S3x3x64x96, .f32⟩
  | .hbm, ⟨35, _⟩ => ⟨S9x64x96, .f32⟩
  | .hbm, ⟨36, _⟩ => ⟨S3x3x64x96, .f32⟩
  | .hbm, ⟨37, _⟩ => ⟨S9x64x96, .f32⟩
  | .hbm, ⟨38, _⟩ => ⟨S9x64x96, .f32⟩
  | .hbm, ⟨39, _⟩ => ⟨S9x64x96, .f32⟩
  | .hbm, ⟨40, _⟩ => ⟨S9x64x96, .f32⟩
  | .hbm, ⟨41, _⟩ => ⟨S9x64x96, .f32⟩
  | .hbm, ⟨42, _⟩ => ⟨S9x64x192, .f32⟩
  | .hbm, ⟨43, _⟩ => ⟨S9x64x192, .bf16⟩
  | .hbm, ⟨44, _⟩ => ⟨S3x3x128x96, .f32⟩
  | .hbm, ⟨45, _⟩ => ⟨S9x128x96, .f32⟩
  | .hbm, ⟨46, _⟩ => ⟨S3x3x128x96, .f32⟩
  | .hbm, ⟨47, _⟩ => ⟨S9x128x96, .f32⟩
  | .hbm, ⟨48, _⟩ => ⟨S_, .f32⟩
  | .hbm, ⟨49, _⟩ => ⟨S_, .f32⟩
  | .hbm, ⟨50, _⟩ => ⟨S9x128x96, .f32⟩
  | .hbm, ⟨51, _⟩ => ⟨S9x128x96, .f32⟩
  | .hbm, ⟨52, _⟩ => ⟨S_, .f32⟩
  | .hbm, ⟨53, _⟩ => ⟨S_, .f32⟩
  | .hbm, ⟨54, _⟩ => ⟨S9x128x96, .f32⟩
  | .hbm, ⟨55, _⟩ => ⟨S9x128x96, .f32⟩
  | .hbm, ⟨56, _⟩ => ⟨S9x128x192, .f32⟩
  | .hbm, ⟨57, _⟩ => ⟨S9x128x192, .bf16⟩
  | .hbm, ⟨58, _⟩ => ⟨S3x3x3x128, .f32⟩
  | .hbm, ⟨59, _⟩ => ⟨S27x128, .f32⟩
  | .hbm, ⟨60, _⟩ => ⟨S27x128, .bf16⟩
  | .hbm, ⟨61, _⟩ => ⟨S96, .f32⟩
  | .hbm, ⟨62, _⟩ => ⟨S96, .f32⟩
  | .hbm, ⟨63, _⟩ => ⟨S_, .f32⟩
  | .hbm, ⟨64, _⟩ => ⟨S_, .f32⟩
  | .hbm, ⟨65, _⟩ => ⟨S96, .f32⟩
  | .hbm, ⟨66, _⟩ => ⟨S96, .f32⟩
  | .hbm, ⟨67, _⟩ => ⟨S96, .f32⟩
  | .hbm, ⟨68, _⟩ => ⟨S96, .f32⟩
  | .hbm, ⟨69, _⟩ => ⟨S96, .f32⟩
  | .hbm, ⟨70, _⟩ => ⟨S_, .f32⟩
  | .hbm, ⟨71, _⟩ => ⟨S_, .f32⟩
  | .hbm, ⟨72, _⟩ => ⟨S96, .f32⟩
  | .hbm, ⟨73, _⟩ => ⟨S96, .f32⟩
  | .hbm, ⟨74, _⟩ => ⟨S96, .f32⟩
  | .hbm, ⟨75, _⟩ => ⟨S192, .f32⟩
  | .hbm, ⟨76, _⟩ => ⟨S1x192, .f32⟩
  | .hbm, ⟨77, _⟩ => ⟨S1x128, .f32⟩
  | .hbm, ⟨78, _⟩ => ⟨S2x224x224, .f32⟩
  | .hbm, ⟨79, _⟩ => ⟨S2x224x224, .f32⟩
  | .hbm, ⟨80, _⟩ => ⟨S2x112x112x19, .f32⟩
  | .hbm, ⟨81, _⟩ => ⟨S2x12544x19, .f32⟩
  | .hbm, ⟨82, _⟩ => ⟨S2x112x112x3, .f32⟩
  | .hbm, ⟨83, _⟩ => ⟨S2x112x2x112x3, .f32⟩
  | .hbm, ⟨84, _⟩ => ⟨S2x224x112x3, .f32⟩
  | .hbm, ⟨85, _⟩ => ⟨S2x224x112x2x3, .f32⟩
  | .hbm, ⟨86, _⟩ => ⟨S2x224x224x3, .f32⟩
  | .hbm, ⟨87, _⟩ => ⟨S2x224x224x3, .bf16⟩
  | .hbm, ⟨88, _⟩ => ⟨S1x96, .f32⟩
  | .hbm, ⟨89, _⟩ => ⟨S3x1x32, .f32⟩
  | .hbm, ⟨90, _⟩ => ⟨S3x1x32, .f32⟩
  | .hbm, ⟨91, _⟩ => ⟨S3x1x32, .f32⟩
  | .hbm, ⟨92, _⟩ => ⟨S2x3x1x32, .f32⟩
  | .hbm, ⟨93, _⟩ => ⟨S2x3x1x32, .f32⟩
  | .hbm, ⟨94, _⟩ => ⟨S2x1x96, .f32⟩
  | .hbm, ⟨95, _⟩ => ⟨S2x1x96, .f32⟩
  | .hbm, ⟨96, _⟩ => ⟨S2x12544x64, .bf16⟩
  | .hbm, ⟨97, _⟩ => ⟨S2x112x112x64, .bf16⟩
  | .hbm, ⟨98, _⟩ => ⟨S2x112x2x112x64, .bf16⟩
  | .hbm, ⟨99, _⟩ => ⟨S2x224x112x64, .bf16⟩
  | .hbm, ⟨100, _⟩ => ⟨S2x224x112x2x64, .bf16⟩
  | .hbm, ⟨101, _⟩ => ⟨S2x224x224x64, .bf16⟩
  | .hbm, ⟨102, _⟩ => ⟨S2x96x224x224, .f32⟩
  | .local _ .vmem, ⟨0, _⟩ => ⟨S1x32x224x224, .f32⟩
  | .local _ .vmem, ⟨1, _⟩ => ⟨S1x32x224x224, .f32⟩
  | .local _ .vmem, ⟨2, _⟩ => ⟨S1x224x224, .f32⟩
  | .local _ .vmem, ⟨3, _⟩ => ⟨S1x224x224, .f32⟩
  | .local _ .vmem, ⟨4, _⟩ => ⟨S1x1x32, .f32⟩
  | .local _ .vmem, ⟨5, _⟩ => ⟨S1x1x32, .f32⟩
  | .local _ .vmem, ⟨6, _⟩ => ⟨S1x1x32, .f32⟩
  | .local _ .vmem, ⟨7, _⟩ => ⟨S1x1x32, .f32⟩
  | .local _ .vmem, ⟨8, _⟩ => ⟨S1x1x32, .f32⟩
  | .local _ .vmem, ⟨9, _⟩ => ⟨S1x1x32, .f32⟩
  | .local _ .vmem, ⟨10, _⟩ => ⟨S1x1x1x32, .f32⟩
  | .local _ .vmem, ⟨11, _⟩ => ⟨S1x1x1x32, .f32⟩
  | .local _ .vmem, ⟨12, _⟩ => ⟨S1x1x1x32, .f32⟩
  | .local _ .vmem, ⟨13, _⟩ => ⟨S1x1x1x32, .f32⟩
  | .local _ .vmem, ⟨14, _⟩ => ⟨S1x12544x19, .f32⟩
  | .local _ .vmem, ⟨15, _⟩ => ⟨S1x12544x19, .f32⟩
  | .local _ .vmem, ⟨16, _⟩ => ⟨S1x19x64, .f32⟩
  | .local _ .vmem, ⟨17, _⟩ => ⟨S1x19x64, .f32⟩
  | .local _ .vmem, ⟨18, _⟩ => ⟨S1x12544x64, .bf16⟩
  | .local _ .vmem, ⟨19, _⟩ => ⟨S1x12544x64, .bf16⟩
  | .local _ .vmem, ⟨20, _⟩ => ⟨S1x1x224x64, .bf16⟩
  | .local _ .vmem, ⟨21, _⟩ => ⟨S1x1x224x64, .bf16⟩
  | .local _ .vmem, ⟨22, _⟩ => ⟨S1x32x224x64, .bf16⟩
  | .local _ .vmem, ⟨23, _⟩ => ⟨S1x32x224x64, .bf16⟩
  | .local _ .vmem, ⟨24, _⟩ => ⟨S1x1x224x64, .bf16⟩
  | .local _ .vmem, ⟨25, _⟩ => ⟨S1x1x224x64, .bf16⟩
  | .local _ .vmem, ⟨26, _⟩ => ⟨S1x2x224x3, .bf16⟩
  | .local _ .vmem, ⟨27, _⟩ => ⟨S1x2x224x3, .bf16⟩
  | .local _ .vmem, ⟨28, _⟩ => ⟨S1x32x224x3, .bf16⟩
  | .local _ .vmem, ⟨29, _⟩ => ⟨S1x32x224x3, .bf16⟩
  | .local _ .vmem, ⟨30, _⟩ => ⟨S1x2x224x3, .bf16⟩
  | .local _ .vmem, ⟨31, _⟩ => ⟨S1x2x224x3, .bf16⟩
  | .local _ .vmem, ⟨32, _⟩ => ⟨S1x96x32x224, .f32⟩
  | .local _ .vmem, ⟨33, _⟩ => ⟨S1x96x32x224, .f32⟩
  | .local _ .vmem, ⟨34, _⟩ => ⟨S1x32x224, .f32⟩
  | .local _ .vmem, ⟨35, _⟩ => ⟨S1x32x224, .f32⟩
  | .local _ .vmem, ⟨36, _⟩ => ⟨S1x96, .f32⟩
  | .local _ .vmem, ⟨37, _⟩ => ⟨S1x1x96, .f32⟩
  | .local _ .vmem, ⟨38, _⟩ => ⟨S1x1x96, .f32⟩
  | .local _ .vmem, ⟨39, _⟩ => ⟨S1x1x96, .f32⟩
  | .local _ .vmem, ⟨40, _⟩ => ⟨S1x1x96, .f32⟩
  | .local _ .vmem, ⟨41, _⟩ => ⟨S9x64x192, .bf16⟩
  | .local _ .vmem, ⟨42, _⟩ => ⟨S9x128x192, .bf16⟩
  | .local _ .vmem, ⟨43, _⟩ => ⟨S27x128, .bf16⟩
  | .local _ .vmem, ⟨44, _⟩ => ⟨S1x128, .f32⟩
  | .local _ .vmem, ⟨45, _⟩ => ⟨S1x192, .f32⟩
  | .local _ .vmem, ⟨46, _⟩ => ⟨S1x96x32x224, .f32⟩
  | .local _ .vmem, ⟨47, _⟩ => ⟨S1x96x32x224, .f32⟩
  | .local _ .vmem, ⟨48, _⟩ => ⟨S34x226x64, .bf16⟩
  | .local _ .vmem, ⟨49, _⟩ => ⟨S34x226x128, .bf16⟩
  | .local _ .vmem, ⟨50, _⟩ => ⟨S7168x192, .f32⟩
  | _, _ => ⟨S2x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_cst_0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_cst_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_3 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_4 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64_0 : Ref sig .tc := ⟨.hbm, 92, rfl⟩
abbrev main_v64_1 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg9_1 : Ref sig .tc := ⟨.vmem, 38, rfl⟩
abbrev cc2_stg10_0 : Ref sig .tc := ⟨.vmem, 39, rfl⟩
abbrev cc2_stg10_1 : Ref sig .tc := ⟨.vmem, 40, rfl⟩
abbrev cc2_stg11_0 : Ref sig .tc := ⟨.vmem, 41, rfl⟩
abbrev cc2_stg12_0 : Ref sig .tc := ⟨.vmem, 42, rfl⟩
abbrev cc2_stg13_0 : Ref sig .tc := ⟨.vmem, 43, rfl⟩
abbrev cc2_stg14_0 : Ref sig .tc := ⟨.vmem, 44, rfl⟩
abbrev cc2_stg15_0 : Ref sig .tc := ⟨.vmem, 45, rfl⟩
abbrev cc2_stg16_0 : Ref sig .tc := ⟨.vmem, 46, rfl⟩
abbrev cc2_stg16_1 : Ref sig .tc := ⟨.vmem, 47, rfl⟩
abbrev cc2_scratch0 : Ref sig .tc := ⟨.vmem, 48, rfl⟩
abbrev cc2_scratch1 : Ref sig .tc := ⟨.vmem, 49, rfl⟩
abbrev cc2_scratch2 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31
abbrev cc2_sem6_0 : DmaSem sig := 32
abbrev cc2_sem6_1 : DmaSem sig := 33
abbrev cc2_sem7_0 : DmaSem sig := 34
abbrev cc2_sem7_1 : DmaSem sig := 35
abbrev cc2_sem8_0 : DmaSem sig := 36
abbrev cc2_sem9_0 : DmaSem sig := 37
abbrev cc2_sem9_1 : DmaSem sig := 38
abbrev cc2_sem10_0 : DmaSem sig := 39
abbrev cc2_sem10_1 : DmaSem sig := 40
abbrev cc2_sem11_0 : DmaSem sig := 41
abbrev cc2_sem12_0 : DmaSem sig := 42
abbrev cc2_sem13_0 : DmaSem sig := 43
abbrev cc2_sem14_0 : DmaSem sig := 44
abbrev cc2_sem15_0 : DmaSem sig := 45
abbrev cc2_sem16_0 : DmaSem sig := 46
abbrev cc2_sem16_1 : DmaSem sig := 47

abbrev nD : Nat := 1
abbrev τ : Topo := Topo.v7x

variable {F : FTy → Type} [FloatOps F]

abbrev grid0 : Pipeline.Grid := ⟨2, ![2, 3], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x1x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x12544x19 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x19x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x12544x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![2, 7], ![false, false]⟩

def cc2_transform_0 (i : grid2.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c223_i32 : BitVec 32 := 223#32
  let v2 : BitVec 32 := Scalar.minsi v1 c223_i32
  let c0_i32 : BitVec 32 := 0#32
  let c0_i32_0 : BitVec 32 := 0#32
  let c0_i32_1 : BitVec 32 := 0#32
  ![arg0.toNat, v2.toNat, c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_5 (i : grid2.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c111_i32 : BitVec 32 := 111#32
  let v2 : BitVec 32 := Scalar.minsi v1 c111_i32
  let c0_i32 : BitVec 32 := 0#32
  let c0_i32_0 : BitVec 32 := 0#32
  let c0_i32_1 : BitVec 32 := 0#32
  ![arg0.toNat, v2.toNat, c0_i32.toNat, c0_i32_0.toNat]

def cc2_transform_6 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_10 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_11 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_12 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_13 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage2_0 : Fin 2 → Memref sig .tc .vmem S1x1x224x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x32x224x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1x224x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x2x224x3 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x32x224x3 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x2x224x3 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x96x32x224 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x32x224 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 1 → Memref sig .tc .vmem S1x96 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 2 → Memref sig .tc .vmem S1x1x96 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, false]

abbrev stage2_10 : Fin 2 → Memref sig .tc .vmem S1x1x96 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, false]

abbrev stage2_11 : Fin 1 → Memref sig .tc .vmem S9x64x192 .bf16 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 1 → Memref sig .tc .vmem S9x128x192 .bf16 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false, false]

abbrev stage2_13 : Fin 1 → Memref sig .tc .vmem S27x128 .bf16 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false, false]

abbrev stage2_14 : Fin 1 → Memref sig .tc .vmem S1x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false, false]

abbrev stage2_15 : Fin 1 → Memref sig .tc .vmem S1x192 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false, false]

abbrev stage2_16 : Fin 2 → Memref sig .tc .vmem S1x96x32x224 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true, true]
-- ==== ReferenceIdeal.lean ====
abbrev S2x96x224x224 : Shape := ⟨4, ![2, 96, 224, 224]⟩
abbrev S2x19x112x112 : Shape := ⟨4, ![2, 19, 112, 112]⟩
abbrev S2x19x64 : Shape := ⟨3, ![2, 19, 64]⟩
abbrev S2x3x112x112 : Shape := ⟨4, ![2, 3, 112, 112]⟩
abbrev S2x224x224x1 : Shape := ⟨4, ![2, 224, 224, 1]⟩
abbrev S96 : Shape := ⟨1, ![96]⟩
abbrev S128x3x3x3 : Shape := ⟨4, ![128, 3, 3, 3]⟩
abbrev S128 : Shape := ⟨1, ![128]⟩
abbrev S96x128x3x3 : Shape := ⟨4, ![96, 128, 3, 3]⟩
abbrev S96x64x3x3 : Shape := ⟨4, ![96, 64, 3, 3]⟩
abbrev S1 : Shape := ⟨1, ![1]⟩
abbrev S1x1x1x96 : Shape := ⟨4, ![1, 1, 1, 96]⟩
abbrev S2x224x224x96 : Shape := ⟨4, ![2, 224, 224, 96]⟩
abbrev S_ : Shape := ⟨0, ![]⟩
abbrev S2x96 : Shape := ⟨2, ![2, 96]⟩
abbrev S2x96x1x1 : Shape := ⟨4, ![2, 96, 1, 1]⟩
abbrev S1x96x1x1 : Shape := ⟨4, ![1, 96, 1, 1]⟩
abbrev S224 : Shape := ⟨1, ![224]⟩
abbrev S224x1 : Shape := ⟨2, ![224, 1]⟩
abbrev S2x19x224x112 : Shape := ⟨4, ![2, 19, 224, 112]⟩
abbrev S2x19x224x224 : Shape := ⟨4, ![2, 19, 224, 224]⟩
abbrev S2x3x224x112 : Shape := ⟨4, ![2, 3, 224, 112]⟩
abbrev S2x3x224x224 : Shape := ⟨4, ![2, 3, 224, 224]⟩
abbrev S2x64x224x224 : Shape := ⟨4, ![2, 64, 224, 224]⟩
abbrev S2x1x224x224 : Shape := ⟨4, ![2, 1, 224, 224]⟩
abbrev S2x224x224 : Shape := ⟨3, ![2, 224, 224]⟩
abbrev S2x1x64 : Shape := ⟨3, ![2, 1, 64]⟩
abbrev S2x64 : Shape := ⟨2, ![2, 64]⟩
abbrev S2x64x1x1 : Shape := ⟨4, ![2, 64, 1, 1]⟩
abbrev S2x64x226x226 : Shape := ⟨4, ![2, 64, 226, 226]⟩
abbrev S96x64x1x1 : Shape := ⟨4, ![96, 64, 1, 1]⟩
abbrev S96x64 : Shape := ⟨2, ![96, 64]⟩
abbrev S96x2x224x224 : Shape := ⟨4, ![96, 2, 224, 224]⟩
abbrev S2x3x226x226 : Shape := ⟨4, ![2, 3, 226, 226]⟩
abbrev S2x128x224x224 : Shape := ⟨4, ![2, 128, 224, 224]⟩
abbrev S128x3x1x1 : Shape := ⟨4, ![128, 3, 1, 1]⟩
abbrev S128x3 : Shape := ⟨2, ![128, 3]⟩
abbrev S128x2x224x224 : Shape := ⟨4, ![128, 2, 224, 224]⟩
abbrev S1x128x1x1 : Shape := ⟨4, ![1, 128, 1, 1]⟩
abbrev S2x128x226x226 : Shape := ⟨4, ![2, 128, 226, 226]⟩
abbrev S96x128x1x1 : Shape := ⟨4, ![96, 128, 1, 1]⟩
abbrev S96x128 : Shape := ⟨2, ![96, 128]⟩
abbrev S1x1x1x1 : Shape := ⟨4, ![1, 1, 1, 1]⟩

abbrev nBuf : Space → Nat
  | .hbm => 728
  | .vmem => 0
  | .smem => 0
  | _ => 0

abbrev hbmTy0_0 (i : Nat) : BufTy := match i % 128 with
  | 0 => ⟨S2x96x224x224, .f32⟩
  | 1 => ⟨S2x19x112x112, .f32⟩
  | 2 => ⟨S2x19x64, .f32⟩
  | 3 => ⟨S2x3x112x112, .f32⟩
  | 4 => ⟨S2x224x224x1, .f32⟩
  | 5 => ⟨S96, .f32⟩
  | 6 => ⟨S96, .f32⟩
  | 7 => ⟨S96, .f32⟩
  | 8 => ⟨S128x3x3x3, .f32⟩
  | 9 => ⟨S128, .f32⟩
  | 10 => ⟨S96x128x3x3, .f32⟩
  | 11 => ⟨S96, .f32⟩
  | 12 => ⟨S96x128x3x3, .f32⟩
  | 13 => ⟨S96, .f32⟩
  | 14 => ⟨S96x64x3x3, .f32⟩
  | 15 => ⟨S96, .f32⟩
  | 16 => ⟨S96x64x3x3, .f32⟩
  | 17 => ⟨S96, .f32⟩
  | 18 => ⟨S1, .f32⟩
  | 19 => ⟨S1, .f32⟩
  | 20 => ⟨S1x1x1x96, .f32⟩
  | 21 => ⟨S2x224x224x96, .f32⟩
  | 22 => ⟨S2x224x224x96, .f32⟩
  | 23 => ⟨S2x224x224x96, .f32⟩
  | 24 => ⟨S2x96x224x224, .f32⟩
  | 25 => ⟨S2x96x224x224, .f32⟩
  | 26 => ⟨S_, .f32⟩
  | 27 => ⟨S2x96, .f32⟩
  | 28 => ⟨S2x96x1x1, .f32⟩
  | 29 => ⟨S_, .f32⟩
  | 30 => ⟨S2x96x1x1, .f32⟩
  | 31 => ⟨S2x96x1x1, .f32⟩
  | 32 => ⟨S_, .i32⟩
  | 33 => ⟨S_, .f32⟩
  | 34 => ⟨S2x96, .f32⟩
  | 35 => ⟨S2x96x1x1, .f32⟩
  | 36 => ⟨S_, .f32⟩
  | 37 => ⟨S2x96x1x1, .f32⟩
  | 38 => ⟨S2x96x1x1, .f32⟩
  | 39 => ⟨S2x96x224x224, .f32⟩
  | 40 => ⟨S2x96x224x224, .f32⟩
  | 41 => ⟨S2x96x224x224, .f32⟩
  | 42 => ⟨S_, .f32⟩
  | 43 => ⟨S_, .f32⟩
  | 44 => ⟨S_, .f32⟩
  | 45 => ⟨S_, .f32⟩
  | 46 => ⟨S2x96, .f32⟩
  | 47 => ⟨S2x96x1x1, .f32⟩
  | 48 => ⟨S2x96x1x1, .f32⟩
  | 49 => ⟨S2x96x1x1, .f32⟩
  | 50 => ⟨S_, .f32⟩
  | 51 => ⟨S_, .i1⟩
  | 52 => ⟨S_, .f32⟩
  | 53 => ⟨S_, .f32⟩
  | 54 => ⟨S2x96x1x1, .f32⟩
  | 55 => ⟨S2x96x1x1, .f32⟩
  | 56 => ⟨S2x96x224x224, .f32⟩
  | 57 => ⟨S2x96x224x224, .f32⟩
  | 58 => ⟨S_, .f32⟩
  | 59 => ⟨S2x96x1x1, .f32⟩
  | 60 => ⟨S2x96x1x1, .f32⟩
  | 61 => ⟨S2x96x1x1, .f32⟩
  | 62 => ⟨S2x96x224x224, .f32⟩
  | 63 => ⟨S2x96x224x224, .f32⟩
  | 64 => ⟨S1x96x1x1, .f32⟩
  | 65 => ⟨S2x96x224x224, .f32⟩
  | 66 => ⟨S2x96x224x224, .f32⟩
  | 67 => ⟨S1x96x1x1, .f32⟩
  | 68 => ⟨S2x96x224x224, .f32⟩
  | 69 => ⟨S2x96x224x224, .f32⟩
  | 70 => ⟨S224, .i32⟩
  | 71 => ⟨S_, .i32⟩
  | 72 => ⟨S224, .i32⟩
  | 73 => ⟨S224, .i32⟩
  | 74 => ⟨S_, .i32⟩
  | 75 => ⟨S_, .i32⟩
  | 76 => ⟨S224, .i32⟩
  | 77 => ⟨S224, .i32⟩
  | 78 => ⟨S224, .i32⟩
  | 79 => ⟨S_, .i32⟩
  | 80 => ⟨S224, .i32⟩
  | 81 => ⟨S224, .i1⟩
  | 82 => ⟨S224, .i32⟩
  | 83 => ⟨S224, .i32⟩
  | 84 => ⟨S_, .i32⟩
  | 85 => ⟨S224, .i32⟩
  | 86 => ⟨S224, .i1⟩
  | 87 => ⟨S224, .i1⟩
  | 88 => ⟨S_, .i32⟩
  | 89 => ⟨S224, .i32⟩
  | 90 => ⟨S224, .i32⟩
  | 91 => ⟨S224, .i32⟩
  | 92 => ⟨S224, .i32⟩
  | 93 => ⟨S_, .i32⟩
  | 94 => ⟨S224, .i32⟩
  | 95 => ⟨S224, .i32⟩
  | 96 => ⟨S_, .i32⟩
  | 97 => ⟨S_, .i32⟩
  | 98 => ⟨S224, .i32⟩
  | 99 => ⟨S224, .i32⟩
  | 100 => ⟨S224, .i32⟩
  | 101 => ⟨S_, .i32⟩
  | 102 => ⟨S224, .i32⟩
  | 103 => ⟨S224, .i1⟩
  | 104 => ⟨S224, .i32⟩
  | 105 => ⟨S224, .i32⟩
  | 106 => ⟨S_, .i32⟩
  | 107 => ⟨S224, .i32⟩
  | 108 => ⟨S224, .i1⟩
  | 109 => ⟨S224, .i1⟩
  | 110 => ⟨S_, .i32⟩
  | 111 => ⟨S224, .i32⟩
  | 112 => ⟨S224, .i32⟩
  | 113 => ⟨S224, .i32⟩
  | 114 => ⟨S_, .i32⟩
  | 115 => ⟨S224, .i32⟩
  | 116 => ⟨S224, .i1⟩
  | 117 => ⟨S_, .i32⟩
  | 118 => ⟨S224, .i32⟩
  | 119 => ⟨S224, .i32⟩
  | 120 => ⟨S224, .i32⟩
  | 121 => ⟨S224x1, .i32⟩
  | 122 => ⟨S2x19x224x112, .f32⟩
  | 123 => ⟨S_, .i32⟩
  | 124 => ⟨S224, .i32⟩
  | 125 => ⟨S224, .i1⟩
  | 126 => ⟨S_, .i32⟩
  | 127 => ⟨S224, .i32⟩
  | _ => ⟨S2x96x224x224, .f32⟩

abbrev hbmTy0_1 (i : Nat) : BufTy := match i % 128 with
  | 0 => ⟨S224, .i32⟩
  | 1 => ⟨S224, .i32⟩
  | 2 => ⟨S224x1, .i32⟩
  | 3 => ⟨S2x19x224x224, .f32⟩
  | 4 => ⟨S224, .i32⟩
  | 5 => ⟨S_, .i32⟩
  | 6 => ⟨S224, .i32⟩
  | 7 => ⟨S224, .i32⟩
  | 8 => ⟨S_, .i32⟩
  | 9 => ⟨S_, .i32⟩
  | 10 => ⟨S224, .i32⟩
  | 11 => ⟨S224, .i32⟩
  | 12 => ⟨S224, .i32⟩
  | 13 => ⟨S_, .i32⟩
  | 14 => ⟨S224, .i32⟩
  | 15 => ⟨S224, .i1⟩
  | 16 => ⟨S224, .i32⟩
  | 17 => ⟨S224, .i32⟩
  | 18 => ⟨S_, .i32⟩
  | 19 => ⟨S224, .i32⟩
  | 20 => ⟨S224, .i1⟩
  | 21 => ⟨S224, .i1⟩
  | 22 => ⟨S_, .i32⟩
  | 23 => ⟨S224, .i32⟩
  | 24 => ⟨S224, .i32⟩
  | 25 => ⟨S224, .i32⟩
  | 26 => ⟨S224, .i32⟩
  | 27 => ⟨S_, .i32⟩
  | 28 => ⟨S224, .i32⟩
  | 29 => ⟨S224, .i32⟩
  | 30 => ⟨S_, .i32⟩
  | 31 => ⟨S_, .i32⟩
  | 32 => ⟨S224, .i32⟩
  | 33 => ⟨S224, .i32⟩
  | 34 => ⟨S224, .i32⟩
  | 35 => ⟨S_, .i32⟩
  | 36 => ⟨S224, .i32⟩
  | 37 => ⟨S224, .i1⟩
  | 38 => ⟨S224, .i32⟩
  | 39 => ⟨S224, .i32⟩
  | 40 => ⟨S_, .i32⟩
  | 41 => ⟨S224, .i32⟩
  | 42 => ⟨S224, .i1⟩
  | 43 => ⟨S224, .i1⟩
  | 44 => ⟨S_, .i32⟩
  | 45 => ⟨S224, .i32⟩
  | 46 => ⟨S224, .i32⟩
  | 47 => ⟨S224, .i32⟩
  | 48 => ⟨S_, .i32⟩
  | 49 => ⟨S224, .i32⟩
  | 50 => ⟨S224, .i1⟩
  | 51 => ⟨S_, .i32⟩
  | 52 => ⟨S224, .i32⟩
  | 53 => ⟨S224, .i32⟩
  | 54 => ⟨S224, .i32⟩
  | 55 => ⟨S224x1, .i32⟩
  | 56 => ⟨S2x3x224x112, .f32⟩
  | 57 => ⟨S_, .i32⟩
  | 58 => ⟨S224, .i32⟩
  | 59 => ⟨S224, .i1⟩
  | 60 => ⟨S_, .i32⟩
  | 61 => ⟨S224, .i32⟩
  | 62 => ⟨S224, .i32⟩
  | 63 => ⟨S224, .i32⟩
  | 64 => ⟨S224x1, .i32⟩
  | 65 => ⟨S2x3x224x224, .f32⟩
  | 66 => ⟨S_, .f32⟩
  | 67 => ⟨S2x19x224x224, .f32⟩
  | 68 => ⟨S2x19x224x224, .i1⟩
  | 69 => ⟨S_, .f32⟩
  | 70 => ⟨S2x64x224x224, .f32⟩
  | 71 => ⟨S2x1x224x224, .i1⟩
  | 72 => ⟨S2x224x224, .i1⟩
  | 73 => ⟨S2x1x224x224, .i1⟩
  | 74 => ⟨S2x1x64, .f32⟩
  | 75 => ⟨S2x64, .f32⟩
  | 76 => ⟨S2x64x1x1, .f32⟩
  | 77 => ⟨S2x64x224x224, .i1⟩
  | 78 => ⟨S2x64x224x224, .f32⟩
  | 79 => ⟨S2x64x224x224, .f32⟩
  | 80 => ⟨S2x1x224x224, .i1⟩
  | 81 => ⟨S2x224x224, .i1⟩
  | 82 => ⟨S2x1x224x224, .i1⟩
  | 83 => ⟨S2x1x64, .f32⟩
  | 84 => ⟨S2x64, .f32⟩
  | 85 => ⟨S2x64x1x1, .f32⟩
  | 86 => ⟨S2x64x224x224, .i1⟩
  | 87 => ⟨S2x64x224x224, .f32⟩
  | 88 => ⟨S2x64x224x224, .f32⟩
  | 89 => ⟨S2x1x224x224, .i1⟩
  | 90 => ⟨S2x224x224, .i1⟩
  | 91 => ⟨S2x1x224x224, .i1⟩
  | 92 => ⟨S2x1x64, .f32⟩
  | 93 => ⟨S2x64, .f32⟩
  | 94 => ⟨S2x64x1x1, .f32⟩
  | 95 => ⟨S2x64x224x224, .i1⟩
  | 96 => ⟨S2x64x224x224, .f32⟩
  | 97 => ⟨S2x64x224x224, .f32⟩
  | 98 => ⟨S2x1x224x224, .i1⟩
  | 99 => ⟨S2x224x224, .i1⟩
  | 100 => ⟨S2x1x224x224, .i1⟩
  | 101 => ⟨S2x1x64, .f32⟩
  | 102 => ⟨S2x64, .f32⟩
  | 103 => ⟨S2x64x1x1, .f32⟩
  | 104 => ⟨S2x64x224x224, .i1⟩
  | 105 => ⟨S2x64x224x224, .f32⟩
  | 106 => ⟨S2x64x224x224, .f32⟩
  | 107 => ⟨S2x1x224x224, .i1⟩
  | 108 => ⟨S2x224x224, .i1⟩
  | 109 => ⟨S2x1x224x224, .i1⟩
  | 110 => ⟨S2x1x64, .f32⟩
  | 111 => ⟨S2x64, .f32⟩
  | 112 => ⟨S2x64x1x1, .f32⟩
  | 113 => ⟨S2x64x224x224, .i1⟩
  | 114 => ⟨S2x64x224x224, .f32⟩
  | 115 => ⟨S2x64x224x224, .f32⟩
  | 116 => ⟨S2x1x224x224, .i1⟩
  | 117 => ⟨S2x224x224, .i1⟩
  | 118 => ⟨S2x1x224x224, .i1⟩
  | 119 => ⟨S2x1x64, .f32⟩
  | 120 => ⟨S2x64, .f32⟩
  | 121 => ⟨S2x64x1x1, .f32⟩
  | 122 => ⟨S2x64x224x224, .i1⟩
  | 123 => ⟨S2x64x224x224, .f32⟩
  | 124 => ⟨S2x64x224x224, .f32⟩
  | 125 => ⟨S2x1x224x224, .i1⟩
  | 126 => ⟨S2x224x224, .i1⟩
  | 127 => ⟨S2x1x224x224, .i1⟩
  | _ => ⟨S2x96x224x224, .f32⟩

abbrev hbmTy0_2 (i : Nat) : BufTy := match i % 128 with
  | 0 => ⟨S2x1x64, .f32⟩
  | 1 => ⟨S2x64, .f32⟩
  | 2 => ⟨S2x64x1x1, .f32⟩
  | 3 => ⟨S2x64x224x224, .i1⟩
  | 4 => ⟨S2x64x224x224, .f32⟩
  | 5 => ⟨S2x64x224x224, .f32⟩
  | 6 => ⟨S2x1x224x224, .i1⟩
  | 7 => ⟨S2x224x224, .i1⟩
  | 8 => ⟨S2x1x224x224, .i1⟩
  | 9 => ⟨S2x1x64, .f32⟩
  | 10 => ⟨S2x64, .f32⟩
  | 11 => ⟨S2x64x1x1, .f32⟩
  | 12 => ⟨S2x64x224x224, .i1⟩
  | 13 => ⟨S2x64x224x224, .f32⟩
  | 14 => ⟨S2x64x224x224, .f32⟩
  | 15 => ⟨S2x1x224x224, .i1⟩
  | 16 => ⟨S2x224x224, .i1⟩
  | 17 => ⟨S2x1x224x224, .i1⟩
  | 18 => ⟨S2x1x64, .f32⟩
  | 19 => ⟨S2x64, .f32⟩
  | 20 => ⟨S2x64x1x1, .f32⟩
  | 21 => ⟨S2x64x224x224, .i1⟩
  | 22 => ⟨S2x64x224x224, .f32⟩
  | 23 => ⟨S2x64x224x224, .f32⟩
  | 24 => ⟨S2x1x224x224, .i1⟩
  | 25 => ⟨S2x224x224, .i1⟩
  | 26 => ⟨S2x1x224x224, .i1⟩
  | 27 => ⟨S2x1x64, .f32⟩
  | 28 => ⟨S2x64, .f32⟩
  | 29 => ⟨S2x64x1x1, .f32⟩
  | 30 => ⟨S2x64x224x224, .i1⟩
  | 31 => ⟨S2x64x224x224, .f32⟩
  | 32 => ⟨S2x64x224x224, .f32⟩
  | 33 => ⟨S2x1x224x224, .i1⟩
  | 34 => ⟨S2x224x224, .i1⟩
  | 35 => ⟨S2x1x224x224, .i1⟩
  | 36 => ⟨S2x1x64, .f32⟩
  | 37 => ⟨S2x64, .f32⟩
  | 38 => ⟨S2x64x1x1, .f32⟩
  | 39 => ⟨S2x64x224x224, .i1⟩
  | 40 => ⟨S2x64x224x224, .f32⟩
  | 41 => ⟨S2x64x224x224, .f32⟩
  | 42 => ⟨S2x1x224x224, .i1⟩
  | 43 => ⟨S2x224x224, .i1⟩
  | 44 => ⟨S2x1x224x224, .i1⟩
  | 45 => ⟨S2x1x64, .f32⟩
  | 46 => ⟨S2x64, .f32⟩
  | 47 => ⟨S2x64x1x1, .f32⟩
  | 48 => ⟨S2x64x224x224, .i1⟩
  | 49 => ⟨S2x64x224x224, .f32⟩
  | 50 => ⟨S2x64x224x224, .f32⟩
  | 51 => ⟨S2x1x224x224, .i1⟩
  | 52 => ⟨S2x224x224, .i1⟩
  | 53 => ⟨S2x1x224x224, .i1⟩
  | 54 => ⟨S2x1x64, .f32⟩
  | 55 => ⟨S2x64, .f32⟩
  | 56 => ⟨S2x64x1x1, .f32⟩
  | 57 => ⟨S2x64x224x224, .i1⟩
  | 58 => ⟨S2x64x224x224, .f32⟩
  | 59 => ⟨S2x64x224x224, .f32⟩
  | 60 => ⟨S2x1x224x224, .i1⟩
  | 61 => ⟨S2x224x224, .i1⟩
  | 62 => ⟨S2x1x224x224, .i1⟩
  | 63 => ⟨S2x1x64, .f32⟩
  | 64 => ⟨S2x64, .f32⟩
  | 65 => ⟨S2x64x1x1, .f32⟩
  | 66 => ⟨S2x64x224x224, .i1⟩
  | 67 => ⟨S2x64x224x224, .f32⟩
  | 68 => ⟨S2x64x224x224, .f32⟩
  | 69 => ⟨S2x1x224x224, .i1⟩
  | 70 => ⟨S2x224x224, .i1⟩
  | 71 => ⟨S2x1x224x224, .i1⟩
  | 72 => ⟨S2x1x64, .f32⟩
  | 73 => ⟨S2x64, .f32⟩
  | 74 => ⟨S2x64x1x1, .f32⟩
  | 75 => ⟨S2x64x224x224, .i1⟩
  | 76 => ⟨S2x64x224x224, .f32⟩
  | 77 => ⟨S2x64x224x224, .f32⟩
  | 78 => ⟨S2x1x224x224, .i1⟩
  | 79 => ⟨S2x224x224, .i1⟩
  | 80 => ⟨S2x1x224x224, .i1⟩
  | 81 => ⟨S2x1x64, .f32⟩
  | 82 => ⟨S2x64, .f32⟩
  | 83 => ⟨S2x64x1x1, .f32⟩
  | 84 => ⟨S2x64x224x224, .i1⟩
  | 85 => ⟨S2x64x224x224, .f32⟩
  | 86 => ⟨S2x64x224x224, .f32⟩
  | 87 => ⟨S2x1x224x224, .i1⟩
  | 88 => ⟨S2x224x224, .i1⟩
  | 89 => ⟨S2x1x224x224, .i1⟩
  | 90 => ⟨S2x1x64, .f32⟩
  | 91 => ⟨S2x64, .f32⟩
  | 92 => ⟨S2x64x1x1, .f32⟩
  | 93 => ⟨S2x64x224x224, .i1⟩
  | 94 => ⟨S2x64x224x224, .f32⟩
  | 95 => ⟨S2x64x224x224, .f32⟩
  | 96 => ⟨S2x1x224x224, .i1⟩
  | 97 => ⟨S2x224x224, .i1⟩
  | 98 => ⟨S2x1x224x224, .i1⟩
  | 99 => ⟨S2x1x64, .f32⟩
  | 100 => ⟨S2x64, .f32⟩
  | 101 => ⟨S2x64x1x1, .f32⟩
  | 102 => ⟨S2x64x224x224, .i1⟩
  | 103 => ⟨S2x64x224x224, .f32⟩
  | 104 => ⟨S2x64x224x224, .f32⟩
  | 105 => ⟨S2x1x224x224, .i1⟩
  | 106 => ⟨S2x224x224, .i1⟩
  | 107 => ⟨S2x1x224x224, .i1⟩
  | 108 => ⟨S2x1x64, .f32⟩
  | 109 => ⟨S2x64, .f32⟩
  | 110 => ⟨S2x64x1x1, .f32⟩
  | 111 => ⟨S2x64x224x224, .i1⟩
  | 112 => ⟨S2x64x224x224, .f32⟩
  | 113 => ⟨S2x64x224x224, .f32⟩
  | 114 => ⟨S_, .i32⟩
  | 115 => ⟨S_, .f32⟩
  | 116 => ⟨S2x64x226x226, .f32⟩
  | 117 => ⟨S_, .f32⟩
  | 118 => ⟨S2x96x224x224, .f32⟩
  | 119 => ⟨S2x64x224x224, .f32⟩
  | 120 => ⟨S96x64x1x1, .f32⟩
  | 121 => ⟨S96x64, .f32⟩
  | 122 => ⟨S96x2x224x224, .f32⟩
  | 123 => ⟨S2x96x224x224, .f32⟩
  | 124 => ⟨S2x96x224x224, .f32⟩
  | 125 => ⟨S2x64x224x224, .f32⟩
  | 126 => ⟨S96x64x1x1, .f32⟩
  | 127 => ⟨S96x64, .f32⟩
  | _ => ⟨S2x96x224x224, .f32⟩

abbrev hbmTy0_3 (i : Nat) : BufTy := match i % 128 with
  | 0 => ⟨S96x2x224x224, .f32⟩
  | 1 => ⟨S2x96x224x224, .f32⟩
  | 2 => ⟨S2x96x224x224, .f32⟩
  | 3 => ⟨S2x64x224x224, .f32⟩
  | 4 => ⟨S96x64x1x1, .f32⟩
  | 5 => ⟨S96x64, .f32⟩
  | 6 => ⟨S96x2x224x224, .f32⟩
  | 7 => ⟨S2x96x224x224, .f32⟩
  | 8 => ⟨S2x96x224x224, .f32⟩
  | 9 => ⟨S2x64x224x224, .f32⟩
  | 10 => ⟨S96x64x1x1, .f32⟩
  | 11 => ⟨S96x64, .f32⟩
  | 12 => ⟨S96x2x224x224, .f32⟩
  | 13 => ⟨S2x96x224x224, .f32⟩
  | 14 => ⟨S2x96x224x224, .f32⟩
  | 15 => ⟨S2x64x224x224, .f32⟩
  | 16 => ⟨S96x64x1x1, .f32⟩
  | 17 => ⟨S96x64, .f32⟩
  | 18 => ⟨S96x2x224x224, .f32⟩
  | 19 => ⟨S2x96x224x224, .f32⟩
  | 20 => ⟨S2x96x224x224, .f32⟩
  | 21 => ⟨S2x64x224x224, .f32⟩
  | 22 => ⟨S96x64x1x1, .f32⟩
  | 23 => ⟨S96x64, .f32⟩
  | 24 => ⟨S96x2x224x224, .f32⟩
  | 25 => ⟨S2x96x224x224, .f32⟩
  | 26 => ⟨S2x96x224x224, .f32⟩
  | 27 => ⟨S2x64x224x224, .f32⟩
  | 28 => ⟨S96x64x1x1, .f32⟩
  | 29 => ⟨S96x64, .f32⟩
  | 30 => ⟨S96x2x224x224, .f32⟩
  | 31 => ⟨S2x96x224x224, .f32⟩
  | 32 => ⟨S2x96x224x224, .f32⟩
  | 33 => ⟨S2x64x224x224, .f32⟩
  | 34 => ⟨S96x64x1x1, .f32⟩
  | 35 => ⟨S96x64, .f32⟩
  | 36 => ⟨S96x2x224x224, .f32⟩
  | 37 => ⟨S2x96x224x224, .f32⟩
  | 38 => ⟨S2x96x224x224, .f32⟩
  | 39 => ⟨S2x64x224x224, .f32⟩
  | 40 => ⟨S96x64x1x1, .f32⟩
  | 41 => ⟨S96x64, .f32⟩
  | 42 => ⟨S96x2x224x224, .f32⟩
  | 43 => ⟨S2x96x224x224, .f32⟩
  | 44 => ⟨S2x96x224x224, .f32⟩
  | 45 => ⟨S1x96x1x1, .f32⟩
  | 46 => ⟨S2x96x224x224, .f32⟩
  | 47 => ⟨S2x96x224x224, .f32⟩
  | 48 => ⟨S_, .i32⟩
  | 49 => ⟨S_, .f32⟩
  | 50 => ⟨S2x64x226x226, .f32⟩
  | 51 => ⟨S_, .f32⟩
  | 52 => ⟨S2x96x224x224, .f32⟩
  | 53 => ⟨S2x64x224x224, .f32⟩
  | 54 => ⟨S96x64x1x1, .f32⟩
  | 55 => ⟨S96x64, .f32⟩
  | 56 => ⟨S96x2x224x224, .f32⟩
  | 57 => ⟨S2x96x224x224, .f32⟩
  | 58 => ⟨S2x96x224x224, .f32⟩
  | 59 => ⟨S2x64x224x224, .f32⟩
  | 60 => ⟨S96x64x1x1, .f32⟩
  | 61 => ⟨S96x64, .f32⟩
  | 62 => ⟨S96x2x224x224, .f32⟩
  | 63 => ⟨S2x96x224x224, .f32⟩
  | 64 => ⟨S2x96x224x224, .f32⟩
  | 65 => ⟨S2x64x224x224, .f32⟩
  | 66 => ⟨S96x64x1x1, .f32⟩
  | 67 => ⟨S96x64, .f32⟩
  | 68 => ⟨S96x2x224x224, .f32⟩
  | 69 => ⟨S2x96x224x224, .f32⟩
  | 70 => ⟨S2x96x224x224, .f32⟩
  | 71 => ⟨S2x64x224x224, .f32⟩
  | 72 => ⟨S96x64x1x1, .f32⟩
  | 73 => ⟨S96x64, .f32⟩
  | 74 => ⟨S96x2x224x224, .f32⟩
  | 75 => ⟨S2x96x224x224, .f32⟩
  | 76 => ⟨S2x96x224x224, .f32⟩
  | 77 => ⟨S2x64x224x224, .f32⟩
  | 78 => ⟨S96x64x1x1, .f32⟩
  | 79 => ⟨S96x64, .f32⟩
  | 80 => ⟨S96x2x224x224, .f32⟩
  | 81 => ⟨S2x96x224x224, .f32⟩
  | 82 => ⟨S2x96x224x224, .f32⟩
  | 83 => ⟨S2x64x224x224, .f32⟩
  | 84 => ⟨S96x64x1x1, .f32⟩
  | 85 => ⟨S96x64, .f32⟩
  | 86 => ⟨S96x2x224x224, .f32⟩
  | 87 => ⟨S2x96x224x224, .f32⟩
  | 88 => ⟨S2x96x224x224, .f32⟩
  | 89 => ⟨S2x64x224x224, .f32⟩
  | 90 => ⟨S96x64x1x1, .f32⟩
  | 91 => ⟨S96x64, .f32⟩
  | 92 => ⟨S96x2x224x224, .f32⟩
  | 93 => ⟨S2x96x224x224, .f32⟩
  | 94 => ⟨S2x96x224x224, .f32⟩
  | 95 => ⟨S2x64x224x224, .f32⟩
  | 96 => ⟨S96x64x1x1, .f32⟩
  | 97 => ⟨S96x64, .f32⟩
  | 98 => ⟨S96x2x224x224, .f32⟩
  | 99 => ⟨S2x96x224x224, .f32⟩
  | 100 => ⟨S2x96x224x224, .f32⟩
  | 101 => ⟨S2x64x224x224, .f32⟩
  | 102 => ⟨S96x64x1x1, .f32⟩
  | 103 => ⟨S96x64, .f32⟩
  | 104 => ⟨S96x2x224x224, .f32⟩
  | 105 => ⟨S2x96x224x224, .f32⟩
  | 106 => ⟨S2x96x224x224, .f32⟩
  | 107 => ⟨S1x96x1x1, .f32⟩
  | 108 => ⟨S2x96x224x224, .f32⟩
  | 109 => ⟨S2x96x224x224, .f32⟩
  | 110 => ⟨S_, .i32⟩
  | 111 => ⟨S_, .f32⟩
  | 112 => ⟨S2x3x226x226, .f32⟩
  | 113 => ⟨S_, .f32⟩
  | 114 => ⟨S2x128x224x224, .f32⟩
  | 115 => ⟨S2x3x224x224, .f32⟩
  | 116 => ⟨S128x3x1x1, .f32⟩
  | 117 => ⟨S128x3, .f32⟩
  | 118 => ⟨S128x2x224x224, .f32⟩
  | 119 => ⟨S2x128x224x224, .f32⟩
  | 120 => ⟨S2x128x224x224, .f32⟩
  | 121 => ⟨S2x3x224x224, .f32⟩
  | 122 => ⟨S128x3x1x1, .f32⟩
  | 123 => ⟨S128x3, .f32⟩
  | 124 => ⟨S128x2x224x224, .f32⟩
  | 125 => ⟨S2x128x224x224, .f32⟩
  | 126 => ⟨S2x128x224x224, .f32⟩
  | 127 => ⟨S2x3x224x224, .f32⟩
  | _ => ⟨S2x96x224x224, .f32⟩

abbrev hbmTy0_4 (i : Nat) : BufTy := match i % 128 with
  | 0 => ⟨S128x3x1x1, .f32⟩
  | 1 => ⟨S128x3, .f32⟩
  | 2 => ⟨S128x2x224x224, .f32⟩
  | 3 => ⟨S2x128x224x224, .f32⟩
  | 4 => ⟨S2x128x224x224, .f32⟩
  | 5 => ⟨S2x3x224x224, .f32⟩
  | 6 => ⟨S128x3x1x1, .f32⟩
  | 7 => ⟨S128x3, .f32⟩
  | 8 => ⟨S128x2x224x224, .f32⟩
  | 9 => ⟨S2x128x224x224, .f32⟩
  | 10 => ⟨S2x128x224x224, .f32⟩
  | 11 => ⟨S2x3x224x224, .f32⟩
  | 12 => ⟨S128x3x1x1, .f32⟩
  | 13 => ⟨S128x3, .f32⟩
  | 14 => ⟨S128x2x224x224, .f32⟩
  | 15 => ⟨S2x128x224x224, .f32⟩
  | 16 => ⟨S2x128x224x224, .f32⟩
  | 17 => ⟨S2x3x224x224, .f32⟩
  | 18 => ⟨S128x3x1x1, .f32⟩
  | 19 => ⟨S128x3, .f32⟩
  | 20 => ⟨S128x2x224x224, .f32⟩
  | 21 => ⟨S2x128x224x224, .f32⟩
  | 22 => ⟨S2x128x224x224, .f32⟩
  | 23 => ⟨S2x3x224x224, .f32⟩
  | 24 => ⟨S128x3x1x1, .f32⟩
  | 25 => ⟨S128x3, .f32⟩
  | 26 => ⟨S128x2x224x224, .f32⟩
  | 27 => ⟨S2x128x224x224, .f32⟩
  | 28 => ⟨S2x128x224x224, .f32⟩
  | 29 => ⟨S2x3x224x224, .f32⟩
  | 30 => ⟨S128x3x1x1, .f32⟩
  | 31 => ⟨S128x3, .f32⟩
  | 32 => ⟨S128x2x224x224, .f32⟩
  | 33 => ⟨S2x128x224x224, .f32⟩
  | 34 => ⟨S2x128x224x224, .f32⟩
  | 35 => ⟨S2x3x224x224, .f32⟩
  | 36 => ⟨S128x3x1x1, .f32⟩
  | 37 => ⟨S128x3, .f32⟩
  | 38 => ⟨S128x2x224x224, .f32⟩
  | 39 => ⟨S2x128x224x224, .f32⟩
  | 40 => ⟨S2x128x224x224, .f32⟩
  | 41 => ⟨S1x128x1x1, .f32⟩
  | 42 => ⟨S2x128x224x224, .f32⟩
  | 43 => ⟨S2x128x224x224, .f32⟩
  | 44 => ⟨S_, .f32⟩
  | 45 => ⟨S2x128x224x224, .f32⟩
  | 46 => ⟨S2x128x224x224, .i1⟩
  | 47 => ⟨S_, .f32⟩
  | 48 => ⟨S2x128x224x224, .f32⟩
  | 49 => ⟨S2x128x224x224, .f32⟩
  | 50 => ⟨S2x128x224x224, .f32⟩
  | 51 => ⟨S_, .i32⟩
  | 52 => ⟨S_, .f32⟩
  | 53 => ⟨S2x128x226x226, .f32⟩
  | 54 => ⟨S_, .f32⟩
  | 55 => ⟨S2x96x224x224, .f32⟩
  | 56 => ⟨S2x128x224x224, .f32⟩
  | 57 => ⟨S96x128x1x1, .f32⟩
  | 58 => ⟨S96x128, .f32⟩
  | 59 => ⟨S96x2x224x224, .f32⟩
  | 60 => ⟨S2x96x224x224, .f32⟩
  | 61 => ⟨S2x96x224x224, .f32⟩
  | 62 => ⟨S2x128x224x224, .f32⟩
  | 63 => ⟨S96x128x1x1, .f32⟩
  | 64 => ⟨S96x128, .f32⟩
  | 65 => ⟨S96x2x224x224, .f32⟩
  | 66 => ⟨S2x96x224x224, .f32⟩
  | 67 => ⟨S2x96x224x224, .f32⟩
  | 68 => ⟨S2x128x224x224, .f32⟩
  | 69 => ⟨S96x128x1x1, .f32⟩
  | 70 => ⟨S96x128, .f32⟩
  | 71 => ⟨S96x2x224x224, .f32⟩
  | 72 => ⟨S2x96x224x224, .f32⟩
  | 73 => ⟨S2x96x224x224, .f32⟩
  | 74 => ⟨S2x128x224x224, .f32⟩
  | 75 => ⟨S96x128x1x1, .f32⟩
  | 76 => ⟨S96x128, .f32⟩
  | 77 => ⟨S96x2x224x224, .f32⟩
  | 78 => ⟨S2x96x224x224, .f32⟩
  | 79 => ⟨S2x96x224x224, .f32⟩
  | 80 => ⟨S2x128x224x224, .f32⟩
  | 81 => ⟨S96x128x1x1, .f32⟩
  | 82 => ⟨S96x128, .f32⟩
  | 83 => ⟨S96x2x224x224, .f32⟩
  | 84 => ⟨S2x96x224x224, .f32⟩
  | 85 => ⟨S2x96x224x224, .f32⟩
  | 86 => ⟨S2x128x224x224, .f32⟩
  | 87 => ⟨S96x128x1x1, .f32⟩
  | 88 => ⟨S96x128, .f32⟩
  | 89 => ⟨S96x2x224x224, .f32⟩
  | 90 => ⟨S2x96x224x224, .f32⟩
  | 91 => ⟨S2x96x224x224, .f32⟩
  | 92 => ⟨S2x128x224x224, .f32⟩
  | 93 => ⟨S96x128x1x1, .f32⟩
  | 94 => ⟨S96x128, .f32⟩
  | 95 => ⟨S96x2x224x224, .f32⟩
  | 96 => ⟨S2x96x224x224, .f32⟩
  | 97 => ⟨S2x96x224x224, .f32⟩
  | 98 => ⟨S2x128x224x224, .f32⟩
  | 99 => ⟨S96x128x1x1, .f32⟩
  | 100 => ⟨S96x128, .f32⟩
  | 101 => ⟨S96x2x224x224, .f32⟩
  | 102 => ⟨S2x96x224x224, .f32⟩
  | 103 => ⟨S2x96x224x224, .f32⟩
  | 104 => ⟨S2x128x224x224, .f32⟩
  | 105 => ⟨S96x128x1x1, .f32⟩
  | 106 => ⟨S96x128, .f32⟩
  | 107 => ⟨S96x2x224x224, .f32⟩
  | 108 => ⟨S2x96x224x224, .f32⟩
  | 109 => ⟨S2x96x224x224, .f32⟩
  | 110 => ⟨S1x96x1x1, .f32⟩
  | 111 => ⟨S2x96x224x224, .f32⟩
  | 112 => ⟨S2x96x224x224, .f32⟩
  | 113 => ⟨S_, .i32⟩
  | 114 => ⟨S_, .f32⟩
  | 115 => ⟨S2x128x226x226, .f32⟩
  | 116 => ⟨S_, .f32⟩
  | 117 => ⟨S2x96x224x224, .f32⟩
  | 118 => ⟨S2x128x224x224, .f32⟩
  | 119 => ⟨S96x128x1x1, .f32⟩
  | 120 => ⟨S96x128, .f32⟩
  | 121 => ⟨S96x2x224x224, .f32⟩
  | 122 => ⟨S2x96x224x224, .f32⟩
  | 123 => ⟨S2x96x224x224, .f32⟩
  | 124 => ⟨S2x128x224x224, .f32⟩
  | 125 => ⟨S96x128x1x1, .f32⟩
  | 126 => ⟨S96x128, .f32⟩
  | 127 => ⟨S96x2x224x224, .f32⟩
  | _ => ⟨S2x96x224x224, .f32⟩

abbrev hbmTy0_5 (i : Nat) : BufTy := match i % 128 with
  | 0 => ⟨S2x96x224x224, .f32⟩
  | 1 => ⟨S2x96x224x224, .f32⟩
  | 2 => ⟨S2x128x224x224, .f32⟩
  | 3 => ⟨S96x128x1x1, .f32⟩
  | 4 => ⟨S96x128, .f32⟩
  | 5 => ⟨S96x2x224x224, .f32⟩
  | 6 => ⟨S2x96x224x224, .f32⟩
  | 7 => ⟨S2x96x224x224, .f32⟩
  | 8 => ⟨S2x128x224x224, .f32⟩
  | 9 => ⟨S96x128x1x1, .f32⟩
  | 10 => ⟨S96x128, .f32⟩
  | 11 => ⟨S96x2x224x224, .f32⟩
  | 12 => ⟨S2x96x224x224, .f32⟩
  | 13 => ⟨S2x96x224x224, .f32⟩
  | 14 => ⟨S2x128x224x224, .f32⟩
  | 15 => ⟨S96x128x1x1, .f32⟩
  | 16 => ⟨S96x128, .f32⟩
  | 17 => ⟨S96x2x224x224, .f32⟩
  | 18 => ⟨S2x96x224x224, .f32⟩
  | 19 => ⟨S2x96x224x224, .f32⟩
  | 20 => ⟨S2x128x224x224, .f32⟩
  | 21 => ⟨S96x128x1x1, .f32⟩
  | 22 => ⟨S96x128, .f32⟩
  | 23 => ⟨S96x2x224x224, .f32⟩
  | 24 => ⟨S2x96x224x224, .f32⟩
  | 25 => ⟨S2x96x224x224, .f32⟩
  | 26 => ⟨S2x128x224x224, .f32⟩
  | 27 => ⟨S96x128x1x1, .f32⟩
  | 28 => ⟨S96x128, .f32⟩
  | 29 => ⟨S96x2x224x224, .f32⟩
  | 30 => ⟨S2x96x224x224, .f32⟩
  | 31 => ⟨S2x96x224x224, .f32⟩
  | 32 => ⟨S2x128x224x224, .f32⟩
  | 33 => ⟨S96x128x1x1, .f32⟩
  | 34 => ⟨S96x128, .f32⟩
  | 35 => ⟨S96x2x224x224, .f32⟩
  | 36 => ⟨S2x96x224x224, .f32⟩
  | 37 => ⟨S2x96x224x224, .f32⟩
  | 38 => ⟨S2x128x224x224, .f32⟩
  | 39 => ⟨S96x128x1x1, .f32⟩
  | 40 => ⟨S96x128, .f32⟩
  | 41 => ⟨S96x2x224x224, .f32⟩
  | 42 => ⟨S2x96x224x224, .f32⟩
  | 43 => ⟨S2x96x224x224, .f32⟩
  | 44 => ⟨S1x96x1x1, .f32⟩
  | 45 => ⟨S2x96x224x224, .f32⟩
  | 46 => ⟨S2x96x224x224, .f32⟩
  | 47 => ⟨S1, .f32⟩
  | 48 => ⟨S1, .f32⟩
  | 49 => ⟨S_, .f32⟩
  | 50 => ⟨S1, .f32⟩
  | 51 => ⟨S1, .f32⟩
  | 52 => ⟨S_, .f32⟩
  | 53 => ⟨S1, .f32⟩
  | 54 => ⟨S1, .f32⟩
  | 55 => ⟨S1, .f32⟩
  | 56 => ⟨S1, .f32⟩
  | 57 => ⟨S_, .f32⟩
  | 58 => ⟨S1, .f32⟩
  | 59 => ⟨S1, .f32⟩
  | 60 => ⟨S_, .f32⟩
  | 61 => ⟨S1, .f32⟩
  | 62 => ⟨S1, .f32⟩
  | 63 => ⟨S1x1x1x1, .f32⟩
  | 64 => ⟨S2x96x224x224, .f32⟩
  | 65 => ⟨S2x96x224x224, .f32⟩
  | 66 => ⟨S_, .f32⟩
  | 67 => ⟨S1, .f32⟩
  | 68 => ⟨S1, .f32⟩
  | 69 => ⟨S1x1x1x1, .f32⟩
  | 70 => ⟨S2x96x224x224, .f32⟩
  | 71 => ⟨S2x96x224x224, .f32⟩
  | 72 => ⟨S2x96x224x224, .f32⟩
  | 73 => ⟨S1x1x1x1, .f32⟩
  | 74 => ⟨S2x96x224x224, .f32⟩
  | 75 => ⟨S2x96x224x224, .f32⟩
  | 76 => ⟨S_, .f32⟩
  | 77 => ⟨S1, .f32⟩
  | 78 => ⟨S1, .f32⟩
  | 79 => ⟨S1x1x1x1, .f32⟩
  | 80 => ⟨S2x96x224x224, .f32⟩
  | 81 => ⟨S2x96x224x224, .f32⟩
  | 82 => ⟨S2x96x224x224, .f32⟩
  | 83 => ⟨S_, .f32⟩
  | 84 => ⟨S2x96x224x224, .f32⟩
  | 85 => ⟨S2x96x224x224, .f32⟩
  | 86 => ⟨S2x96x224x224, .f32⟩
  | 87 => ⟨S2x96x224x224, .f32⟩
  | _ => ⟨S2x96x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2x96x224x224, .f32⟩

abbrev bufTy : (tb : Table) → Fin (tcTables nBuf tb) → BufTy
  | .hbm, ⟨i, _⟩ => hbmTy i
  | _, _ => ⟨S2x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_cst : Ref sig .tc := ⟨.hbm, 26, rfl⟩
abbrev main_v6 : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_c : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_cst_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_cst_1 : Ref sig .tc := ⟨.hbm, 43, rfl⟩
abbrev main_call0_v8 : Ref sig .tc := ⟨.hbm, 44, rfl⟩
abbrev main_call0_cst_2 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_v12 : Ref sig .tc := ⟨.hbm, 49, rfl⟩
abbrev main_call0_cst_3 : Ref sig .tc := ⟨.hbm, 50, rfl⟩
abbrev main_call0_v13 : Ref sig .tc := ⟨.hbm, 51, rfl⟩
abbrev main_call0_cst_4 : Ref sig .tc := ⟨.hbm, 52, rfl⟩
abbrev main_call0_call0_v0 : Ref sig .tc := ⟨.hbm, 53, rfl⟩
abbrev main_call0_call0_v1 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_cst_1 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_c_2 : Ref sig .tc := ⟨.hbm, 71, rfl⟩
abbrev main_v25 : Ref sig .tc := ⟨.hbm, 72, rfl⟩
abbrev main_v26 : Ref sig .tc := ⟨.hbm, 73, rfl⟩
abbrev main_c_3 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_v8 : Ref sig .tc := ⟨.hbm, 83, rfl⟩
abbrev main_call1_c : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_call1_c_0 : Ref sig .tc := ⟨.hbm, 88, rfl⟩
abbrev main_call1_v12 : Ref sig .tc := ⟨.hbm, 89, rfl⟩
abbrev main_call1_v13 : Ref sig .tc := ⟨.hbm, 90, rfl⟩
abbrev main_v27 : Ref sig .tc := ⟨.hbm, 91, rfl⟩
abbrev main_v28 : Ref sig .tc := ⟨.hbm, 92, rfl⟩
abbrev main_c_4 : Ref sig .tc := ⟨.hbm, 93, rfl⟩
abbrev main_v29 : Ref sig .tc := ⟨.hbm, 94, rfl⟩
abbrev main_v30 : Ref sig .tc := ⟨.hbm, 95, rfl⟩
abbrev main_c_5 : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_v5 : Ref sig .tc := ⟨.hbm, 102, rfl⟩
abbrev main_call2_v6 : Ref sig .tc := ⟨.hbm, 103, rfl⟩
abbrev main_call2_v7 : Ref sig .tc := ⟨.hbm, 104, rfl⟩
abbrev main_call2_v8 : Ref sig .tc := ⟨.hbm, 105, rfl⟩
abbrev main_call2_c : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_call2_c_0 : Ref sig .tc := ⟨.hbm, 110, rfl⟩
abbrev main_call2_v12 : Ref sig .tc := ⟨.hbm, 111, rfl⟩
abbrev main_call2_v13 : Ref sig .tc := ⟨.hbm, 112, rfl⟩
abbrev main_v31 : Ref sig .tc := ⟨.hbm, 113, rfl⟩
abbrev main_c_6 : Ref sig .tc := ⟨.hbm, 114, rfl⟩
abbrev main_v32 : Ref sig .tc := ⟨.hbm, 115, rfl⟩
abbrev main_v33 : Ref sig .tc := ⟨.hbm, 116, rfl⟩
abbrev main_c_7 : Ref sig .tc := ⟨.hbm, 117, rfl⟩
abbrev main_v34 : Ref sig .tc := ⟨.hbm, 118, rfl⟩
abbrev main_v35 : Ref sig .tc := ⟨.hbm, 119, rfl⟩
abbrev main_v36 : Ref sig .tc := ⟨.hbm, 120, rfl⟩
abbrev main_v37 : Ref sig .tc := ⟨.hbm, 121, rfl⟩
abbrev main_v38 : Ref sig .tc := ⟨.hbm, 122, rfl⟩
abbrev main_c_8 : Ref sig .tc := ⟨.hbm, 123, rfl⟩
abbrev main_v39 : Ref sig .tc := ⟨.hbm, 124, rfl⟩
abbrev main_v40 : Ref sig .tc := ⟨.hbm, 125, rfl⟩
abbrev main_c_9 : Ref sig .tc := ⟨.hbm, 126, rfl⟩
abbrev main_v41 : Ref sig .tc := ⟨.hbm, 127, rfl⟩
abbrev main_v42 : Ref sig .tc := ⟨.hbm, 128, rfl⟩
abbrev main_v43 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_c_10 : Ref sig .tc := ⟨.hbm, 133, rfl⟩
abbrev main_v47 : Ref sig .tc := ⟨.hbm, 134, rfl⟩
abbrev main_v48 : Ref sig .tc := ⟨.hbm, 135, rfl⟩
abbrev main_c_11 : Ref sig .tc := ⟨.hbm, 136, rfl⟩
abbrev main_call3_v0 : Ref sig .tc := ⟨.hbm, 137, rfl⟩
abbrev main_call3_v1 : Ref sig .tc := ⟨.hbm, 138, rfl⟩
abbrev main_call3_v2 : Ref sig .tc := ⟨.hbm, 139, rfl⟩
abbrev main_call3_v3 : Ref sig .tc := ⟨.hbm, 140, rfl⟩
abbrev main_call3_v4 : Ref sig .tc := ⟨.hbm, 141, rfl⟩
abbrev main_call3_v5 : Ref sig .tc := ⟨.hbm, 142, rfl⟩
abbrev main_call3_v6 : Ref sig .tc := ⟨.hbm, 143, rfl⟩
abbrev main_call3_v7 : Ref sig .tc := ⟨.hbm, 144, rfl⟩
abbrev main_call3_v8 : Ref sig .tc := ⟨.hbm, 145, rfl⟩
abbrev main_call3_c : Ref sig .tc := ⟨.hbm, 146, rfl⟩
abbrev main_call3_v9 : Ref sig .tc := ⟨.hbm, 147, rfl⟩
abbrev main_call3_v10 : Ref sig .tc := ⟨.hbm, 148, rfl⟩
abbrev main_call3_v11 : Ref sig .tc := ⟨.hbm, 149, rfl⟩
abbrev main_call3_c_0 : Ref sig .tc := ⟨.hbm, 150, rfl⟩
abbrev main_call3_v12 : Ref sig .tc := ⟨.hbm, 151, rfl⟩
abbrev main_call3_v13 : Ref sig .tc := ⟨.hbm, 152, rfl⟩
abbrev main_v49 : Ref sig .tc := ⟨.hbm, 153, rfl⟩
abbrev main_v50 : Ref sig .tc := ⟨.hbm, 154, rfl⟩
abbrev main_c_12 : Ref sig .tc := ⟨.hbm, 155, rfl⟩
abbrev main_v51 : Ref sig .tc := ⟨.hbm, 156, rfl⟩
abbrev main_v52 : Ref sig .tc := ⟨.hbm, 157, rfl⟩
abbrev main_c_13 : Ref sig .tc := ⟨.hbm, 158, rfl⟩
abbrev main_call4_v0 : Ref sig .tc := ⟨.hbm, 159, rfl⟩
abbrev main_call4_v1 : Ref sig .tc := ⟨.hbm, 160, rfl⟩
abbrev main_call4_v2 : Ref sig .tc := ⟨.hbm, 161, rfl⟩
abbrev main_call4_v3 : Ref sig .tc := ⟨.hbm, 162, rfl⟩
abbrev main_call4_v4 : Ref sig .tc := ⟨.hbm, 163, rfl⟩
abbrev main_call4_v5 : Ref sig .tc := ⟨.hbm, 164, rfl⟩
abbrev main_call4_v6 : Ref sig .tc := ⟨.hbm, 165, rfl⟩
abbrev main_call4_v7 : Ref sig .tc := ⟨.hbm, 166, rfl⟩
abbrev main_call4_v8 : Ref sig .tc := ⟨.hbm, 167, rfl⟩
abbrev main_call4_c : Ref sig .tc := ⟨.hbm, 168, rfl⟩
abbrev main_call4_v9 : Ref sig .tc := ⟨.hbm, 169, rfl⟩
abbrev main_call4_v10 : Ref sig .tc := ⟨.hbm, 170, rfl⟩
abbrev main_call4_v11 : Ref sig .tc := ⟨.hbm, 171, rfl⟩
abbrev main_call4_c_0 : Ref sig .tc := ⟨.hbm, 172, rfl⟩
abbrev main_call4_v12 : Ref sig .tc := ⟨.hbm, 173, rfl⟩
abbrev main_call4_v13 : Ref sig .tc := ⟨.hbm, 174, rfl⟩
abbrev main_v53 : Ref sig .tc := ⟨.hbm, 175, rfl⟩
abbrev main_c_14 : Ref sig .tc := ⟨.hbm, 176, rfl⟩
abbrev main_v54 : Ref sig .tc := ⟨.hbm, 177, rfl⟩
abbrev main_v55 : Ref sig .tc := ⟨.hbm, 178, rfl⟩
abbrev main_c_15 : Ref sig .tc := ⟨.hbm, 179, rfl⟩
abbrev main_v56 : Ref sig .tc := ⟨.hbm, 180, rfl⟩
abbrev main_v57 : Ref sig .tc := ⟨.hbm, 181, rfl⟩
abbrev main_v58 : Ref sig .tc := ⟨.hbm, 182, rfl⟩
abbrev main_v59 : Ref sig .tc := ⟨.hbm, 183, rfl⟩
abbrev main_v60 : Ref sig .tc := ⟨.hbm, 184, rfl⟩
abbrev main_c_16 : Ref sig .tc := ⟨.hbm, 185, rfl⟩
abbrev main_v61 : Ref sig .tc := ⟨.hbm, 186, rfl⟩
abbrev main_v62 : Ref sig .tc := ⟨.hbm, 187, rfl⟩
abbrev main_c_17 : Ref sig .tc := ⟨.hbm, 188, rfl⟩
abbrev main_v63 : Ref sig .tc := ⟨.hbm, 189, rfl⟩
abbrev main_v64 : Ref sig .tc := ⟨.hbm, 190, rfl⟩
abbrev main_v65 : Ref sig .tc := ⟨.hbm, 191, rfl⟩
abbrev main_v66 : Ref sig .tc := ⟨.hbm, 192, rfl⟩
abbrev main_v67 : Ref sig .tc := ⟨.hbm, 193, rfl⟩
abbrev main_cst_18 : Ref sig .tc := ⟨.hbm, 194, rfl⟩
abbrev main_v68 : Ref sig .tc := ⟨.hbm, 195, rfl⟩
abbrev main_v69 : Ref sig .tc := ⟨.hbm, 196, rfl⟩
abbrev main_cst_19 : Ref sig .tc := ⟨.hbm, 197, rfl⟩
abbrev main_v70 : Ref sig .tc := ⟨.hbm, 198, rfl⟩
abbrev main_v71 : Ref sig .tc := ⟨.hbm, 199, rfl⟩
abbrev main_v72 : Ref sig .tc := ⟨.hbm, 200, rfl⟩
abbrev main_v73 : Ref sig .tc := ⟨.hbm, 201, rfl⟩
abbrev main_v74 : Ref sig .tc := ⟨.hbm, 202, rfl⟩
abbrev main_v75 : Ref sig .tc := ⟨.hbm, 203, rfl⟩
abbrev main_v76 : Ref sig .tc := ⟨.hbm, 204, rfl⟩
abbrev main_call5_v0 : Ref sig .tc := ⟨.hbm, 205, rfl⟩
abbrev main_call5_v1 : Ref sig .tc := ⟨.hbm, 206, rfl⟩
abbrev main_v77 : Ref sig .tc := ⟨.hbm, 207, rfl⟩
abbrev main_v78 : Ref sig .tc := ⟨.hbm, 208, rfl⟩
abbrev main_v79 : Ref sig .tc := ⟨.hbm, 209, rfl⟩
abbrev main_v80 : Ref sig .tc := ⟨.hbm, 210, rfl⟩
abbrev main_v81 : Ref sig .tc := ⟨.hbm, 211, rfl⟩
abbrev main_v82 : Ref sig .tc := ⟨.hbm, 212, rfl⟩
abbrev main_v83 : Ref sig .tc := ⟨.hbm, 213, rfl⟩
abbrev main_call6_v0 : Ref sig .tc := ⟨.hbm, 214, rfl⟩
abbrev main_call6_v1 : Ref sig .tc := ⟨.hbm, 215, rfl⟩
abbrev main_v84 : Ref sig .tc := ⟨.hbm, 216, rfl⟩
abbrev main_v85 : Ref sig .tc := ⟨.hbm, 217, rfl⟩
abbrev main_v86 : Ref sig .tc := ⟨.hbm, 218, rfl⟩
abbrev main_v87 : Ref sig .tc := ⟨.hbm, 219, rfl⟩
abbrev main_v88 : Ref sig .tc := ⟨.hbm, 220, rfl⟩
abbrev main_v89 : Ref sig .tc := ⟨.hbm, 221, rfl⟩
abbrev main_v90 : Ref sig .tc := ⟨.hbm, 222, rfl⟩
abbrev main_call7_v0 : Ref sig .tc := ⟨.hbm, 223, rfl⟩
abbrev main_call7_v1 : Ref sig .tc := ⟨.hbm, 224, rfl⟩
abbrev main_v91 : Ref sig .tc := ⟨.hbm, 225, rfl⟩
abbrev main_v92 : Ref sig .tc := ⟨.hbm, 226, rfl⟩
abbrev main_v93 : Ref sig .tc := ⟨.hbm, 227, rfl⟩
abbrev main_v94 : Ref sig .tc := ⟨.hbm, 228, rfl⟩
abbrev main_v95 : Ref sig .tc := ⟨.hbm, 229, rfl⟩
abbrev main_v96 : Ref sig .tc := ⟨.hbm, 230, rfl⟩
abbrev main_v97 : Ref sig .tc := ⟨.hbm, 231, rfl⟩
abbrev main_call8_v0 : Ref sig .tc := ⟨.hbm, 232, rfl⟩
abbrev main_call8_v1 : Ref sig .tc := ⟨.hbm, 233, rfl⟩
abbrev main_v98 : Ref sig .tc := ⟨.hbm, 234, rfl⟩
abbrev main_v99 : Ref sig .tc := ⟨.hbm, 235, rfl⟩
abbrev main_v100 : Ref sig .tc := ⟨.hbm, 236, rfl⟩
abbrev main_v101 : Ref sig .tc := ⟨.hbm, 237, rfl⟩
abbrev main_v102 : Ref sig .tc := ⟨.hbm, 238, rfl⟩
abbrev main_v103 : Ref sig .tc := ⟨.hbm, 239, rfl⟩
abbrev main_v104 : Ref sig .tc := ⟨.hbm, 240, rfl⟩
abbrev main_call9_v0 : Ref sig .tc := ⟨.hbm, 241, rfl⟩
abbrev main_call9_v1 : Ref sig .tc := ⟨.hbm, 242, rfl⟩
abbrev main_v105 : Ref sig .tc := ⟨.hbm, 243, rfl⟩
abbrev main_v106 : Ref sig .tc := ⟨.hbm, 244, rfl⟩
abbrev main_v107 : Ref sig .tc := ⟨.hbm, 245, rfl⟩
abbrev main_v108 : Ref sig .tc := ⟨.hbm, 246, rfl⟩
abbrev main_v109 : Ref sig .tc := ⟨.hbm, 247, rfl⟩
abbrev main_v110 : Ref sig .tc := ⟨.hbm, 248, rfl⟩
abbrev main_v111 : Ref sig .tc := ⟨.hbm, 249, rfl⟩
abbrev main_call10_v0 : Ref sig .tc := ⟨.hbm, 250, rfl⟩
abbrev main_call10_v1 : Ref sig .tc := ⟨.hbm, 251, rfl⟩
abbrev main_v112 : Ref sig .tc := ⟨.hbm, 252, rfl⟩
abbrev main_v113 : Ref sig .tc := ⟨.hbm, 253, rfl⟩
abbrev main_v114 : Ref sig .tc := ⟨.hbm, 254, rfl⟩
abbrev main_v115 : Ref sig .tc := ⟨.hbm, 255, rfl⟩
abbrev main_v116 : Ref sig .tc := ⟨.hbm, 256, rfl⟩
abbrev main_v117 : Ref sig .tc := ⟨.hbm, 257, rfl⟩
abbrev main_v118 : Ref sig .tc := ⟨.hbm, 258, rfl⟩
abbrev main_call11_v0 : Ref sig .tc := ⟨.hbm, 259, rfl⟩
abbrev main_call11_v1 : Ref sig .tc := ⟨.hbm, 260, rfl⟩
abbrev main_v119 : Ref sig .tc := ⟨.hbm, 261, rfl⟩
abbrev main_v120 : Ref sig .tc := ⟨.hbm, 262, rfl⟩
abbrev main_v121 : Ref sig .tc := ⟨.hbm, 263, rfl⟩
abbrev main_v122 : Ref sig .tc := ⟨.hbm, 264, rfl⟩
abbrev main_v123 : Ref sig .tc := ⟨.hbm, 265, rfl⟩
abbrev main_v124 : Ref sig .tc := ⟨.hbm, 266, rfl⟩
abbrev main_v125 : Ref sig .tc := ⟨.hbm, 267, rfl⟩
abbrev main_call12_v0 : Ref sig .tc := ⟨.hbm, 268, rfl⟩
abbrev main_call12_v1 : Ref sig .tc := ⟨.hbm, 269, rfl⟩
abbrev main_v126 : Ref sig .tc := ⟨.hbm, 270, rfl⟩
abbrev main_v127 : Ref sig .tc := ⟨.hbm, 271, rfl⟩
abbrev main_v128 : Ref sig .tc := ⟨.hbm, 272, rfl⟩
abbrev main_v129 : Ref sig .tc := ⟨.hbm, 273, rfl⟩
abbrev main_v130 : Ref sig .tc := ⟨.hbm, 274, rfl⟩
abbrev main_v131 : Ref sig .tc := ⟨.hbm, 275, rfl⟩
abbrev main_v132 : Ref sig .tc := ⟨.hbm, 276, rfl⟩
abbrev main_call13_v0 : Ref sig .tc := ⟨.hbm, 277, rfl⟩
abbrev main_call13_v1 : Ref sig .tc := ⟨.hbm, 278, rfl⟩
abbrev main_v133 : Ref sig .tc := ⟨.hbm, 279, rfl⟩
abbrev main_v134 : Ref sig .tc := ⟨.hbm, 280, rfl⟩
abbrev main_v135 : Ref sig .tc := ⟨.hbm, 281, rfl⟩
abbrev main_v136 : Ref sig .tc := ⟨.hbm, 282, rfl⟩
abbrev main_v137 : Ref sig .tc := ⟨.hbm, 283, rfl⟩
abbrev main_v138 : Ref sig .tc := ⟨.hbm, 284, rfl⟩
abbrev main_v139 : Ref sig .tc := ⟨.hbm, 285, rfl⟩
abbrev main_call14_v0 : Ref sig .tc := ⟨.hbm, 286, rfl⟩
abbrev main_call14_v1 : Ref sig .tc := ⟨.hbm, 287, rfl⟩
abbrev main_v140 : Ref sig .tc := ⟨.hbm, 288, rfl⟩
abbrev main_v141 : Ref sig .tc := ⟨.hbm, 289, rfl⟩
abbrev main_v142 : Ref sig .tc := ⟨.hbm, 290, rfl⟩
abbrev main_v143 : Ref sig .tc := ⟨.hbm, 291, rfl⟩
abbrev main_v144 : Ref sig .tc := ⟨.hbm, 292, rfl⟩
abbrev main_v145 : Ref sig .tc := ⟨.hbm, 293, rfl⟩
abbrev main_v146 : Ref sig .tc := ⟨.hbm, 294, rfl⟩
abbrev main_call15_v0 : Ref sig .tc := ⟨.hbm, 295, rfl⟩
abbrev main_call15_v1 : Ref sig .tc := ⟨.hbm, 296, rfl⟩
abbrev main_v147 : Ref sig .tc := ⟨.hbm, 297, rfl⟩
abbrev main_v148 : Ref sig .tc := ⟨.hbm, 298, rfl⟩
abbrev main_v149 : Ref sig .tc := ⟨.hbm, 299, rfl⟩
abbrev main_v150 : Ref sig .tc := ⟨.hbm, 300, rfl⟩
abbrev main_v151 : Ref sig .tc := ⟨.hbm, 301, rfl⟩
abbrev main_v152 : Ref sig .tc := ⟨.hbm, 302, rfl⟩
abbrev main_v153 : Ref sig .tc := ⟨.hbm, 303, rfl⟩
abbrev main_call16_v0 : Ref sig .tc := ⟨.hbm, 304, rfl⟩
abbrev main_call16_v1 : Ref sig .tc := ⟨.hbm, 305, rfl⟩
abbrev main_v154 : Ref sig .tc := ⟨.hbm, 306, rfl⟩
abbrev main_v155 : Ref sig .tc := ⟨.hbm, 307, rfl⟩
abbrev main_v156 : Ref sig .tc := ⟨.hbm, 308, rfl⟩
abbrev main_v157 : Ref sig .tc := ⟨.hbm, 309, rfl⟩
abbrev main_v158 : Ref sig .tc := ⟨.hbm, 310, rfl⟩
abbrev main_v159 : Ref sig .tc := ⟨.hbm, 311, rfl⟩
abbrev main_v160 : Ref sig .tc := ⟨.hbm, 312, rfl⟩
abbrev main_call17_v0 : Ref sig .tc := ⟨.hbm, 313, rfl⟩
abbrev main_call17_v1 : Ref sig .tc := ⟨.hbm, 314, rfl⟩
abbrev main_v161 : Ref sig .tc := ⟨.hbm, 315, rfl⟩
abbrev main_v162 : Ref sig .tc := ⟨.hbm, 316, rfl⟩
abbrev main_v163 : Ref sig .tc := ⟨.hbm, 317, rfl⟩
abbrev main_v164 : Ref sig .tc := ⟨.hbm, 318, rfl⟩
abbrev main_v165 : Ref sig .tc := ⟨.hbm, 319, rfl⟩
abbrev main_v166 : Ref sig .tc := ⟨.hbm, 320, rfl⟩
abbrev main_v167 : Ref sig .tc := ⟨.hbm, 321, rfl⟩
abbrev main_call18_v0 : Ref sig .tc := ⟨.hbm, 322, rfl⟩
abbrev main_call18_v1 : Ref sig .tc := ⟨.hbm, 323, rfl⟩
abbrev main_v168 : Ref sig .tc := ⟨.hbm, 324, rfl⟩
abbrev main_v169 : Ref sig .tc := ⟨.hbm, 325, rfl⟩
abbrev main_v170 : Ref sig .tc := ⟨.hbm, 326, rfl⟩
abbrev main_v171 : Ref sig .tc := ⟨.hbm, 327, rfl⟩
abbrev main_v172 : Ref sig .tc := ⟨.hbm, 328, rfl⟩
abbrev main_v173 : Ref sig .tc := ⟨.hbm, 329, rfl⟩
abbrev main_v174 : Ref sig .tc := ⟨.hbm, 330, rfl⟩
abbrev main_call19_v0 : Ref sig .tc := ⟨.hbm, 331, rfl⟩
abbrev main_call19_v1 : Ref sig .tc := ⟨.hbm, 332, rfl⟩
abbrev main_v175 : Ref sig .tc := ⟨.hbm, 333, rfl⟩
abbrev main_v176 : Ref sig .tc := ⟨.hbm, 334, rfl⟩
abbrev main_v177 : Ref sig .tc := ⟨.hbm, 335, rfl⟩
abbrev main_v178 : Ref sig .tc := ⟨.hbm, 336, rfl⟩
abbrev main_v179 : Ref sig .tc := ⟨.hbm, 337, rfl⟩
abbrev main_v180 : Ref sig .tc := ⟨.hbm, 338, rfl⟩
abbrev main_v181 : Ref sig .tc := ⟨.hbm, 339, rfl⟩
abbrev main_call20_v0 : Ref sig .tc := ⟨.hbm, 340, rfl⟩
abbrev main_call20_v1 : Ref sig .tc := ⟨.hbm, 341, rfl⟩
abbrev main_v182 : Ref sig .tc := ⟨.hbm, 342, rfl⟩
abbrev main_v183 : Ref sig .tc := ⟨.hbm, 343, rfl⟩
abbrev main_v184 : Ref sig .tc := ⟨.hbm, 344, rfl⟩
abbrev main_v185 : Ref sig .tc := ⟨.hbm, 345, rfl⟩
abbrev main_v186 : Ref sig .tc := ⟨.hbm, 346, rfl⟩
abbrev main_v187 : Ref sig .tc := ⟨.hbm, 347, rfl⟩
abbrev main_v188 : Ref sig .tc := ⟨.hbm, 348, rfl⟩
abbrev main_call21_v0 : Ref sig .tc := ⟨.hbm, 349, rfl⟩
abbrev main_call21_v1 : Ref sig .tc := ⟨.hbm, 350, rfl⟩
abbrev main_v189 : Ref sig .tc := ⟨.hbm, 351, rfl⟩
abbrev main_v190 : Ref sig .tc := ⟨.hbm, 352, rfl⟩
abbrev main_v191 : Ref sig .tc := ⟨.hbm, 353, rfl⟩
abbrev main_v192 : Ref sig .tc := ⟨.hbm, 354, rfl⟩
abbrev main_v193 : Ref sig .tc := ⟨.hbm, 355, rfl⟩
abbrev main_v194 : Ref sig .tc := ⟨.hbm, 356, rfl⟩
abbrev main_v195 : Ref sig .tc := ⟨.hbm, 357, rfl⟩
abbrev main_call22_v0 : Ref sig .tc := ⟨.hbm, 358, rfl⟩
abbrev main_call22_v1 : Ref sig .tc := ⟨.hbm, 359, rfl⟩
abbrev main_v196 : Ref sig .tc := ⟨.hbm, 360, rfl⟩
abbrev main_v197 : Ref sig .tc := ⟨.hbm, 361, rfl⟩
abbrev main_v198 : Ref sig .tc := ⟨.hbm, 362, rfl⟩
abbrev main_v199 : Ref sig .tc := ⟨.hbm, 363, rfl⟩
abbrev main_v200 : Ref sig .tc := ⟨.hbm, 364, rfl⟩
abbrev main_v201 : Ref sig .tc := ⟨.hbm, 365, rfl⟩
abbrev main_v202 : Ref sig .tc := ⟨.hbm, 366, rfl⟩
abbrev main_call23_v0 : Ref sig .tc := ⟨.hbm, 367, rfl⟩
abbrev main_call23_v1 : Ref sig .tc := ⟨.hbm, 368, rfl⟩
abbrev main_v203 : Ref sig .tc := ⟨.hbm, 369, rfl⟩
abbrev main_c_20 : Ref sig .tc := ⟨.hbm, 370, rfl⟩
abbrev main_call24_v0 : Ref sig .tc := ⟨.hbm, 371, rfl⟩
abbrev main_v204 : Ref sig .tc := ⟨.hbm, 372, rfl⟩
abbrev main_cst_21 : Ref sig .tc := ⟨.hbm, 373, rfl⟩
abbrev main_v205 : Ref sig .tc := ⟨.hbm, 374, rfl⟩
abbrev main_v206 : Ref sig .tc := ⟨.hbm, 375, rfl⟩
abbrev main_v207 : Ref sig .tc := ⟨.hbm, 376, rfl⟩
abbrev main_v208 : Ref sig .tc := ⟨.hbm, 377, rfl⟩
abbrev main_v209 : Ref sig .tc := ⟨.hbm, 378, rfl⟩
abbrev main_v210 : Ref sig .tc := ⟨.hbm, 379, rfl⟩
abbrev main_v211 : Ref sig .tc := ⟨.hbm, 380, rfl⟩
abbrev main_v212 : Ref sig .tc := ⟨.hbm, 381, rfl⟩
abbrev main_v213 : Ref sig .tc := ⟨.hbm, 382, rfl⟩
abbrev main_v214 : Ref sig .tc := ⟨.hbm, 383, rfl⟩
abbrev main_v215 : Ref sig .tc := ⟨.hbm, 384, rfl⟩
abbrev main_v216 : Ref sig .tc := ⟨.hbm, 385, rfl⟩
abbrev main_v217 : Ref sig .tc := ⟨.hbm, 386, rfl⟩
abbrev main_v218 : Ref sig .tc := ⟨.hbm, 387, rfl⟩
abbrev main_v219 : Ref sig .tc := ⟨.hbm, 388, rfl⟩
abbrev main_v220 : Ref sig .tc := ⟨.hbm, 389, rfl⟩
abbrev main_v221 : Ref sig .tc := ⟨.hbm, 390, rfl⟩
abbrev main_v222 : Ref sig .tc := ⟨.hbm, 391, rfl⟩
abbrev main_v223 : Ref sig .tc := ⟨.hbm, 392, rfl⟩
abbrev main_v224 : Ref sig .tc := ⟨.hbm, 393, rfl⟩
abbrev main_v225 : Ref sig .tc := ⟨.hbm, 394, rfl⟩
abbrev main_v226 : Ref sig .tc := ⟨.hbm, 395, rfl⟩
abbrev main_v227 : Ref sig .tc := ⟨.hbm, 396, rfl⟩
abbrev main_v228 : Ref sig .tc := ⟨.hbm, 397, rfl⟩
abbrev main_v229 : Ref sig .tc := ⟨.hbm, 398, rfl⟩
abbrev main_v230 : Ref sig .tc := ⟨.hbm, 399, rfl⟩
abbrev main_v231 : Ref sig .tc := ⟨.hbm, 400, rfl⟩
abbrev main_v232 : Ref sig .tc := ⟨.hbm, 401, rfl⟩
abbrev main_v233 : Ref sig .tc := ⟨.hbm, 402, rfl⟩
abbrev main_v234 : Ref sig .tc := ⟨.hbm, 403, rfl⟩
abbrev main_v235 : Ref sig .tc := ⟨.hbm, 404, rfl⟩
abbrev main_v236 : Ref sig .tc := ⟨.hbm, 405, rfl⟩
abbrev main_v237 : Ref sig .tc := ⟨.hbm, 406, rfl⟩
abbrev main_v238 : Ref sig .tc := ⟨.hbm, 407, rfl⟩
abbrev main_v239 : Ref sig .tc := ⟨.hbm, 408, rfl⟩
abbrev main_v240 : Ref sig .tc := ⟨.hbm, 409, rfl⟩
abbrev main_v241 : Ref sig .tc := ⟨.hbm, 410, rfl⟩
abbrev main_v242 : Ref sig .tc := ⟨.hbm, 411, rfl⟩
abbrev main_v243 : Ref sig .tc := ⟨.hbm, 412, rfl⟩
abbrev main_v244 : Ref sig .tc := ⟨.hbm, 413, rfl⟩
abbrev main_v245 : Ref sig .tc := ⟨.hbm, 414, rfl⟩
abbrev main_v246 : Ref sig .tc := ⟨.hbm, 415, rfl⟩
abbrev main_v247 : Ref sig .tc := ⟨.hbm, 416, rfl⟩
abbrev main_v248 : Ref sig .tc := ⟨.hbm, 417, rfl⟩
abbrev main_v249 : Ref sig .tc := ⟨.hbm, 418, rfl⟩
abbrev main_v250 : Ref sig .tc := ⟨.hbm, 419, rfl⟩
abbrev main_v251 : Ref sig .tc := ⟨.hbm, 420, rfl⟩
abbrev main_v252 : Ref sig .tc := ⟨.hbm, 421, rfl⟩
abbrev main_v253 : Ref sig .tc := ⟨.hbm, 422, rfl⟩
abbrev main_v254 : Ref sig .tc := ⟨.hbm, 423, rfl⟩
abbrev main_v255 : Ref sig .tc := ⟨.hbm, 424, rfl⟩
abbrev main_v256 : Ref sig .tc := ⟨.hbm, 425, rfl⟩
abbrev main_v257 : Ref sig .tc := ⟨.hbm, 426, rfl⟩
abbrev main_v258 : Ref sig .tc := ⟨.hbm, 427, rfl⟩
abbrev main_v259 : Ref sig .tc := ⟨.hbm, 428, rfl⟩
abbrev main_v260 : Ref sig .tc := ⟨.hbm, 429, rfl⟩
abbrev main_v261 : Ref sig .tc := ⟨.hbm, 430, rfl⟩
abbrev main_v262 : Ref sig .tc := ⟨.hbm, 431, rfl⟩
abbrev main_c_22 : Ref sig .tc := ⟨.hbm, 432, rfl⟩
abbrev main_call25_v0 : Ref sig .tc := ⟨.hbm, 433, rfl⟩
abbrev main_v263 : Ref sig .tc := ⟨.hbm, 434, rfl⟩
abbrev main_cst_23 : Ref sig .tc := ⟨.hbm, 435, rfl⟩
abbrev main_v264 : Ref sig .tc := ⟨.hbm, 436, rfl⟩
abbrev main_v265 : Ref sig .tc := ⟨.hbm, 437, rfl⟩
abbrev main_v266 : Ref sig .tc := ⟨.hbm, 438, rfl⟩
abbrev main_v267 : Ref sig .tc := ⟨.hbm, 439, rfl⟩
abbrev main_v268 : Ref sig .tc := ⟨.hbm, 440, rfl⟩
abbrev main_v269 : Ref sig .tc := ⟨.hbm, 441, rfl⟩
abbrev main_v270 : Ref sig .tc := ⟨.hbm, 442, rfl⟩
abbrev main_v271 : Ref sig .tc := ⟨.hbm, 443, rfl⟩
abbrev main_v272 : Ref sig .tc := ⟨.hbm, 444, rfl⟩
abbrev main_v273 : Ref sig .tc := ⟨.hbm, 445, rfl⟩
abbrev main_v274 : Ref sig .tc := ⟨.hbm, 446, rfl⟩
abbrev main_v275 : Ref sig .tc := ⟨.hbm, 447, rfl⟩
abbrev main_v276 : Ref sig .tc := ⟨.hbm, 448, rfl⟩
abbrev main_v277 : Ref sig .tc := ⟨.hbm, 449, rfl⟩
abbrev main_v278 : Ref sig .tc := ⟨.hbm, 450, rfl⟩
abbrev main_v279 : Ref sig .tc := ⟨.hbm, 451, rfl⟩
abbrev main_v280 : Ref sig .tc := ⟨.hbm, 452, rfl⟩
abbrev main_v281 : Ref sig .tc := ⟨.hbm, 453, rfl⟩
abbrev main_v282 : Ref sig .tc := ⟨.hbm, 454, rfl⟩
abbrev main_v283 : Ref sig .tc := ⟨.hbm, 455, rfl⟩
abbrev main_v284 : Ref sig .tc := ⟨.hbm, 456, rfl⟩
abbrev main_v285 : Ref sig .tc := ⟨.hbm, 457, rfl⟩
abbrev main_v286 : Ref sig .tc := ⟨.hbm, 458, rfl⟩
abbrev main_v287 : Ref sig .tc := ⟨.hbm, 459, rfl⟩
abbrev main_v288 : Ref sig .tc := ⟨.hbm, 460, rfl⟩
abbrev main_v289 : Ref sig .tc := ⟨.hbm, 461, rfl⟩
abbrev main_v290 : Ref sig .tc := ⟨.hbm, 462, rfl⟩
abbrev main_v291 : Ref sig .tc := ⟨.hbm, 463, rfl⟩
abbrev main_v292 : Ref sig .tc := ⟨.hbm, 464, rfl⟩
abbrev main_v293 : Ref sig .tc := ⟨.hbm, 465, rfl⟩
abbrev main_v294 : Ref sig .tc := ⟨.hbm, 466, rfl⟩
abbrev main_v295 : Ref sig .tc := ⟨.hbm, 467, rfl⟩
abbrev main_v296 : Ref sig .tc := ⟨.hbm, 468, rfl⟩
abbrev main_v297 : Ref sig .tc := ⟨.hbm, 469, rfl⟩
abbrev main_v298 : Ref sig .tc := ⟨.hbm, 470, rfl⟩
abbrev main_v299 : Ref sig .tc := ⟨.hbm, 471, rfl⟩
abbrev main_v300 : Ref sig .tc := ⟨.hbm, 472, rfl⟩
abbrev main_v301 : Ref sig .tc := ⟨.hbm, 473, rfl⟩
abbrev main_v302 : Ref sig .tc := ⟨.hbm, 474, rfl⟩
abbrev main_v303 : Ref sig .tc := ⟨.hbm, 475, rfl⟩
abbrev main_v304 : Ref sig .tc := ⟨.hbm, 476, rfl⟩
abbrev main_v305 : Ref sig .tc := ⟨.hbm, 477, rfl⟩
abbrev main_v306 : Ref sig .tc := ⟨.hbm, 478, rfl⟩
abbrev main_v307 : Ref sig .tc := ⟨.hbm, 479, rfl⟩
abbrev main_v308 : Ref sig .tc := ⟨.hbm, 480, rfl⟩
abbrev main_v309 : Ref sig .tc := ⟨.hbm, 481, rfl⟩
abbrev main_v310 : Ref sig .tc := ⟨.hbm, 482, rfl⟩
abbrev main_v311 : Ref sig .tc := ⟨.hbm, 483, rfl⟩
abbrev main_v312 : Ref sig .tc := ⟨.hbm, 484, rfl⟩
abbrev main_v313 : Ref sig .tc := ⟨.hbm, 485, rfl⟩
abbrev main_v314 : Ref sig .tc := ⟨.hbm, 486, rfl⟩
abbrev main_v315 : Ref sig .tc := ⟨.hbm, 487, rfl⟩
abbrev main_v316 : Ref sig .tc := ⟨.hbm, 488, rfl⟩
abbrev main_v317 : Ref sig .tc := ⟨.hbm, 489, rfl⟩
abbrev main_v318 : Ref sig .tc := ⟨.hbm, 490, rfl⟩
abbrev main_v319 : Ref sig .tc := ⟨.hbm, 491, rfl⟩
abbrev main_v320 : Ref sig .tc := ⟨.hbm, 492, rfl⟩
abbrev main_v321 : Ref sig .tc := ⟨.hbm, 493, rfl⟩
abbrev main_c_24 : Ref sig .tc := ⟨.hbm, 494, rfl⟩
abbrev main_call26_v0 : Ref sig .tc := ⟨.hbm, 495, rfl⟩
abbrev main_v322 : Ref sig .tc := ⟨.hbm, 496, rfl⟩
abbrev main_cst_25 : Ref sig .tc := ⟨.hbm, 497, rfl⟩
abbrev main_v323 : Ref sig .tc := ⟨.hbm, 498, rfl⟩
abbrev main_v324 : Ref sig .tc := ⟨.hbm, 499, rfl⟩
abbrev main_v325 : Ref sig .tc := ⟨.hbm, 500, rfl⟩
abbrev main_v326 : Ref sig .tc := ⟨.hbm, 501, rfl⟩
abbrev main_v327 : Ref sig .tc := ⟨.hbm, 502, rfl⟩
abbrev main_v328 : Ref sig .tc := ⟨.hbm, 503, rfl⟩
abbrev main_v329 : Ref sig .tc := ⟨.hbm, 504, rfl⟩
abbrev main_v330 : Ref sig .tc := ⟨.hbm, 505, rfl⟩
abbrev main_v331 : Ref sig .tc := ⟨.hbm, 506, rfl⟩
abbrev main_v332 : Ref sig .tc := ⟨.hbm, 507, rfl⟩
abbrev main_v333 : Ref sig .tc := ⟨.hbm, 508, rfl⟩
abbrev main_v334 : Ref sig .tc := ⟨.hbm, 509, rfl⟩
abbrev main_v335 : Ref sig .tc := ⟨.hbm, 510, rfl⟩
abbrev main_v336 : Ref sig .tc := ⟨.hbm, 511, rfl⟩
abbrev main_v337 : Ref sig .tc := ⟨.hbm, 512, rfl⟩
abbrev main_v338 : Ref sig .tc := ⟨.hbm, 513, rfl⟩
abbrev main_v339 : Ref sig .tc := ⟨.hbm, 514, rfl⟩
abbrev main_v340 : Ref sig .tc := ⟨.hbm, 515, rfl⟩
abbrev main_v341 : Ref sig .tc := ⟨.hbm, 516, rfl⟩
abbrev main_v342 : Ref sig .tc := ⟨.hbm, 517, rfl⟩
abbrev main_v343 : Ref sig .tc := ⟨.hbm, 518, rfl⟩
abbrev main_v344 : Ref sig .tc := ⟨.hbm, 519, rfl⟩
abbrev main_v345 : Ref sig .tc := ⟨.hbm, 520, rfl⟩
abbrev main_v346 : Ref sig .tc := ⟨.hbm, 521, rfl⟩
abbrev main_v347 : Ref sig .tc := ⟨.hbm, 522, rfl⟩
abbrev main_v348 : Ref sig .tc := ⟨.hbm, 523, rfl⟩
abbrev main_v349 : Ref sig .tc := ⟨.hbm, 524, rfl⟩
abbrev main_v350 : Ref sig .tc := ⟨.hbm, 525, rfl⟩
abbrev main_v351 : Ref sig .tc := ⟨.hbm, 526, rfl⟩
abbrev main_v352 : Ref sig .tc := ⟨.hbm, 527, rfl⟩
abbrev main_v353 : Ref sig .tc := ⟨.hbm, 528, rfl⟩
abbrev main_v354 : Ref sig .tc := ⟨.hbm, 529, rfl⟩
abbrev main_v355 : Ref sig .tc := ⟨.hbm, 530, rfl⟩
abbrev main_v356 : Ref sig .tc := ⟨.hbm, 531, rfl⟩
abbrev main_v357 : Ref sig .tc := ⟨.hbm, 532, rfl⟩
abbrev main_v358 : Ref sig .tc := ⟨.hbm, 533, rfl⟩
abbrev main_v359 : Ref sig .tc := ⟨.hbm, 534, rfl⟩
abbrev main_v360 : Ref sig .tc := ⟨.hbm, 535, rfl⟩
abbrev main_v361 : Ref sig .tc := ⟨.hbm, 536, rfl⟩
abbrev main_v362 : Ref sig .tc := ⟨.hbm, 537, rfl⟩
abbrev main_v363 : Ref sig .tc := ⟨.hbm, 538, rfl⟩
abbrev main_v364 : Ref sig .tc := ⟨.hbm, 539, rfl⟩
abbrev main_v365 : Ref sig .tc := ⟨.hbm, 540, rfl⟩
abbrev main_v366 : Ref sig .tc := ⟨.hbm, 541, rfl⟩
abbrev main_v367 : Ref sig .tc := ⟨.hbm, 542, rfl⟩
abbrev main_v368 : Ref sig .tc := ⟨.hbm, 543, rfl⟩
abbrev main_v369 : Ref sig .tc := ⟨.hbm, 544, rfl⟩
abbrev main_v370 : Ref sig .tc := ⟨.hbm, 545, rfl⟩
abbrev main_v371 : Ref sig .tc := ⟨.hbm, 546, rfl⟩
abbrev main_v372 : Ref sig .tc := ⟨.hbm, 547, rfl⟩
abbrev main_v373 : Ref sig .tc := ⟨.hbm, 548, rfl⟩
abbrev main_v374 : Ref sig .tc := ⟨.hbm, 549, rfl⟩
abbrev main_v375 : Ref sig .tc := ⟨.hbm, 550, rfl⟩
abbrev main_v376 : Ref sig .tc := ⟨.hbm, 551, rfl⟩
abbrev main_v377 : Ref sig .tc := ⟨.hbm, 552, rfl⟩
abbrev main_v378 : Ref sig .tc := ⟨.hbm, 553, rfl⟩
abbrev main_v379 : Ref sig .tc := ⟨.hbm, 554, rfl⟩
abbrev main_v380 : Ref sig .tc := ⟨.hbm, 555, rfl⟩
abbrev main_cst_26 : Ref sig .tc := ⟨.hbm, 556, rfl⟩
abbrev main_v381 : Ref sig .tc := ⟨.hbm, 557, rfl⟩
abbrev main_v382 : Ref sig .tc := ⟨.hbm, 558, rfl⟩
abbrev main_cst_27 : Ref sig .tc := ⟨.hbm, 559, rfl⟩
abbrev main_v383 : Ref sig .tc := ⟨.hbm, 560, rfl⟩
abbrev main_v384 : Ref sig .tc := ⟨.hbm, 561, rfl⟩
abbrev main_v385 : Ref sig .tc := ⟨.hbm, 562, rfl⟩
abbrev main_c_28 : Ref sig .tc := ⟨.hbm, 563, rfl⟩
abbrev main_call28_v0 : Ref sig .tc := ⟨.hbm, 564, rfl⟩
abbrev main_v386 : Ref sig .tc := ⟨.hbm, 565, rfl⟩
abbrev main_cst_29 : Ref sig .tc := ⟨.hbm, 566, rfl⟩
abbrev main_v387 : Ref sig .tc := ⟨.hbm, 567, rfl⟩
abbrev main_v388 : Ref sig .tc := ⟨.hbm, 568, rfl⟩
abbrev main_v389 : Ref sig .tc := ⟨.hbm, 569, rfl⟩
abbrev main_v390 : Ref sig .tc := ⟨.hbm, 570, rfl⟩
abbrev main_v391 : Ref sig .tc := ⟨.hbm, 571, rfl⟩
abbrev main_v392 : Ref sig .tc := ⟨.hbm, 572, rfl⟩
abbrev main_v393 : Ref sig .tc := ⟨.hbm, 573, rfl⟩
abbrev main_v394 : Ref sig .tc := ⟨.hbm, 574, rfl⟩
abbrev main_v395 : Ref sig .tc := ⟨.hbm, 575, rfl⟩
abbrev main_v396 : Ref sig .tc := ⟨.hbm, 576, rfl⟩
abbrev main_v397 : Ref sig .tc := ⟨.hbm, 577, rfl⟩
abbrev main_v398 : Ref sig .tc := ⟨.hbm, 578, rfl⟩
abbrev main_v399 : Ref sig .tc := ⟨.hbm, 579, rfl⟩
abbrev main_v400 : Ref sig .tc := ⟨.hbm, 580, rfl⟩
abbrev main_v401 : Ref sig .tc := ⟨.hbm, 581, rfl⟩
abbrev main_v402 : Ref sig .tc := ⟨.hbm, 582, rfl⟩
abbrev main_v403 : Ref sig .tc := ⟨.hbm, 583, rfl⟩
abbrev main_v404 : Ref sig .tc := ⟨.hbm, 584, rfl⟩
abbrev main_v405 : Ref sig .tc := ⟨.hbm, 585, rfl⟩
abbrev main_v406 : Ref sig .tc := ⟨.hbm, 586, rfl⟩
abbrev main_v407 : Ref sig .tc := ⟨.hbm, 587, rfl⟩
abbrev main_v408 : Ref sig .tc := ⟨.hbm, 588, rfl⟩
abbrev main_v409 : Ref sig .tc := ⟨.hbm, 589, rfl⟩
abbrev main_v410 : Ref sig .tc := ⟨.hbm, 590, rfl⟩
abbrev main_v411 : Ref sig .tc := ⟨.hbm, 591, rfl⟩
abbrev main_v412 : Ref sig .tc := ⟨.hbm, 592, rfl⟩
abbrev main_v413 : Ref sig .tc := ⟨.hbm, 593, rfl⟩
abbrev main_v414 : Ref sig .tc := ⟨.hbm, 594, rfl⟩
abbrev main_v415 : Ref sig .tc := ⟨.hbm, 595, rfl⟩
abbrev main_v416 : Ref sig .tc := ⟨.hbm, 596, rfl⟩
abbrev main_v417 : Ref sig .tc := ⟨.hbm, 597, rfl⟩
abbrev main_v418 : Ref sig .tc := ⟨.hbm, 598, rfl⟩
abbrev main_v419 : Ref sig .tc := ⟨.hbm, 599, rfl⟩
abbrev main_v420 : Ref sig .tc := ⟨.hbm, 600, rfl⟩
abbrev main_v421 : Ref sig .tc := ⟨.hbm, 601, rfl⟩
abbrev main_v422 : Ref sig .tc := ⟨.hbm, 602, rfl⟩
abbrev main_v423 : Ref sig .tc := ⟨.hbm, 603, rfl⟩
abbrev main_v424 : Ref sig .tc := ⟨.hbm, 604, rfl⟩
abbrev main_v425 : Ref sig .tc := ⟨.hbm, 605, rfl⟩
abbrev main_v426 : Ref sig .tc := ⟨.hbm, 606, rfl⟩
abbrev main_v427 : Ref sig .tc := ⟨.hbm, 607, rfl⟩
abbrev main_v428 : Ref sig .tc := ⟨.hbm, 608, rfl⟩
abbrev main_v429 : Ref sig .tc := ⟨.hbm, 609, rfl⟩
abbrev main_v430 : Ref sig .tc := ⟨.hbm, 610, rfl⟩
abbrev main_v431 : Ref sig .tc := ⟨.hbm, 611, rfl⟩
abbrev main_v432 : Ref sig .tc := ⟨.hbm, 612, rfl⟩
abbrev main_v433 : Ref sig .tc := ⟨.hbm, 613, rfl⟩
abbrev main_v434 : Ref sig .tc := ⟨.hbm, 614, rfl⟩
abbrev main_v435 : Ref sig .tc := ⟨.hbm, 615, rfl⟩
abbrev main_v436 : Ref sig .tc := ⟨.hbm, 616, rfl⟩
abbrev main_v437 : Ref sig .tc := ⟨.hbm, 617, rfl⟩
abbrev main_v438 : Ref sig .tc := ⟨.hbm, 618, rfl⟩
abbrev main_v439 : Ref sig .tc := ⟨.hbm, 619, rfl⟩
abbrev main_v440 : Ref sig .tc := ⟨.hbm, 620, rfl⟩
abbrev main_v441 : Ref sig .tc := ⟨.hbm, 621, rfl⟩
abbrev main_v442 : Ref sig .tc := ⟨.hbm, 622, rfl⟩
abbrev main_v443 : Ref sig .tc := ⟨.hbm, 623, rfl⟩
abbrev main_v444 : Ref sig .tc := ⟨.hbm, 624, rfl⟩
abbrev main_c_30 : Ref sig .tc := ⟨.hbm, 625, rfl⟩
abbrev main_call29_v0 : Ref sig .tc := ⟨.hbm, 626, rfl⟩
abbrev main_v445 : Ref sig .tc := ⟨.hbm, 627, rfl⟩
abbrev main_cst_31 : Ref sig .tc := ⟨.hbm, 628, rfl⟩
abbrev main_v446 : Ref sig .tc := ⟨.hbm, 629, rfl⟩
abbrev main_v447 : Ref sig .tc := ⟨.hbm, 630, rfl⟩
abbrev main_v448 : Ref sig .tc := ⟨.hbm, 631, rfl⟩
abbrev main_v449 : Ref sig .tc := ⟨.hbm, 632, rfl⟩
abbrev main_v450 : Ref sig .tc := ⟨.hbm, 633, rfl⟩
abbrev main_v451 : Ref sig .tc := ⟨.hbm, 634, rfl⟩
abbrev main_v452 : Ref sig .tc := ⟨.hbm, 635, rfl⟩
abbrev main_v453 : Ref sig .tc := ⟨.hbm, 636, rfl⟩
abbrev main_v454 : Ref sig .tc := ⟨.hbm, 637, rfl⟩
abbrev main_v455 : Ref sig .tc := ⟨.hbm, 638, rfl⟩
abbrev main_v456 : Ref sig .tc := ⟨.hbm, 639, rfl⟩
abbrev main_v457 : Ref sig .tc := ⟨.hbm, 640, rfl⟩
abbrev main_v458 : Ref sig .tc := ⟨.hbm, 641, rfl⟩
abbrev main_v459 : Ref sig .tc := ⟨.hbm, 642, rfl⟩
abbrev main_v460 : Ref sig .tc := ⟨.hbm, 643, rfl⟩
abbrev main_v461 : Ref sig .tc := ⟨.hbm, 644, rfl⟩
abbrev main_v462 : Ref sig .tc := ⟨.hbm, 645, rfl⟩
abbrev main_v463 : Ref sig .tc := ⟨.hbm, 646, rfl⟩
abbrev main_v464 : Ref sig .tc := ⟨.hbm, 647, rfl⟩
abbrev main_v465 : Ref sig .tc := ⟨.hbm, 648, rfl⟩
abbrev main_v466 : Ref sig .tc := ⟨.hbm, 649, rfl⟩
abbrev main_v467 : Ref sig .tc := ⟨.hbm, 650, rfl⟩
abbrev main_v468 : Ref sig .tc := ⟨.hbm, 651, rfl⟩
abbrev main_v469 : Ref sig .tc := ⟨.hbm, 652, rfl⟩
abbrev main_v470 : Ref sig .tc := ⟨.hbm, 653, rfl⟩
abbrev main_v471 : Ref sig .tc := ⟨.hbm, 654, rfl⟩
abbrev main_v472 : Ref sig .tc := ⟨.hbm, 655, rfl⟩
abbrev main_v473 : Ref sig .tc := ⟨.hbm, 656, rfl⟩
abbrev main_v474 : Ref sig .tc := ⟨.hbm, 657, rfl⟩
abbrev main_v475 : Ref sig .tc := ⟨.hbm, 658, rfl⟩
abbrev main_v476 : Ref sig .tc := ⟨.hbm, 659, rfl⟩
abbrev main_v477 : Ref sig .tc := ⟨.hbm, 660, rfl⟩
abbrev main_v478 : Ref sig .tc := ⟨.hbm, 661, rfl⟩
abbrev main_v479 : Ref sig .tc := ⟨.hbm, 662, rfl⟩
abbrev main_v480 : Ref sig .tc := ⟨.hbm, 663, rfl⟩
abbrev main_v481 : Ref sig .tc := ⟨.hbm, 664, rfl⟩
abbrev main_v482 : Ref sig .tc := ⟨.hbm, 665, rfl⟩
abbrev main_v483 : Ref sig .tc := ⟨.hbm, 666, rfl⟩
abbrev main_v484 : Ref sig .tc := ⟨.hbm, 667, rfl⟩
abbrev main_v485 : Ref sig .tc := ⟨.hbm, 668, rfl⟩
abbrev main_v486 : Ref sig .tc := ⟨.hbm, 669, rfl⟩
abbrev main_v487 : Ref sig .tc := ⟨.hbm, 670, rfl⟩
abbrev main_v488 : Ref sig .tc := ⟨.hbm, 671, rfl⟩
abbrev main_v489 : Ref sig .tc := ⟨.hbm, 672, rfl⟩
abbrev main_v490 : Ref sig .tc := ⟨.hbm, 673, rfl⟩
abbrev main_v491 : Ref sig .tc := ⟨.hbm, 674, rfl⟩
abbrev main_v492 : Ref sig .tc := ⟨.hbm, 675, rfl⟩
abbrev main_v493 : Ref sig .tc := ⟨.hbm, 676, rfl⟩
abbrev main_v494 : Ref sig .tc := ⟨.hbm, 677, rfl⟩
abbrev main_v495 : Ref sig .tc := ⟨.hbm, 678, rfl⟩
abbrev main_v496 : Ref sig .tc := ⟨.hbm, 679, rfl⟩
abbrev main_v497 : Ref sig .tc := ⟨.hbm, 680, rfl⟩
abbrev main_v498 : Ref sig .tc := ⟨.hbm, 681, rfl⟩
abbrev main_v499 : Ref sig .tc := ⟨.hbm, 682, rfl⟩
abbrev main_v500 : Ref sig .tc := ⟨.hbm, 683, rfl⟩
abbrev main_v501 : Ref sig .tc := ⟨.hbm, 684, rfl⟩
abbrev main_v502 : Ref sig .tc := ⟨.hbm, 685, rfl⟩
abbrev main_v503 : Ref sig .tc := ⟨.hbm, 686, rfl⟩
abbrev main_v504 : Ref sig .tc := ⟨.hbm, 687, rfl⟩
abbrev main_v505 : Ref sig .tc := ⟨.hbm, 688, rfl⟩
abbrev main_cst_32 : Ref sig .tc := ⟨.hbm, 689, rfl⟩
abbrev main_v506 : Ref sig .tc := ⟨.hbm, 690, rfl⟩
abbrev main_v507 : Ref sig .tc := ⟨.hbm, 691, rfl⟩
abbrev main_cst_33 : Ref sig .tc := ⟨.hbm, 692, rfl⟩
abbrev main_v508 : Ref sig .tc := ⟨.hbm, 693, rfl⟩
abbrev main_v509 : Ref sig .tc := ⟨.hbm, 694, rfl⟩
abbrev main_v510 : Ref sig .tc := ⟨.hbm, 695, rfl⟩
abbrev main_v511 : Ref sig .tc := ⟨.hbm, 696, rfl⟩
abbrev main_cst_34 : Ref sig .tc := ⟨.hbm, 697, rfl⟩
abbrev main_v512 : Ref sig .tc := ⟨.hbm, 698, rfl⟩
abbrev main_v513 : Ref sig .tc := ⟨.hbm, 699, rfl⟩
abbrev main_cst_35 : Ref sig .tc := ⟨.hbm, 700, rfl⟩
abbrev main_v514 : Ref sig .tc := ⟨.hbm, 701, rfl⟩
abbrev main_v515 : Ref sig .tc := ⟨.hbm, 702, rfl⟩
abbrev main_v516 : Ref sig .tc := ⟨.hbm, 703, rfl⟩
abbrev main_v517 : Ref sig .tc := ⟨.hbm, 704, rfl⟩
abbrev main_v518 : Ref sig .tc := ⟨.hbm, 705, rfl⟩
abbrev main_cst_36 : Ref sig .tc := ⟨.hbm, 706, rfl⟩
abbrev main_v519 : Ref sig .tc := ⟨.hbm, 707, rfl⟩
abbrev main_v520 : Ref sig .tc := ⟨.hbm, 708, rfl⟩
abbrev main_v521 : Ref sig .tc := ⟨.hbm, 709, rfl⟩
abbrev main_v522 : Ref sig .tc := ⟨.hbm, 710, rfl⟩
abbrev main_v523 : Ref sig .tc := ⟨.hbm, 711, rfl⟩
abbrev main_v524 : Ref sig .tc := ⟨.hbm, 712, rfl⟩
abbrev main_v525 : Ref sig .tc := ⟨.hbm, 713, rfl⟩
abbrev main_v526 : Ref sig .tc := ⟨.hbm, 714, rfl⟩
abbrev main_v527 : Ref sig .tc := ⟨.hbm, 715, rfl⟩
abbrev main_cst_37 : Ref sig .tc := ⟨.hbm, 716, rfl⟩
abbrev main_v528 : Ref sig .tc := ⟨.hbm, 717, rfl⟩
abbrev main_v529 : Ref sig .tc := ⟨.hbm, 718, rfl⟩
abbrev main_v530 : Ref sig .tc := ⟨.hbm, 719, rfl⟩
abbrev main_v531 : Ref sig .tc := ⟨.hbm, 720, rfl⟩
abbrev main_v532 : Ref sig .tc := ⟨.hbm, 721, rfl⟩
abbrev main_v533 : Ref sig .tc := ⟨.hbm, 722, rfl⟩
abbrev main_cst_38 : Ref sig .tc := ⟨.hbm, 723, rfl⟩
abbrev main_v534 : Ref sig .tc := ⟨.hbm, 724, rfl⟩
abbrev main_v535 : Ref sig .tc := ⟨.hbm, 725, rfl⟩
abbrev main_v536 : Ref sig .tc := ⟨.hbm, 726, rfl⟩
abbrev main_v537 : Ref sig .tc := ⟨.hbm, 727, rfl⟩

abbrev nD : Nat := 1
abbrev τ : Topo := Topo.v7x

variable {F : FTy → Type} [FloatOps F]
-- ==== Proof.Body2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Main

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (put window)

variable {F : FTy → Type} [FloatOps F]

local notation "𝕄" => MT nD τ sig Unit (Elt F) ℕ (UR sig nD τ) ℕ

/-! ## A store of a part of a block of words, as a plain update -/

section Patch
variable {sig' : RefSig} {κ : Kind} {sp : Space} {s : Shape} {e : EltTy} {Val : EltTy → Type}

/-- Rewriting a box with its old contents patched by `u` at `st` is putting `u` alone at the box's offset plus `st`. -/
theorem read_patch (v : View sig' κ sp s e) (f : v.ty.Contents Val) (L : List (View.Piece Val s e)) {off size us st : Fin s.rank → ℕ}
    (inb : ∀ a, off a + size a ≤ s.size a) (old : (Rect.unit off size inb).shape.Idx → Val e)
    (hold : old = window (v.read Val (v.writes Val f L)) off size inb)
    (u : (⟨s.rank, us⟩ : Shape).Idx → Val e) (h : (Rect.unit off size inb).shape.Slices st ⟨s.rank, us⟩)
    (o : Fin s.rank → ℕ) (ho : o = fun a => off a + st a) :
    v.read Val (v.writes Val f (⟨Rect.unit off size inb, updateSlice (s := (Rect.unit off size inb).shape) (u := ⟨s.rank, us⟩) old u st h⟩ :: L))
      = put (v.read Val (v.writes Val f L)) o us u := by
  subst ho
  rw [View.read_writes_cons_put v f inb _ L rfl]
  subst hold
  have hs : ∀ a, st a + us a ≤ size a := h.2
  funext y
  unfold put
  by_cases hy : ∀ a, off a ≤ (y a).val ∧ (y a).val < off a + size a
  · rw [dif_pos hy]
    unfold updateSlice
    by_cases hu : ∀ a, off a + st a ≤ (y a).val ∧ (y a).val < off a + st a + us a
    · rw [dif_pos hu, dif_pos (fun a => by
        have := hu a
        show st a ≤ (y a).val - off a ∧ (y a).val - off a < st a + us a
        omega)]
      exact congrArg u (funext fun a => Fin.ext (by
        show (y a).val - off a - st a = (y a).val - (off a + st a)
        omega))
    · rw [dif_neg hu, dif_neg (fun hc => hu fun a => by
        have h1 := hc a
        have h2 := hy a
        have h1' : st a ≤ (y a).val - off a ∧ (y a).val - off a < st a + us a := h1
        omega)]
      exact congrArg (v.read Val (v.writes Val f L)) (funext fun a => Fin.ext (by
        show off a + 1 * ((y a).val - off a) = (y a).val
        have := hy a
        omega))
  · rw [dif_neg hy, dif_neg (fun hc => hy fun a => by
      have h1 : off a + st a ≤ (y a).val ∧ (y a).val < off a + st a + us a := hc a
      have := hs a
      omega)]

/-- A conclusion at one result from the same at an equal one. -/
theorem at_eq {M : Type} [URA M] {α : Type} {K : α → sProp M} {a b : α} (h : a = b) : K a ⊢ K b := h ▸ BI.Entails.refl _

end Patch

/-! ## What the scratches hold once filled -/

/-- The style rows with their halo, one zero column each side. -/
def rows19 (x : Vec F S34x226x64 .bf16) (i : grid2.Coords) (x2 : Vec F S1x1x224x64 .bf16) (x3 : Vec F S1x32x224x64 .bf16) : Vec F S34x226x64 .bf16 :=
  put (put (put (put x ![0, 0, 0] ![34, 1, 64] k2_pay2) ![0, 225, 0] ![34, 1, 64] k2_pay3)
    ![0, 1, 0] ![1, 224, 64] (k2_pay4 i (View.ld x2 (Rect.unit (s := S1x1x224x64) ![0, 0, 0, 0] S1x1x224x64.size inb_S1x1x224x64_S1x1x224x64_0_0_0_0)))) ![1, 1, 0] ![32, 224, 64] (k2_pay5 (View.ld x3 (Rect.unit (s := S1x32x224x64) ![0, 0, 0, 0] S1x32x224x64.size inb_S1x32x224x64_S1x32x224x64_0_0_0_0)))

/-- The last halo row put under them. -/
def last19 (x : Vec F S34x226x64 .bf16) (i : grid2.Coords) (x4 : Vec F S1x1x224x64 .bf16) : Vec F S34x226x64 .bf16 :=
  put x ![33, 1, 0] ![1, 224, 64] (k2_pay7 (Scalar.cmpi .slt (BitVec.ofNat 32 (i 1).val) 6#32) (k2_pay6 (View.ld x4 (Rect.unit (s := S1x1x224x64) ![0, 0, 0, 0] S1x1x224x64.size inb_S1x1x224x64_S1x1x224x64_0_0_0_0))) (Scalar.ofBits .bf16 0x0000#16))

/-- The hidden layer's pre-activations. -/
def pre20 (i : grid2.Coords) (x5 : Vec F S1x2x224x3 .bf16) (x6 : Vec F S1x32x224x3 .bf16) (x7 : Vec F S1x2x224x3 .bf16) (x15 : Vec F S27x128 .bf16) : FVec F S7616x128 .f32 :=
  k2_pay8 (BitVec.ofNat 32 (i 1).val) (View.ld x5 (Rect.unit (s := S1x2x224x3) ![0, 0, 0, 0] S1x2x224x3.size inb_S1x2x224x3_S1x2x224x3_0_0_0_0)) (View.ld x7 (Rect.unit (s := S1x2x224x3) ![0, 0, 0, 0] S1x2x224x3.size inb_S1x2x224x3_S1x2x224x3_0_0_0_0)) (View.ld x6 (Rect.unit (s := S1x32x224x3) ![0, 0, 0, 0] S1x32x224x3.size inb_S1x32x224x3_S1x32x224x3_0_0_0_0)) (View.ld x15 (Rect.unit (s := S27x128) ![0, 0] S27x128.size inb_S27x128_S27x128_0_0))

/-- The hidden layer's rows, one zero column each side. -/
def rows20 (x : Vec F S34x226x128 .bf16) (i : grid2.Coords) (v57 : FVec F S7616x128 .f32) (x16 : Vec F S1x128 .f32) : Vec F S34x226x128 .bf16 :=
  put (put (put x ![0, 0, 0] ![34, 1, 128] k2_pay9) ![0, 225, 0] ![34, 1, 128] k2_pay10)
    ![0, 1, 0] ![34, 224, 128] (k2_pay11 (BitVec.ofNat 32 (i 1).val) v57 (View.ld x16 (Rect.unit (s := S1x128) ![0, 0] S1x128.size inb_S1x128_S1x128_0_0)))

/-- Contents nobody reads. -/
def blank {s : Shape} {e : EltTy} : Vec F s e := fun _ => Classical.arbitrary _

/-- What the style scratch holds at a grid point. -/
def style19 (i : grid2.Coords) (x2 : Vec F S1x1x224x64 .bf16) (x3 : Vec F S1x32x224x64 .bf16) (x4 : Vec F S1x1x224x64 .bf16) : Vec F S34x226x64 .bf16 :=
  last19 (rows19 blank i x2 x3) i x4

/-- What the hidden scratch holds at a grid point. -/
def hid20 (i : grid2.Coords) (x5 : Vec F S1x2x224x3 .bf16) (x6 : Vec F S1x32x224x3 .bf16) (x7 : Vec F S1x2x224x3 .bf16) (x15 : Vec F S27x128 .bf16) (x16 : Vec F S1x128 .f32) : Vec F S34x226x128 .bf16 :=
  rows20 blank i (pre20 i x5 x6 x7 x15) x16

/-- Every cell is overwritten, so what was there before does not matter. -/
theorem style19_any (x : Vec F S34x226x64 .bf16) (i : grid2.Coords) (x2 : Vec F S1x1x224x64 .bf16) (x3 : Vec F S1x32x224x64 .bf16) (x4 : Vec F S1x1x224x64 .bf16) :
    last19 (rows19 x i x2 x3) i x4 = style19 i x2 x3 x4 := by
  funext y
  unfold style19 last19 rows19 put
  have h0 : (y 0).val < 34 := (y 0).isLt
  have h1 : (y 1).val < 226 := (y 1).isLt
  have h2 : (y 2).val < 64 := (y 2).isLt
  repeat' split
  all_goals first
    | rfl
    | (exfalso
       simp only [Fin.forall_fin_succ, IsEmpty.forall_iff, and_true] at *
       simp [Matrix.cons_val_zero, Matrix.cons_val_one] at *
       omega)

theorem hid20_any (x : Vec F S34x226x128 .bf16) (i : grid2.Coords) (x5 : Vec F S1x2x224x3 .bf16) (x6 : Vec F S1x32x224x3 .bf16) (x7 : Vec F S1x2x224x3 .bf16) (x15 : Vec F S27x128 .bf16) (x16 : Vec F S1x128 .f32) :
    rows20 x i (pre20 i x5 x6 x7 x15) x16 = hid20 i x5 x6 x7 x15 x16 := by
  funext y
  unfold hid20 rows20 put
  have h0 : (y 0).val < 34 := (y 0).isLt
  have h1 : (y 1).val < 226 := (y 1).isLt
  have h2 : (y 2).val < 128 := (y 2).isLt
  repeat' split
  all_goals first
    | rfl
    | (exfalso
       simp only [Fin.forall_fin_succ, IsEmpty.forall_iff, and_true] at *
       simp [Matrix.cons_val_zero, Matrix.cons_val_one] at *
       omega)

/-! ## The nine accumulations and what is written out -/

/-- The accumulator before the first tap: the bias. -/
def acc0 (x19 : Vec F S34x226x64 .bf16) (x20 : Vec F S34x226x128 .bf16) (x13 : Vec F S9x64x192 .bf16) (x14 : Vec F S9x128x192 .bf16) (x17 : Vec F S1x192 .f32) : FVec F S7168x192 .f32 :=
  k2_pay12 (View.ld x17 (Rect.unit (s := S1x192) ![0, 0] S1x192.size inb_S1x192_S1x192_0_0))
/-- The accumulator after tap 0. -/
def acc1 (x19 : Vec F S34x226x64 .bf16) (x20 : Vec F S34x226x128 .bf16) (x13 : Vec F S9x64x192 .bf16) (x14 : Vec F S9x128x192 .bf16) (x17 : Vec F S1x192 .f32) : FVec F S7168x192 .f32 :=
  k2_pay13 (View.ld x19 (Rect.unit (s := S34x226x64) ![0, 0, 0] S32x224x64.size inb_S34x226x64_S32x224x64_0_0_0)) (View.ld x20 (Rect.unit (s := S34x226x128) ![0, 0, 0] S32x224x128.size inb_S34x226x128_S32x224x128_0_0_0)) (acc0 x19 x20 x13 x14 x17) (View.ld x13 (Rect.unit (s := S9x64x192) ![0, 0, 0] S1x64x192.size inb_S9x64x192_S1x64x192_0_0_0)) (View.ld x14 (Rect.unit (s := S9x128x192) ![0, 0, 0] S1x128x192.size inb_S9x128x192_S1x128x192_0_0_0))
/-- The accumulator after tap 1. -/
def acc2 (x19 : Vec F S34x226x64 .bf16) (x20 : Vec F S34x226x128 .bf16) (x13 : Vec F S9x64x192 .bf16) (x14 : Vec F S9x128x192 .bf16) (x17 : Vec F S1x192 .f32) : FVec F S7168x192 .f32 :=
  k2_pay16 (k2_pay14 (View.ld x19 (Rect.unit (s := S34x226x64) ![0, 1, 0] S32x224x64.size inb_S34x226x64_S32x224x64_0_1_0))) (k2_pay15 (View.ld x20 (Rect.unit (s := S34x226x128) ![0, 1, 0] S32x224x128.size inb_S34x226x128_S32x224x128_0_1_0))) (acc1 x19 x20 x13 x14 x17) (View.ld x13 (Rect.unit (s := S9x64x192) ![1, 0, 0] S1x64x192.size inb_S9x64x192_S1x64x192_1_0_0)) (View.ld x14 (Rect.unit (s := S9x128x192) ![1, 0, 0] S1x128x192.size inb_S9x128x192_S1x128x192_1_0_0))
/-- The accumulator after tap 2. -/
def acc3 (x19 : Vec F S34x226x64 .bf16) (x20 : Vec F S34x226x128 .bf16) (x13 : Vec F S9x64x192 .bf16) (x14 : Vec F S9x128x192 .bf16) (x17 : Vec F S1x192 .f32) : FVec F S7168x192 .f32 :=
  k2_pay17 (View.ld x19 (Rect.unit (s := S34x226x64) ![0, 2, 0] S32x224x64.size inb_S34x226x64_S32x224x64_0_2_0)) (View.ld x20 (Rect.unit (s := S34x226x128) ![0, 2, 0] S32x224x128.size inb_S34x226x128_S32x224x128_0_2_0)) (acc2 x19 x20 x13 x14 x17) (View.ld x13 (Rect.unit (s := S9x64x192) ![2, 0, 0] S1x64x192.size inb_S9x64x192_S1x64x192_2_0_0)) (View.ld x14 (Rect.unit (s := S9x128x192) ![2, 0, 0] S1x128x192.size inb_S9x128x192_S1x128x192_2_0_0))
/-- The accumulator after tap 3. -/
def acc4 (x19 : Vec F S34x226x64 .bf16) (x20 : Vec F S34x226x128 .bf16) (x13 : Vec F S9x64x192 .bf16) (x14 : Vec F S9x128x192 .bf16) (x17 : Vec F S1x192 .f32) : FVec F S7168x192 .f32 :=
  k2_pay18 (View.ld x19 (Rect.unit (s := S34x226x64) ![1, 0, 0] S32x224x64.size inb_S34x226x64_S32x224x64_1_0_0)) (View.ld x20 (Rect.unit (s := S34x226x128) ![1, 0, 0] S32x224x128.size inb_S34x226x128_S32x224x128_1_0_0)) (acc3 x19 x20 x13 x14 x17) (View.ld x13 (Rect.unit (s := S9x64x192) ![3, 0, 0] S1x64x192.size inb_S9x64x192_S1x64x192_3_0_0)) (View.ld x14 (Rect.unit (s := S9x128x192) ![3, 0, 0] S1x128x192.size inb_S9x128x192_S1x128x192_3_0_0))
/-- The accumulator after tap 4. -/
def acc5 (x19 : Vec F S34x226x64 .bf16) (x20 : Vec F S34x226x128 .bf16) (x13 : Vec F S9x64x192 .bf16) (x14 : Vec F S9x128x192 .bf16) (x17 : Vec F S1x192 .f32) : FVec F S7168x192 .f32 :=
  k2_pay20 (k2_pay19 (View.ld x19 (Rect.unit (s := S34x226x64) ![1, 1, 0] S32x224x64.size inb_S34x226x64_S32x224x64_1_1_0)) (View.ld x20 (Rect.unit (s := S34x226x128) ![1, 1, 0] S32x224x128.size inb_S34x226x128_S32x224x128_1_1_0)) (acc4 x19 x20 x13 x14 x17) (View.ld x13 (Rect.unit (s := S9x64x192) ![4, 0, 0] S1x64x192.size inb_S9x64x192_S1x64x192_4_0_0)) (View.ld x14 (Rect.unit (s := S9x128x192) ![4, 0, 0] S1x128x192.size inb_S9x128x192_S1x128x192_4_0_0)))
/-- The accumulator after tap 5. -/
def acc6 (x19 : Vec F S34x226x64 .bf16) (x20 : Vec F S34x226x128 .bf16) (x13 : Vec F S9x64x192 .bf16) (x14 : Vec F S9x128x192 .bf16) (x17 : Vec F S1x192 .f32) : FVec F S7168x192 .f32 :=
  k2_pay21 (View.ld x19 (Rect.unit (s := S34x226x64) ![1, 2, 0] S32x224x64.size inb_S34x226x64_S32x224x64_1_2_0)) (View.ld x20 (Rect.unit (s := S34x226x128) ![1, 2, 0] S32x224x128.size inb_S34x226x128_S32x224x128_1_2_0)) (acc5 x19 x20 x13 x14 x17) (View.ld x13 (Rect.unit (s := S9x64x192) ![5, 0, 0] S1x64x192.size inb_S9x64x192_S1x64x192_5_0_0)) (View.ld x14 (Rect.unit (s := S9x128x192) ![5, 0, 0] S1x128x192.size inb_S9x128x192_S1x128x192_5_0_0))
/-- The accumulator after tap 6. -/
def acc7 (x19 : Vec F S34x226x64 .bf16) (x20 : Vec F S34x226x128 .bf16) (x13 : Vec F S9x64x192 .bf16) (x14 : Vec F S9x128x192 .bf16) (x17 : Vec F S1x192 .f32) : FVec F S7168x192 .f32 :=
  k2_pay25 (k2_pay22 (View.ld x19 (Rect.unit (s := S34x226x64) ![2, 0, 0] S32x224x64.size inb_S34x226x64_S32x224x64_2_0_0))) (k2_pay23 (View.ld x20 (Rect.unit (s := S34x226x128) ![2, 0, 0] S32x224x128.size inb_S34x226x128_S32x224x128_2_0_0))) (acc6 x19 x20 x13 x14 x17) (k2_pay24 (View.ld x13 (Rect.unit (s := S9x64x192) ![6, 0, 0] S1x64x192.size inb_S9x64x192_S1x64x192_6_0_0))) (constant S7168x192 .f32 0x00000000#32) (View.ld x14 (Rect.unit (s := S9x128x192) ![6, 0, 0] S1x128x192.size inb_S9x128x192_S1x128x192_6_0_0))
/-- The accumulator after tap 7. -/
def acc8 (x19 : Vec F S34x226x64 .bf16) (x20 : Vec F S34x226x128 .bf16) (x13 : Vec F S9x64x192 .bf16) (x14 : Vec F S9x128x192 .bf16) (x17 : Vec F S1x192 .f32) : FVec F S7168x192 .f32 :=
  k2_pay26 (View.ld x19 (Rect.unit (s := S34x226x64) ![2, 1, 0] S32x224x64.size inb_S34x226x64_S32x224x64_2_1_0)) (View.ld x20 (Rect.unit (s := S34x226x128) ![2, 1, 0] S32x224x128.size inb_S34x226x128_S32x224x128_2_1_0)) (acc7 x19 x20 x13 x14 x17) (View.ld x13 (Rect.unit (s := S9x64x192) ![7, 0, 0] S1x64x192.size inb_S9x64x192_S1x64x192_7_0_0)) (View.ld x14 (Rect.unit (s := S9x128x192) ![7, 0, 0] S1x128x192.size inb_S9x128x192_S1x128x192_7_0_0))
/-- The accumulator after tap 8. -/
def acc9 (x19 : Vec F S34x226x64 .bf16) (x20 : Vec F S34x226x128 .bf16) (x13 : Vec F S9x64x192 .bf16) (x14 : Vec F S9x128x192 .bf16) (x17 : Vec F S1x192 .f32) : FVec F S7168x192 .f32 :=
  k2_pay28 (k2_pay27 (View.ld x19 (Rect.unit (s := S34x226x64) ![2, 2, 0] S32x224x64.size inb_S34x226x64_S32x224x64_2_2_0))) (View.ld x20 (Rect.unit (s := S34x226x128) ![2, 2, 0] S32x224x128.size inb_S34x226x128_S32x224x128_2_2_0)) (acc8 x19 x20 x13 x14 x17) (View.ld x13 (Rect.unit (s := S9x64x192) ![8, 0, 0] S1x64x192.size inb_S9x64x192_S1x64x192_8_0_0)) (View.ld x14 (Rect.unit (s := S9x128x192) ![8, 0, 0] S1x128x192.size inb_S9x128x192_S1x128x192_8_0_0))

/-- What the body leaves in the result's staging buffer. -/
def out16 (x8 : Vec F S1x96x32x224 .f32) (x9 : Vec F S1x32x224 .f32) (x10 : Vec F S1x96 .f32) (x11 x12 : Vec F S1x1x96 .f32) (a : FVec F S7168x192 .f32) : Vec F S1x96x32x224 .f32 :=
  k2_pay1 (k2_pay29 a) (k2_pay30 a) (k2_pay31 (View.ld x10 (Rect.unit (s := S1x96) ![0, 0] S1x96.size inb_S1x96_S1x96_0_0))) (k2_pay32 (View.ld x11 (Rect.unit (s := S1x1x96) ![0, 0, 0] S1x1x96.size inb_S1x1x96_S1x1x96_0_0_0))) (k2_pay33 (View.ld x12 (Rect.unit (s := S1x1x96) ![0, 0, 0] S1x1x96.size inb_S1x1x96_S1x1x96_0_0_0))) (k2_pay34 (View.ld x8 (Rect.unit (s := S1x96x32x224) ![0, 0, 0, 0] S1x96x32x224.size inb_S1x96x32x224_S1x96x32x224_0_0_0_0))) (k2_pay35 (View.ld x9 (Rect.unit (s := S1x32x224) ![0, 0, 0] S1x32x224.size inb_S1x32x224_S1x32x224_0_0_0)))

section Body
variable (c : Dev nD) (E : Set ℕ) (i : grid2.Coords) (arg2 : Memref sig .tc .vmem S1x1x224x64 .bf16) (harg2 : arg2.IsWhole) (arg3 : Memref sig .tc .vmem S1x32x224x64 .bf16) (harg3 : arg3.IsWhole) (arg4 : Memref sig .tc .vmem S1x1x224x64 .bf16) (harg4 : arg4.IsWhole) (arg5 : Memref sig .tc .vmem S1x2x224x3 .bf16) (harg5 : arg5.IsWhole) (arg6 : Memref sig .tc .vmem S1x32x224x3 .bf16) (harg6 : arg6.IsWhole) (arg7 : Memref sig .tc .vmem S1x2x224x3 .bf16) (harg7 : arg7.IsWhole) (arg8 : Memref sig .tc .vmem S1x96x32x224 .f32) (harg8 : arg8.IsWhole) (arg9 : Memref sig .tc .vmem S1x32x224 .f32) (harg9 : arg9.IsWhole) (arg10 : Memref sig .tc .vmem S1x96 .f32) (harg10 : arg10.IsWhole) (arg11 : Memref sig .tc .vmem S1x1x96 .f32) (harg11 : arg11.IsWhole) (arg12 : Memref sig .tc .vmem S1x1x96 .f32) (harg12 : arg12.IsWhole) (arg13 : Memref sig .tc .vmem S9x64x192 .bf16) (harg13 : arg13.IsWhole) (arg14 : Memref sig .tc .vmem S9x128x192 .bf16) (harg14 : arg14.IsWhole) (arg15 : Memref sig .tc .vmem S27x128 .bf16) (harg15 : arg15.IsWhole) (arg16 : Memref sig .tc .vmem S1x128 .f32) (harg16 : arg16.IsWhole) (arg17 : Memref sig .tc .vmem S1x192 .f32) (harg17 : arg17.IsWhole) (arg18 : Memref sig .tc .vmem S1x96x32x224 .f32) (harg18 : arg18.IsWhole) (arg19 : Memref sig .tc .vmem S34x226x64 .bf16) (harg19 : arg19.IsWhole) (arg20 : Memref sig .tc .vmem S34x226x128 .bf16) (harg20 : arg20.IsWhole) (arg21 : Memref sig .tc .vmem S7168x192 .f32) (harg21 : arg21.IsWhole)

set_option maxHeartbeats 1000000 in
/-- The first part fills the style rows. -/
theorem part1_sound (x2 : Vec F S1x1x224x64 .bf16) (x3 : Vec F S1x32x224x64 .bf16) (x4 : Vec F S1x1x224x64 .bf16) (x19 : Vec F S34x226x64 .bf16) (K : _ → sProp 𝕄) :
    iprop(owns (c : Thread nD τ) arg2 fullShare x2 ∗ owns (c : Thread nD τ) arg3 fullShare x3 ∗ owns (c : Thread nD τ) arg4 fullShare x4 ∗ owns (c : Thread nD τ) arg19 fullShare x19
        ∗ (iprop(owns (c : Thread nD τ) arg2 fullShare x2 ∗ owns (c : Thread nD τ) arg3 fullShare x3 ∗ owns (c : Thread nD τ) arg4 fullShare x4 ∗ owns (c : Thread nD τ) arg19 fullShare (rows19 x19 i x2 x3))
          -∗ K ⟨BitVec.ofNat 32 (i 1).val, Scalar.cmpi .slt (BitVec.ofNat 32 (i 1).val) 6#32, k2_pay6 (View.ld x4 (Rect.unit (s := S1x1x224x64) ![0, 0, 0, 0] S1x1x224x64.size inb_S1x1x224x64_S1x1x224x64_0_0_0_0)), Scalar.ofBits .bf16 0x0000#16⟩))
      ⊢ wp frame (wpE (defs₀ (F := F)) Variants.none c none) E (k2_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  rw [k2_part1_eq_skeleton]; unfold k2_part1_skel owns
  iintro ⟨⟨%f2, %hf2, H2⟩, ⟨%f3, %hf3, H3⟩, ⟨%f4, %hf4, H4⟩, ⟨%f19, %hf19, H19⟩, Hk⟩
  subst hf2 hf3 hf4 hf19
  sl_exec
  sl_step
  delta part1_sound.sl.v21 part1_sound.sl.cst_23
  simp only [View.readAt_eq_ld]
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H19
  ipureintro
  sl_unfold_run_names
  have e0 := read_patch (s := S34x226x64) (us := ![34, 1, 64]) arg19.view f19 [] inb_S34x226x64_S34x2x64_0_0_0 _ rfl (k2_pay2 (F := F))
    slices_S34x2x64_S34x1x64_0_0_0 ![0, 0, 0] (by decide)
  have e1 := read_patch (s := S34x226x64) (us := ![34, 1, 64]) arg19.view f19 _ inb_S34x226x64_S34x2x64_0_224_0
    (arg19.view.readAt (Elt F) (Rect.unit (s := S34x226x64) ![0, 224, 0] S34x2x64.size inb_S34x226x64_S34x2x64_0_224_0).toLoadRect f19)
    (by rw [e0]; exact (VecWindow.window_put_of_disjoint (s := S34x226x64) _ ![0, 0, 0] ![34, 1, 64] ![0, 224, 0] S34x2x64.size _ _ 1 (by decide)).symm) (k2_pay3 (F := F))
    slices_S34x2x64_S34x1x64_0_1_0 ![0, 225, 0] (by decide)
  rw [e0] at e1
  refine (read_patch (s := S34x226x64) (us := ![32, 224, 64]) _ _ _ _ _ rfl _ _ ![1, 1, 0] (by decide)).trans ?_
  refine congrArg (fun x : Vec F S34x226x64 .bf16 => put (s := S34x226x64) x ![1, 1, 0] ![32, 224, 64] _) ?_
  refine (read_patch (s := S34x226x64) (us := ![1, 224, 64]) _ _ _ _ _ rfl _ _ ![0, 1, 0] (by decide)).trans ?_
  exact congrArg (fun x : Vec F S34x226x64 .bf16 => put (s := S34x226x64) x ![0, 1, 0] ![1, 224, 64] _) e1

set_option maxHeartbeats 1000000 in
/-- The second part puts the last halo row and forms the pre-activations. -/
theorem part2_sound (x4 : Vec F S1x1x224x64 .bf16) (x5 : Vec F S1x2x224x3 .bf16) (x6 : Vec F S1x32x224x3 .bf16) (x7 : Vec F S1x2x224x3 .bf16) (x15 : Vec F S27x128 .bf16) (x19 : Vec F S34x226x64 .bf16) (K : _ → sProp 𝕄) :
    iprop(owns (c : Thread nD τ) arg5 fullShare x5 ∗ owns (c : Thread nD τ) arg6 fullShare x6 ∗ owns (c : Thread nD τ) arg7 fullShare x7 ∗ owns (c : Thread nD τ) arg15 fullShare x15 ∗ owns (c : Thread nD τ) arg19 fullShare x19
        ∗ (iprop(owns (c : Thread nD τ) arg5 fullShare x5 ∗ owns (c : Thread nD τ) arg6 fullShare x6 ∗ owns (c : Thread nD τ) arg7 fullShare x7 ∗ owns (c : Thread nD τ) arg15 fullShare x15 ∗ owns (c : Thread nD τ) arg19 fullShare (last19 x19 i x4))
          -∗ K (pre20 i x5 x6 x7 x15)))
      ⊢ wp frame (wpE (defs₀ (F := F)) Variants.none c none) E (k2_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) (Scalar.cmpi .slt (BitVec.ofNat 32 (i 1).val) 6#32) (k2_pay6 (View.ld x4 (Rect.unit (s := S1x1x224x64) ![0, 0, 0, 0] S1x1x224x64.size inb_S1x1x224x64_S1x1x224x64_0_0_0_0))) (Scalar.ofBits .bf16 0x0000#16)) K := by
  rw [k2_part2_eq_skeleton]; unfold k2_part2_skel owns pre20
  iintro ⟨⟨%f5, %hf5, H5⟩, ⟨%f6, %hf6, H6⟩, ⟨%f7, %hf7, H7⟩, ⟨%f15, %hf15, H15⟩, ⟨%f19, %hf19, H19⟩, Hk⟩
  subst hf5 hf6 hf7 hf15 hf19
  sl_exec
  sl_step
  simp only [View.readAt_eq_ld]
  iapply Hk
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H15]
  · iexists f15; isplitr; · ipureintro; rfl
    iexact H15
  iexists _; isplitr
  swap; · iexact H19
  ipureintro
  sl_unfold_run_names
  exact read_patch (s := S34x226x64) (us := ![1, 224, 64]) _ _ [] _ _ rfl _ _ ![33, 1, 0] (by decide)

set_option maxHeartbeats 1000000 in
/-- The third part fills the hidden rows. -/
theorem part3_sound (v57 : FVec F S7616x128 .f32) (x16 : Vec F S1x128 .f32) (x20 : Vec F S34x226x128 .bf16) (K : _ → sProp 𝕄) :
    iprop(owns (c : Thread nD τ) arg16 fullShare x16 ∗ owns (c : Thread nD τ) arg20 fullShare x20 ∗ (iprop(owns (c : Thread nD τ) arg16 fullShare x16 ∗ owns (c : Thread nD τ) arg20 fullShare (rows20 x20 i v57 x16)) -∗ K ⟨⟩))
      ⊢ wp frame (wpE (defs₀ (F := F)) Variants.none c none) E (k2_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) v57) K := by
  rw [k2_part3_eq_skeleton]; unfold k2_part3_skel owns
  iintro ⟨⟨%f16, %hf16, H16⟩, ⟨%f20, %hf20, H20⟩, Hk⟩
  subst hf16 hf20
  sl_exec
  sl_step
  iapply Hk
  isplitl [H16]
  · iexists f16; isplitr; · ipureintro; rfl
    iexact H16
  iexists _; isplitr
  swap; · iexact H20
  ipureintro
  sl_unfold_run_names
  have e0 := read_patch (s := S34x226x128) (us := ![34, 1, 128]) arg20.view f20 [] inb_S34x226x128_S34x2x128_0_0_0 _ rfl (k2_pay9 (F := F))
    slices_S34x2x128_S34x1x128_0_0_0 ![0, 0, 0] (by decide)
  have e1 := read_patch (s := S34x226x128) (us := ![34, 1, 128]) arg20.view f20 _ inb_S34x226x128_S34x2x128_0_224_0
    (arg20.view.readAt (Elt F) (Rect.unit (s := S34x226x128) ![0, 224, 0] S34x2x128.size inb_S34x226x128_S34x2x128_0_224_0).toLoadRect f20)
    (by rw [e0]; exact (VecWindow.window_put_of_disjoint (s := S34x226x128) _ ![0, 0, 0] ![34, 1, 128] ![0, 224, 0] S34x2x128.size _ _ 1 (by decide)).symm) (k2_pay10 (F := F))
    slices_S34x2x128_S34x1x128_0_1_0 ![0, 225, 0] (by decide)
  rw [e0] at e1
  refine (read_patch (s := S34x226x128) (us := ![34, 224, 128]) _ _ _ _ _ rfl _ _ ![0, 1, 0] (by decide)).trans ?_
  exact congrArg (fun x : Vec F S34x226x128 .bf16 => put (s := S34x226x128) x ![0, 1, 0] ![34, 224, 128] _) e1

set_option maxHeartbeats 4000000 in
/-- The whole body: every input as it was, the result's buffer at `out16`, the scratches at something. -/
theorem body_sound (x2 : Vec F S1x1x224x64 .bf16) (x3 : Vec F S1x32x224x64 .bf16) (x4 : Vec F S1x1x224x64 .bf16) (x5 : Vec F S1x2x224x3 .bf16) (x6 : Vec F S1x32x224x3 .bf16) (x7 : Vec F S1x2x224x3 .bf16) (x8 : Vec F S1x96x32x224 .f32) (x9 : Vec F S1x32x224 .f32) (x10 : Vec F S1x96 .f32) (x11 : Vec F S1x1x96 .f32) (x12 : Vec F S1x1x96 .f32) (x13 : Vec F S9x64x192 .bf16) (x14 : Vec F S9x128x192 .bf16) (x15 : Vec F S27x128 .bf16) (x16 : Vec F S1x128 .f32) (x17 : Vec F S1x192 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare (out16 x8 x9 x10 x11 x12 (acc9 (style19 i x2 x3 x4) (hid20 i x5 x6 x7 x15 x16) x13 x14 x17))
          ∗ (∃ d, owns (c : Thread nD τ) arg19 fullShare d) ∗ (∃ d, owns (c : Thread nD τ) arg20 fullShare d) ∗ (∃ d, owns (c : Thread nD τ) arg21 fullShare d)) -∗ K ⟨⟩))
      ⊢ wp frame (wpE (defs₀ (F := F)) Variants.none c none) E (cc2_main_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc2_main_kernel_eq_skeleton]; unfold cc2_main_kernel_skel
  iintro ⟨H2, H3, H4, H5, H6, H7, H8, H9, H10, H11, H12, H13, H14, H15, H16, H17, ⟨%d18, H18⟩, ⟨%d19, H19⟩, ⟨%d20, H20⟩, ⟨%d21, H21⟩, Hk⟩
  rw [wp_bind]
  iapply (part1_sound c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 d19 _)
  isplitl [H2]; · iexact H2
  isplitl [H3]; · iexact H3
  isplitl [H4]; · iexact H4
  isplitl [H19]; · iexact H19
  iintro ⟨H2, H3, H4, H19⟩
  rw [wp_bind]
  iapply (part2_sound c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x4 x5 x6 x7 x15 (rows19 d19 i x2 x3) _)
  isplitl [H5]; · iexact H5
  isplitl [H6]; · iexact H6
  isplitl [H7]; · iexact H7
  isplitl [H15]; · iexact H15
  isplitl [H19]; · iexact H19
  iintro ⟨H5, H6, H7, H15, H19⟩
  rw [wp_bind]
  iapply (part3_sound c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (pre20 i x5 x6 x7 x15) x16 d20 _)
  isplitl [H16]; · iexact H16
  isplitl [H20]; · iexact H20
  iintro ⟨H16, H20⟩
  rw [style19_any, hid20_any]
  generalize style19 i x2 x3 x4 = x19
  generalize hid20 i x5 x6 x7 x15 x16 = x20
  simp only [k2_part4_eq_skeleton, k2_part5_eq_skeleton, k2_part6_eq_skeleton, k2_part7_eq_skeleton, k2_part8_eq_skeleton, k2_part9_eq_skeleton]
  unfold owns
  icases H8 with ⟨%f8, %hf8, H8⟩
  icases H9 with ⟨%f9, %hf9, H9⟩
  icases H10 with ⟨%f10, %hf10, H10⟩
  icases H11 with ⟨%f11, %hf11, H11⟩
  icases H12 with ⟨%f12, %hf12, H12⟩
  icases H13 with ⟨%f13, %hf13, H13⟩
  icases H14 with ⟨%f14, %hf14, H14⟩
  icases H17 with ⟨%f17, %hf17, H17⟩
  icases H18 with ⟨%f18, -, H18⟩
  icases H21 with ⟨%f21, -, H21⟩
  icases H19 with ⟨%g19, %hf19, H19⟩
  icases H20 with ⟨%g20, %hf20, H20⟩
  subst hf8 hf9 hf10 hf11 hf12 hf13 hf14 hf17 hf19 hf20
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]; · iexact H15
  isplitl [H16]; · iexact H16
  isplitl [H17]
  · iexists f17; isplitr; · ipureintro; rfl
    iexact H17
  isplitl [H18]
  · iexists _; isplitr
    swap; · iexact H18
    ipureintro
    refine (View.read_writes_full _ _ _ _ []).trans ?_
    sl_unfold_run_names
    repeat rw [View.readCov_full (s := S7168x192)]
    rfl
  isplitl [H19]
  · iexists _, g19; isplitr; · ipureintro; rfl
    iexact H19
  isplitl [H20]
  · iexists _, g20; isplitr; · ipureintro; rfl
    iexact H20
  iexists _, _; isplitr
  swap; · iexact H21
  ipureintro; rfl

end Body

end Cert.KernelIdeal.Main

end
-- ==== Proof.Seg.lean ====
/-
  A kernel call between two stretches of the host's program: entered with every unscoped buffer at one valuation,
  left with the call's arrays at what its blocks add up to and every other buffer as it was.
-/
module

public import proofs.«01_k».proof.Proof.Gen.KernelIdeal.Regions
public import proofs.«01_k».proof.Proof.Body2
public import Idealize.ShloMosaic.Lib.Pipeline.RegionsLoop

@[expose] public section

set_option maxRecDepth 16384

noncomputable section

namespace Cert.KernelIdeal.Main

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No core owes another anything: no level is assigned. -/
abbrev L : GSem nD τ sig → Finset Unit := fun _ => ∅
abbrev lv : GSem nD τ sig → Unit → ℕ := fun _ _ => 0

/-- The buffers of every core when an item starts. -/
abbrev Val (F : FTy → Type) [FloatOps F] : Type := Dev nD → Valuation τ sig (Elt F)

/-- What rides along beside the buffers. -/
abbrev Ride (c : Dev nD) : sProp 𝕄 := iprop((∃ W, owes (c : Thread nD τ) (0 : CellTallies nD τ sig Unit) W) ∗ ∃ r, prngReg c r)

/-- A whole buffer at something is its memref owned at something, -/
theorem owns_of_pt (c : Dev nD) (r : Ref sig .tc) :
    (iprop(∃ f : Buf (Elt F) ((c : Thread nD τ).loc r), ((c : Thread nD τ).loc r) ↦{fullShare} f) : sProp 𝕄)
      ⊢ iprop(∃ d, owns (c : Thread nD τ) (Memref.whole r) fullShare d) := by
  simp only [owns_whole_eq]
  iintro ⟨%f, H⟩
  iexists _, f
  isplitr; · ipureintro; rfl
  iexact H
/-- and back. -/
theorem pt_of_owns (c : Dev nD) (r : Ref sig .tc) :
    (iprop(∃ d, owns (c : Thread nD τ) (Memref.whole r) fullShare d) : sProp 𝕄)
      ⊢ iprop(∃ f : Buf (Elt F) ((c : Thread nD τ).loc r), ((c : Thread nD τ).loc r) ↦{fullShare} f) := by
  simp only [owns_whole_eq]
  iintro ⟨%d, %f, -, H⟩
  iexists f
  iexact H

variable (pd : (p : Fin 3) → (c : Dev nD) → Dat τ (Elt F) Unit ℕ (UR sig nD τ) ℕ (cfgs p) c)

set_option backward.isDefEq.respectTransparency.types false in
/-- The record of call `p`, from the buffers at `W` to the buffers at `W'`. -/
def regOf (p : Fin 3) (kit : Pipeline.LaunchFacts₀ (nD := nD) (τ := τ) cfgs p) (W W' : Val F)
    (hbody : ∀ c, BodyObligation (pd p c) (defs₀ (F := F)) Variants.none () Set.univ)
    (hΦ : ∀ c t, (pd p c).Φ t = Pipeline.scopedRest (cfgs p).spec c)
    (hrec : ∀ c, (pd p c).recorded 0 = Set.univ)
    (howed : ∀ c t, (pd p c).owed t = 0)
    (hq : ∀ c w, ((cfgs p).spec w).isOut = false → (pd p c).q w = Pipeline.shareOf (cfgs p).spec w)
    (hA : ∀ c w, (pd p c).A w = W c (Pipeline.arrRef (cfgs p).spec w))
    (hF : ∀ c w, (pd p c).arrAt w (cfgs p).N = W' c (Pipeline.arrRef (cfgs p).spec w))
    (hrest : ∀ c (b : Ref sig .tc), b ∉ Finset.univ.image (Pipeline.arrRef (cfgs p).spec) → W' c b = W c b) :
    Pipeline.RegionSeg (pcfgs (F := F)) adm pd () defs₀ Variants.none L lv p where
  win := kit.win
  block_pos := kit.block_pos
  stage_whole := kit.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ Ride c)
  post c := iprop(StableHlo.held (c : Thread nD τ) (Pipeline.ucRefs τ sig) (W' c) ∗ Ride c)
  X _ := BI.emp
  Y _ := BI.emp
  Z c := iprop(Pipeline.unscopedRest (Ix := Unit) (Name := ℕ) (U := UR sig nD τ) (Lvl := ℕ) (cfgs p).spec c (fun b => W c b) ∗ ∃ r, prngReg c r)
  hentry c := by
    rw [Pipeline.ownSems0_none, ← Pipeline.unscopedBufs_held c (W c)]
    have hsplit := Pipeline.arrays_of_unscopedBufs_shared (p := p) (pcfgs (F := F)) adm pd kit.win kit.sharedIn kit.arr_whole c
      (hq c) (fun b => W c b) (hA c)
    iintro ⟨⟨Hub, HO, HR⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%Wd, HO⟩; iexists Wd; isplitr
      · ipureintro; refine fun x _ => Or.inl ?_; rw [hrec]; trivial
      iexact HO
    isplitr; · iempintro
    isplitl [Hrest] <;> iassumption
  hin c := by
    rw [hΦ]
    iintro ⟨-, -, Hr⟩; iexact Hr
  hout c := by
    rw [Pipeline.ownSems0_none, hΦ]
    iintro Hr
    isplitr; · iempintro
    isplitr; · iempintro
    iexact Hr
  hexit c := by
    rw [← Pipeline.unscopedBufs_held c (W' c)]
    have hjoin := Pipeline.unscopedBufs_of_arrays_shared (p := p) (pcfgs (F := F)) adm (Ix := Unit) (Name := ℕ) (U := UR sig nD τ) (Lvl := ℕ) kit.win kit.sharedIn kit.arr_whole c
      pd (hq c) (fun b => W c b) (fun b => W' c b) ((pd p c).arrAt · (cfgs p).N) (hF c) (hrest c)
    iintro ⟨Ha, HO, -, Hrest, HR⟩
    imodintro
    isplitl [Ha Hrest]
    · iapply hjoin; isplitl [Ha] <;> iassumption
    isplitl [HO]
    · unfold Pipeline.Dat.owesAt Pipeline.owesWithin
      rw [howed]
      icases HO with ⟨%Wd, -, HO⟩; iexists Wd; iexact HO
    iexact HR

end Cert.KernelIdeal.Main

end
-- ==== Proof.Region0.lean ====
/-
  The statistics call: each channel's mean and variance of the image with its noise added, one pass, turned into a scale and a shift.
-/
module

public import proofs.«01_k».proof.Proof.Seg

@[expose] public section

set_option maxRecDepth 16384

noncomputable section

namespace Cert.KernelIdeal.Main

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scale of a block of channels, from the call's input blocks. -/
def scl (x0 : Vec F S1x32x224x224 .f32) (x1 : Vec F S1x224x224 .f32) (x2 x3 x4 : Vec F S1x1x32 .f32) : Vec F S1x1x1x32 .f32 :=
  k0_pay2 (k0_pay8 (View.ld x0 (Rect.unit (s := S1x32x224x224) ![0, 0, 0, 0] S1x32x224x224.size inb_S1x32x224x224_S1x32x224x224_0_0_0_0)) (View.ld x1 (Rect.unit (s := S1x224x224) ![0, 0, 0] S1x224x224.size inb_S1x224x224_S1x224x224_0_0_0)) (View.ld x2 (Rect.unit (s := S1x1x32) ![0, 0, 0] S1x1x32.size inb_S1x1x32_S1x1x32_0_0_0))) (Scalar.ofBits .f32 0x3727C5AC#32) (View.ld x3 (Rect.unit (s := S1x1x32) ![0, 0, 0] S1x1x32.size inb_S1x1x32_S1x1x32_0_0_0))
/-- The shift of a block of channels. -/
def shf (x0 : Vec F S1x32x224x224 .f32) (x1 : Vec F S1x224x224 .f32) (x2 x3 x4 : Vec F S1x1x32 .f32) : Vec F S1x1x1x32 .f32 :=
  k0_pay3 (k0_pay7 (View.ld x0 (Rect.unit (s := S1x32x224x224) ![0, 0, 0, 0] S1x32x224x224.size inb_S1x32x224x224_S1x32x224x224_0_0_0_0)) (View.ld x1 (Rect.unit (s := S1x224x224) ![0, 0, 0] S1x224x224.size inb_S1x224x224_S1x224x224_0_0_0)) (View.ld x2 (Rect.unit (s := S1x1x32) ![0, 0, 0] S1x1x32.size inb_S1x1x32_S1x1x32_0_0_0))) (k0_pay8 (View.ld x0 (Rect.unit (s := S1x32x224x224) ![0, 0, 0, 0] S1x32x224x224.size inb_S1x32x224x224_S1x32x224x224_0_0_0_0)) (View.ld x1 (Rect.unit (s := S1x224x224) ![0, 0, 0] S1x224x224.size inb_S1x224x224_S1x224x224_0_0_0)) (View.ld x2 (Rect.unit (s := S1x1x32) ![0, 0, 0] S1x1x32.size inb_S1x1x32_S1x1x32_0_0_0))) (Scalar.ofBits .f32 0x3727C5AC#32) (View.ld x3 (Rect.unit (s := S1x1x32) ![0, 0, 0] S1x1x32.size inb_S1x1x32_S1x1x32_0_0_0)) (View.ld x4 (Rect.unit (s := S1x1x32) ![0, 0, 0] S1x1x32.size inb_S1x1x32_S1x1x32_0_0_0))

set_option maxHeartbeats 1000000 in
/-- The body over whole buffers. -/
theorem sound0 (c : Dev nD) (E : Set ℕ) (i : grid0.Coords) (arg2 : Memref sig .tc .vmem S1x32x224x224 .f32) (harg2 : arg2.IsWhole) (arg3 : Memref sig .tc .vmem S1x224x224 .f32) (harg3 : arg3.IsWhole) (arg4 : Memref sig .tc .vmem S1x1x32 .f32) (harg4 : arg4.IsWhole) (arg5 : Memref sig .tc .vmem S1x1x32 .f32) (harg5 : arg5.IsWhole) (arg6 : Memref sig .tc .vmem S1x1x32 .f32) (harg6 : arg6.IsWhole) (arg7 : Memref sig .tc .vmem S1x1x1x32 .f32) (harg7 : arg7.IsWhole) (arg8 : Memref sig .tc .vmem S1x1x1x32 .f32) (harg8 : arg8.IsWhole) (x0 : Vec F S1x32x224x224 .f32) (x1 : Vec F S1x224x224 .f32) (x2 : Vec F S1x1x32 .f32) (x3 : Vec F S1x1x32 .f32) (x4 : Vec F S1x1x32 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (scl x0 x1 x2 x3 x4) ∗ owns (c : Thread nD τ) arg8 fullShare (shf x0 x1 x2 x3 x4)) -∗ K ⟨⟩))
      ⊢ wp frame (wpE (defs₀ (F := F)) Variants.none c none) E (cc0__stats_kernel i arg2 harg2 arg3 harg3 arg4 harg4 arg5 harg5 arg6 harg6 arg7 harg7 arg8 harg8) K := by
  simp only [cc0__stats_kernel_eq_skeleton]; unfold cc0__stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_full _ _ _ _ []).trans ?_
    rfl
  iexists _; isplitr
  swap; · iexact H6
  ipureintro
  refine (View.read_writes_full _ _ _ _ []).trans ?_
  rfl

/-! ## What the call is given and what it leaves -/

variable (W : Val F)

/-- Window `w`'s block at point `t`, read off its array. -/
def blk0 (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

/-- The call's data: arrays as found, blocks left in place, results from the input blocks. -/
def dat0 (c : Dev nD) : Dat τ (Elt F) Unit ℕ (UR sig nD τ) ℕ cfg0 c where
  A w := W c (Pipeline.arrRef spec0 w)
  after w t := match w with
    | ⟨0, _⟩ => blk0 W c 0 t
    | ⟨1, _⟩ => blk0 W c 1 t
    | ⟨2, _⟩ => blk0 W c 2 t
    | ⟨3, _⟩ => blk0 W c 3 t
    | ⟨4, _⟩ => blk0 W c 4 t
    | ⟨5, _⟩ => scl (blk0 W c 0 t) (blk0 W c 1 t) (blk0 W c 2 t) (blk0 W c 3 t) (blk0 W c 4 t)
    | ⟨6, _⟩ => shf (blk0 W c 0 t) (blk0 W c 1 t) (blk0 W c 2 t) (blk0 W c 3 t) (blk0 W c 4 t)
  Φ _ := Pipeline.scopedRest spec0 c
  q w := Pipeline.shareOf spec0 w
  owed _ := 0

theorem dat0_A (c : Dev nD) (w : Fin cfg0.W) : (dat0 W c).A w = W c (Pipeline.arrRef spec0 w) := by dsimp only [dat0]
theorem aft0_0 (c : Dev nD) (t : Fin cfg0.N) : (dat0 W c).after 0 t = blk0 W c 0 t := by dsimp only [dat0]
theorem aft0_1 (c : Dev nD) (t : Fin cfg0.N) : (dat0 W c).after 1 t = blk0 W c 1 t := by dsimp only [dat0]
theorem aft0_2 (c : Dev nD) (t : Fin cfg0.N) : (dat0 W c).after 2 t = blk0 W c 2 t := by dsimp only [dat0]
theorem aft0_3 (c : Dev nD) (t : Fin cfg0.N) : (dat0 W c).after 3 t = blk0 W c 3 t := by dsimp only [dat0]
theorem aft0_4 (c : Dev nD) (t : Fin cfg0.N) : (dat0 W c).after 4 t = blk0 W c 4 t := by dsimp only [dat0]
theorem aft0_5 (c : Dev nD) (t : Fin cfg0.N) : (dat0 W c).after 5 t = scl (blk0 W c 0 t) (blk0 W c 1 t) (blk0 W c 2 t) (blk0 W c 3 t) (blk0 W c 4 t) := by dsimp only [dat0]
theorem aft0_6 (c : Dev nD) (t : Fin cfg0.N) : (dat0 W c).after 6 t = shf (blk0 W c 0 t) (blk0 W c 1 t) (blk0 W c 2 t) (blk0 W c 3 t) (blk0 W c 4 t) := by dsimp only [dat0]

/-- An input's current staging buffer holds its block at every point. -/
theorem bef0_0 (c : Dev nD) (t : Fin cfg0.N) (d) : (dat0 W c).before 0 t d = blk0 W c 0 t :=
  ((dat0 W c).before_in_eq_fetched 0 rfl (fun _ => rfl) (fun _ _ _ => rfl) (fun t => by rw [aft0_0]; unfold Dat.blockOf blk0; rw [dat0_A]; try rfl) t d).trans
    (by unfold Dat.fetched Dat.blockOf blk0; rw [dat0_A]; try rfl)
theorem bef0_1 (c : Dev nD) (t : Fin cfg0.N) (d) : (dat0 W c).before 1 t d = blk0 W c 1 t :=
  ((dat0 W c).before_in_eq_fetched 1 rfl (fun _ => rfl) (fun _ _ _ => rfl) (fun t => by rw [aft0_1]; unfold Dat.blockOf blk0; rw [dat0_A]; try rfl) t d).trans
    (by unfold Dat.fetched Dat.blockOf blk0; rw [dat0_A]; try rfl)
theorem bef0_2 (c : Dev nD) (t : Fin cfg0.N) (d) : (dat0 W c).before 2 t d = blk0 W c 2 t :=
  ((dat0 W c).before_in_eq_fetched 2 rfl (fun _ => rfl) (fun _ _ _ => rfl) (fun t => by rw [aft0_2]; unfold Dat.blockOf blk0; rw [dat0_A]; try rfl) t d).trans
    (by unfold Dat.fetched Dat.blockOf blk0; rw [dat0_A]; try rfl)
theorem bef0_3 (c : Dev nD) (t : Fin cfg0.N) (d) : (dat0 W c).before 3 t d = blk0 W c 3 t :=
  ((dat0 W c).before_in_eq_fetched 3 rfl (fun _ => rfl) (fun _ _ _ => rfl) (fun t => by rw [aft0_3]; unfold Dat.blockOf blk0; rw [dat0_A]; try rfl) t d).trans
    (by unfold Dat.fetched Dat.blockOf blk0; rw [dat0_A]; try rfl)
theorem bef0_4 (c : Dev nD) (t : Fin cfg0.N) (d) : (dat0 W c).before 4 t d = blk0 W c 4 t :=
  ((dat0 W c).before_in_eq_fetched 4 rfl (fun _ => rfl) (fun _ _ _ => rfl) (fun t => by rw [aft0_4]; unfold Dat.blockOf blk0; rw [dat0_A]; try rfl) t d).trans
    (by unfold Dat.fetched Dat.blockOf blk0; rw [dat0_A]; try rfl)

/-- What the body is called with at point `t`, the windows one by one, -/
def pre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d)) ∗ (∃ d, owns (c : Thread nD τ) (st0_1 t) fullShare ((dat0 W c).before 1 t d)) ∗ (∃ d, owns (c : Thread nD τ) (st0_2 t) fullShare ((dat0 W c).before 2 t d)) ∗ (∃ d, owns (c : Thread nD τ) (st0_3 t) fullShare ((dat0 W c).before 3 t d)) ∗ (∃ d, owns (c : Thread nD τ) (st0_4 t) fullShare ((dat0 W c).before 4 t d)) ∗ (∃ d, owns (c : Thread nD τ) (st0_5 t) fullShare ((dat0 W c).before 5 t d)) ∗ (∃ d, owns (c : Thread nD τ) (st0_6 t) fullShare ((dat0 W c).before 6 t d)))
/-- and what it returns. -/
def post0 (c : Dev nD) (t : Fin cfg0.N) : sProp 𝕄 :=
  iprop((dat0 W c).Φ t.succ ∗ (dat0 W c).owesAt () t.succ
    ∗ owns (c : Thread nD τ) (st0_0 t) fullShare ((dat0 W c).after 0 t) ∗ owns (c : Thread nD τ) (st0_1 t) fullShare ((dat0 W c).after 1 t) ∗ owns (c : Thread nD τ) (st0_2 t) fullShare ((dat0 W c).after 2 t) ∗ owns (c : Thread nD τ) (st0_3 t) fullShare ((dat0 W c).after 3 t) ∗ owns (c : Thread nD τ) (st0_4 t) fullShare ((dat0 W c).after 4 t) ∗ owns (c : Thread nD τ) (st0_5 t) fullShare ((dat0 W c).after 5 t) ∗ owns (c : Thread nD τ) (st0_6 t) fullShare ((dat0 W c).after 6 t))

set_option maxHeartbeats 1000000 in
theorem point0 (c : Dev nD) (t : Fin cfg0.N) :
    pre0 W c t ⊢ wp frame (wpE (defs₀ (F := F)) Variants.none c none) Set.univ (bodyAt0 t) (fun _ => post0 W c t) := by
  unfold pre0 post0 bodyAt0
  simp only [bef0_0, bef0_1, bef0_2, bef0_3, bef0_4]
  rw [show (dat0 W c).Φ t.succ = Pipeline.scopedRest spec0 c from rfl, show (dat0 W c).Φ t.castSucc = Pipeline.scopedRest spec0 c from rfl,
    show (dat0 W c).owesAt () t.succ = (dat0 W c).owesAt () t.castSucc from rfl,
    aft0_0, aft0_1, aft0_2, aft0_3, aft0_4, aft0_5, aft0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound0 c Set.univ (grid0.coords t) _ _ _ _ _ _ _ _ _ _ _ _ _ _ (blk0 W c 0 t) (blk0 W c 1 t) (blk0 W c 2 t) (blk0 W c 3 t) (blk0 W c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row0 (t : Fin cfg0.N) :
    defs₀ (F := F) .tc cfg0.body (cfg0.bodyArgs t (cfg0.slots t)) = bodyAt0 t := by
  unfold defs₀; rw [Defs.onTc_tc]

/-- The body at every point. -/
theorem body0 (c : Dev nD) : BodyObligation (dat0 (F := F) W c) (defs₀ (F := F)) Variants.none () Set.univ := fun t => by
  rw [bigSep_W0, bigSep_W0, row0]
  exact triple_restated (point0 W c t) rfl .rfl fun _ => .rfl

end Cert.KernelIdeal.Main

end
-- ==== Proof.Region1.lean ====
/-
  The selection call: at each pixel the style code of the segment with the largest index, as a product with a one-hot row.
-/
module

public import proofs.«01_k».proof.Proof.Seg

@[expose] public section

set_option maxRecDepth 16384

noncomputable section

namespace Cert.KernelIdeal.Main

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The style rows of an image, from the call's input blocks. -/
def sel (x0 : Vec F S1x12544x19 .f32) (x1 : Vec F S1x19x64 .f32) : Vec F S1x12544x64 .bf16 :=
  k1_pay1 (View.ld x0 (Rect.unit (s := S1x12544x19) ![0, 0, 0] S1x12544x19.size inb_S1x12544x19_S1x12544x19_0_0_0)) (View.ld x1 (Rect.unit (s := S1x19x64) ![0, 0, 0] S1x19x64.size inb_S1x19x64_S1x19x64_0_0_0))

set_option maxHeartbeats 1000000 in
/-- The body over whole buffers. -/
theorem sound1 (c : Dev nD) (E : Set ℕ) (i : grid1.Coords) (arg1 : Memref sig .tc .vmem S1x12544x19 .f32) (harg1 : arg1.IsWhole) (arg2 : Memref sig .tc .vmem S1x19x64 .f32) (harg2 : arg2.IsWhole) (arg3 : Memref sig .tc .vmem S1x12544x64 .bf16) (harg3 : arg3.IsWhole) (x0 : Vec F S1x12544x19 .f32) (x1 : Vec F S1x19x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (sel x0 x1)) -∗ K ⟨⟩))
      ⊢ wp frame (wpE (defs₀ (F := F)) Variants.none c none) E (cc1__select_kernel i arg1 harg1 arg2 harg2 arg3 harg3) K := by
  simp only [cc1__select_kernel_eq_skeleton]; unfold cc1__select_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_full _ _ _ _ []).trans ?_
  rfl

/-! ## What the call is given and what it leaves -/

variable (W : Val F)

/-- Window `w`'s block at point `t`, read off its array. -/
def blk1 (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

/-- The call's data: arrays as found, blocks left in place, results from the input blocks. -/
def dat1 (c : Dev nD) : Dat τ (Elt F) Unit ℕ (UR sig nD τ) ℕ cfg1 c where
  A w := W c (Pipeline.arrRef spec1 w)
  after w t := match w with
    | ⟨0, _⟩ => blk1 W c 0 t
    | ⟨1, _⟩ => blk1 W c 1 t
    | ⟨2, _⟩ => sel (blk1 W c 0 t) (blk1 W c 1 t)
  Φ _ := Pipeline.scopedRest spec1 c
  q w := Pipeline.shareOf spec1 w
  owed _ := 0

theorem dat1_A (c : Dev nD) (w : Fin cfg1.W) : (dat1 W c).A w = W c (Pipeline.arrRef spec1 w) := by dsimp only [dat1]
theorem aft1_0 (c : Dev nD) (t : Fin cfg1.N) : (dat1 W c).after 0 t = blk1 W c 0 t := by dsimp only [dat1]
theorem aft1_1 (c : Dev nD) (t : Fin cfg1.N) : (dat1 W c).after 1 t = blk1 W c 1 t := by dsimp only [dat1]
theorem aft1_2 (c : Dev nD) (t : Fin cfg1.N) : (dat1 W c).after 2 t = sel (blk1 W c 0 t) (blk1 W c 1 t) := by dsimp only [dat1]

/-- An input's current staging buffer holds its block at every point. -/
theorem bef1_0 (c : Dev nD) (t : Fin cfg1.N) (d) : (dat1 W c).before 0 t d = blk1 W c 0 t :=
  ((dat1 W c).before_in_eq_fetched 0 rfl (fun _ => rfl) (fun _ _ _ => rfl) (fun t => by rw [aft1_0]; unfold Dat.blockOf blk1; rw [dat1_A]; try rfl) t d).trans
    (by unfold Dat.fetched Dat.blockOf blk1; rw [dat1_A]; try rfl)
theorem bef1_1 (c : Dev nD) (t : Fin cfg1.N) (d) : (dat1 W c).before 1 t d = blk1 W c 1 t :=
  ((dat1 W c).before_in_eq_fetched 1 rfl (fun _ => rfl) (fun _ _ _ => rfl) (fun t => by rw [aft1_1]; unfold Dat.blockOf blk1; rw [dat1_A]; try rfl) t d).trans
    (by unfold Dat.fetched Dat.blockOf blk1; rw [dat1_A]; try rfl)

/-- What the body is called with at point `t`, the windows one by one, -/
def pre1 (c : Dev nD) (t : Fin cfg1.N) : sProp 𝕄 :=
  iprop((dat1 W c).Φ t.castSucc ∗ (dat1 W c).owesAt () t.castSucc
    ∗ (∃ d, owns (c : Thread nD τ) (st1_0 t) fullShare ((dat1 W c).before 0 t d)) ∗ (∃ d, owns (c : Thread nD τ) (st1_1 t) fullShare ((dat1 W c).before 1 t d)) ∗ (∃ d, owns (c : Thread nD τ) (st1_2 t) fullShare ((dat1 W c).before 2 t d)))
/-- and what it returns. -/
def post1 (c : Dev nD) (t : Fin cfg1.N) : sProp 𝕄 :=
  iprop((dat1 W c).Φ t.succ ∗ (dat1 W c).owesAt () t.succ
    ∗ owns (c : Thread nD τ) (st1_0 t) fullShare ((dat1 W c).after 0 t) ∗ owns (c : Thread nD τ) (st1_1 t) fullShare ((dat1 W c).after 1 t) ∗ owns (c : Thread nD τ) (st1_2 t) fullShare ((dat1 W c).after 2 t))

set_option maxHeartbeats 1000000 in
theorem point1 (c : Dev nD) (t : Fin cfg1.N) :
    pre1 W c t ⊢ wp frame (wpE (defs₀ (F := F)) Variants.none c none) Set.univ (bodyAt1 t) (fun _ => post1 W c t) := by
  unfold pre1 post1 bodyAt1
  simp only [bef1_0, bef1_1]
  rw [show (dat1 W c).Φ t.succ = Pipeline.scopedRest spec1 c from rfl, show (dat1 W c).Φ t.castSucc = Pipeline.scopedRest spec1 c from rfl,
    show (dat1 W c).owesAt () t.succ = (dat1 W c).owesAt () t.castSucc from rfl,
    aft1_0, aft1_1, aft1_2]
  iintro ⟨HΦ, Ho, ⟨%d0, H0⟩, ⟨%d1, H1⟩, ⟨%d2, H2⟩⟩
  iapply (sound1 c Set.univ (grid1.coords t) _ _ _ _ _ _ (blk1 W c 0 t) (blk1 W c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem row1 (t : Fin cfg1.N) :
    defs₀ (F := F) .tc cfg1.body (cfg1.bodyArgs t (cfg1.slots t)) = bodyAt1 t := by
  unfold defs₀; rw [Defs.onTc_tc]

/-- The body at every point. -/
theorem body1 (c : Dev nD) : BodyObligation (dat1 (F := F) W c) (defs₀ (F := F)) Variants.none () Set.univ := fun t => by
  rw [bigSep_W1, bigSep_W1, row1]
  exact triple_restated (point1 W c t) rfl .rfl fun _ => .rfl

end Cert.KernelIdeal.Main

end
-- ==== Proof.Region2.lean ====
/-
  The main call: a block of rows of the result at each point.
-/
module

public import proofs.«01_k».proof.Proof.Seg

@[expose] public section

set_option maxRecDepth 16384

noncomputable section

namespace Cert.KernelIdeal.Main

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the call is given and what it leaves -/

variable (W : Val F)

/-- Window `w`'s block at point `t`, read off its array. -/
def blk2 (c : Dev nD) (w : Fin cfg2.W) (t : Fin cfg2.N) : ((cfg2.win w).xblock (cfg2.grid.coords t)).Idx → Elt F (cfg2.win w).elt :=
  ((cfg2.win w).blk t).view.read (Elt F) (W c (Pipeline.arrRef spec2 w))

/-- The call's data: arrays as found, blocks left in place, results from the input blocks. -/
def dat2 (c : Dev nD) : Dat τ (Elt F) Unit ℕ (UR sig nD τ) ℕ cfg2 c where
  A w := W c (Pipeline.arrRef spec2 w)
  after w t := match w with
    | ⟨0, _⟩ => blk2 W c 0 t
    | ⟨1, _⟩ => blk2 W c 1 t
    | ⟨2, _⟩ => blk2 W c 2 t
    | ⟨3, _⟩ => blk2 W c 3 t
    | ⟨4, _⟩ => blk2 W c 4 t
    | ⟨5, _⟩ => blk2 W c 5 t
    | ⟨6, _⟩ => blk2 W c 6 t
    | ⟨7, _⟩ => blk2 W c 7 t
    | ⟨8, _⟩ => blk2 W c 8 t
    | ⟨9, _⟩ => blk2 W c 9 t
    | ⟨10, _⟩ => blk2 W c 10 t
    | ⟨11, _⟩ => blk2 W c 11 t
    | ⟨12, _⟩ => blk2 W c 12 t
    | ⟨13, _⟩ => blk2 W c 13 t
    | ⟨14, _⟩ => blk2 W c 14 t
    | ⟨15, _⟩ => blk2 W c 15 t
    | ⟨16, _⟩ => out16 (blk2 W c 6 t) (blk2 W c 7 t) (blk2 W c 8 t) (blk2 W c 9 t) (blk2 W c 10 t) (acc9 (style19 (grid2.coords t) (blk2 W c 0 t) (blk2 W c 1 t) (blk2 W c 2 t)) (hid20 (grid2.coords t) (blk2 W c 3 t) (blk2 W c 4 t) (blk2 W c 5 t) (blk2 W c 13 t) (blk2 W c 14 t)) (blk2 W c 11 t) (blk2 W c 12 t) (blk2 W c 15 t))
    | ⟨_ + 17, h⟩ => absurd h (Nat.not_lt.2 (Nat.le_add_left _ _))
  Φ _ := Pipeline.scopedRest spec2 c
  q w := Pipeline.shareOf spec2 w
  owed _ := 0

theorem dat2_A (c : Dev nD) (w : Fin cfg2.W) : (dat2 W c).A w = W c (Pipeline.arrRef spec2 w) := by dsimp only [dat2]
theorem aft2_0 (c : Dev nD) (t : Fin cfg2.N) : (dat2 W c).after 0 t = blk2 W c 0 t := by dsimp only [dat2]
theorem aft2_1 (c : Dev nD) (t : Fin cfg2.N) : (dat2 W c).after 1 t = blk2 W c 1 t := by dsimp only [dat2]
theorem aft2_2 (c : Dev nD) (t : Fin cfg2.N) : (dat2 W c).after 2 t = blk2 W c 2 t := by dsimp only [dat2]
theorem aft2_3 (c : Dev nD) (t : Fin cfg2.N) : (dat2 W c).after 3 t = blk2 W c 3 t := by dsimp only [dat2]
theorem aft2_4 (c : Dev nD) (t : Fin cfg2.N) : (dat2 W c).after 4 t = blk2 W c 4 t := by dsimp only [dat2]
theorem aft2_5 (c : Dev nD) (t : Fin cfg2.N) : (dat2 W c).after 5 t = blk2 W c 5 t := by dsimp only [dat2]
theorem aft2_6 (c : Dev nD) (t : Fin cfg2.N) : (dat2 W c).after 6 t = blk2 W c 6 t := by dsimp only [dat2]
theorem aft2_7 (c : Dev nD) (t : Fin cfg2.N) : (dat2 W c).after 7 t = blk2 W c 7 t := by dsimp only [dat2]
theorem aft2_8 (c : Dev nD) (t : Fin cfg2.N) : (dat2 W c).after 8 t = blk2 W c 8 t := by dsimp only [dat2]
theorem aft2_9 (c : Dev nD) (t : Fin cfg2.N) : (dat2 W c).after 9 t = blk2 W c 9 t := by dsimp only [dat2]
theorem aft2_10 (c : Dev nD) (t : Fin cfg2.N) : (dat2 W c).after 10 t = blk2 W c 10 t := by dsimp only [dat2]
theorem aft2_11 (c : Dev nD) (t : Fin cfg2.N) : (dat2 W c).after 11 t = blk2 W c 11 t := by dsimp only [dat2]
theorem aft2_12 (c : Dev nD) (t : Fin cfg2.N) : (dat2 W c).after 12 t = blk2 W c 12 t := by dsimp only [dat2]
theorem aft2_13 (c : Dev nD) (t : Fin cfg2.N) : (dat2 W c).after 13 t = blk2 W c 13 t := by dsimp only [dat2]
theorem aft2_14 (c : Dev nD) (t : Fin cfg2.N) : (dat2 W c).after 14 t = blk2 W c 14 t := by dsimp only [dat2]
theorem aft2_15 (c : Dev nD) (t : Fin cfg2.N) : (dat2 W c).after 15 t = blk2 W c 15 t := by dsimp only [dat2]
theorem aft2_16 (c : Dev nD) (t : Fin cfg2.N) : (dat2 W c).after 16 t = out16 (blk2 W c 6 t) (blk2 W c 7 t) (blk2 W c 8 t) (blk2 W c 9 t) (blk2 W c 10 t) (acc9 (style19 (grid2.coords t) (blk2 W c 0 t) (blk2 W c 1 t) (blk2 W c 2 t)) (hid20 (grid2.coords t) (blk2 W c 3 t) (blk2 W c 4 t) (blk2 W c 5 t) (blk2 W c 13 t) (blk2 W c 14 t)) (blk2 W c 11 t) (blk2 W c 12 t) (blk2 W c 15 t)) := by dsimp only [dat2]

/-- An input's current staging buffer holds its block at every point. -/
theorem bef2_0 (c : Dev nD) (t : Fin cfg2.N) (d) : (dat2 W c).before 0 t d = blk2 W c 0 t :=
  ((dat2 W c).before_in_eq_fetched 0 rfl (fun _ => rfl) (fun _ _ _ => rfl) (fun t => by rw [aft2_0]; unfold Dat.blockOf blk2; rw [dat2_A]; try rfl) t d).trans
    (by unfold Dat.fetched Dat.blockOf blk2; rw [dat2_A]; try rfl)
theorem bef2_1 (c : Dev nD) (t : Fin cfg2.N) (d) : (dat2 W c).before 1 t d = blk2 W c 1 t :=
  ((dat2 W c).before_in_eq_fetched 1 rfl (fun _ => rfl) (fun _ _ _ => rfl) (fun t => by rw [aft2_1]; unfold Dat.blockOf blk2; rw [dat2_A]; try rfl) t d).trans
    (by unfold Dat.fetched Dat.blockOf blk2; rw [dat2_A]; try rfl)
theorem bef2_2 (c : Dev nD) (t : Fin cfg2.N) (d) : (dat2 W c).before 2 t d = blk2 W c 2 t :=
  ((dat2 W c).before_in_eq_fetched 2 rfl (fun _ => rfl) (fun _ _ _ => rfl) (fun t => by rw [aft2_2]; unfold Dat.blockOf blk2; rw [dat2_A]; try rfl) t d).trans
    (by unfold Dat.fetched Dat.blockOf blk2; rw [dat2_A]; try rfl)
theorem bef2_3 (c : Dev nD) (t : Fin cfg2.N) (d) : (dat2 W c).before 3 t d = blk2 W c 3 t :=
  ((dat2 W c).before_in_eq_fetched 3 rfl (fun _ => rfl) (fun _ _ _ => rfl) (fun t => by rw [aft2_3]; unfold Dat.blockOf blk2; rw [dat2_A]; try rfl) t d).trans
    (by unfold Dat.fetched Dat.blockOf blk2; rw [dat2_A]; try rfl)
theorem bef2_4 (c : Dev nD) (t : Fin cfg2.N) (d) : (dat2 W c).before 4 t d = blk2 W c 4 t :=
  ((dat2 W c).before_in_eq_fetched 4 rfl (fun _ => rfl) (fun _ _ _ => rfl) (fun t => by rw [aft2_4]; unfold Dat.blockOf blk2; rw [dat2_A]; try rfl) t d).trans
    (by unfold Dat.fetched Dat.blockOf blk2; rw [dat2_A]; try rfl)
theorem bef2_5 (c : Dev nD) (t : Fin cfg2.N) (d) : (dat2 W c).before 5 t d = blk2 W c 5 t :=
  ((dat2 W c).before_in_eq_fetched 5 rfl (fun _ => rfl) (fun _ _ _ => rfl) (fun t => by rw [aft2_5]; unfold Dat.blockOf blk2; rw [dat2_A]; try rfl) t d).trans
    (by unfold Dat.fetched Dat.blockOf blk2; rw [dat2_A]; try rfl)
theorem bef2_6 (c : Dev nD) (t : Fin cfg2.N) (d) : (dat2 W c).before 6 t d = blk2 W c 6 t :=
  ((dat2 W c).before_in_eq_fetched 6 rfl (fun _ => rfl) (fun _ _ _ => rfl) (fun t => by rw [aft2_6]; unfold Dat.blockOf blk2; rw [dat2_A]; try rfl) t d).trans
    (by unfold Dat.fetched Dat.blockOf blk2; rw [dat2_A]; try rfl)
theorem bef2_7 (c : Dev nD) (t : Fin cfg2.N) (d) : (dat2 W c).before 7 t d = blk2 W c 7 t :=
  ((dat2 W c).before_in_eq_fetched 7 rfl (fun _ => rfl) (fun _ _ _ => rfl) (fun t => by rw [aft2_7]; unfold Dat.blockOf blk2; rw [dat2_A]; try rfl) t d).trans
    (by unfold Dat.fetched Dat.blockOf blk2; rw [dat2_A]; try rfl)
theorem bef2_8 (c : Dev nD) (t : Fin cfg2.N) (d) : (dat2 W c).before 8 t d = blk2 W c 8 t :=
  ((dat2 W c).before_in_eq_fetched 8 rfl (fun _ => rfl) (fun _ _ _ => rfl) (fun t => by rw [aft2_8]; unfold Dat.blockOf blk2; rw [dat2_A]; try rfl) t d).trans
    (by unfold Dat.fetched Dat.blockOf blk2; rw [dat2_A]; try rfl)
theorem bef2_9 (c : Dev nD) (t : Fin cfg2.N) (d) : (dat2 W c).before 9 t d = blk2 W c 9 t :=
  ((dat2 W c).before_in_eq_fetched 9 rfl (fun _ => rfl) (fun _ _ _ => rfl) (fun t => by rw [aft2_9]; unfold Dat.blockOf blk2; rw [dat2_A]; try rfl) t d).trans
    (by unfold Dat.fetched Dat.blockOf blk2; rw [dat2_A]; try rfl)
theorem bef2_10 (c : Dev nD) (t : Fin cfg2.N) (d) : (dat2 W c).before 10 t d = blk2 W c 10 t :=
  ((dat2 W c).before_in_eq_fetched 10 rfl (fun _ => rfl) (fun _ _ _ => rfl) (fun t => by rw [aft2_10]; unfold Dat.blockOf blk2; rw [dat2_A]; try rfl) t d).trans
    (by unfold Dat.fetched Dat.blockOf blk2; rw [dat2_A]; try rfl)
theorem bef2_11 (c : Dev nD) (t : Fin cfg2.N) (d) : (dat2 W c).before 11 t d = blk2 W c 11 t :=
  ((dat2 W c).before_in_eq_fetched 11 rfl (fun _ => rfl) (fun _ _ _ => rfl) (fun t => by rw [aft2_11]; unfold Dat.blockOf blk2; rw [dat2_A]; try rfl) t d).trans
    (by unfold Dat.fetched Dat.blockOf blk2; rw [dat2_A]; try rfl)
theorem bef2_12 (c : Dev nD) (t : Fin cfg2.N) (d) : (dat2 W c).before 12 t d = blk2 W c 12 t :=
  ((dat2 W c).before_in_eq_fetched 12 rfl (fun _ => rfl) (fun _ _ _ => rfl) (fun t => by rw [aft2_12]; unfold Dat.blockOf blk2; rw [dat2_A]; try rfl) t d).trans
    (by unfold Dat.fetched Dat.blockOf blk2; rw [dat2_A]; try rfl)
theorem bef2_13 (c : Dev nD) (t : Fin cfg2.N) (d) : (dat2 W c).before 13 t d = blk2 W c 13 t :=
  ((dat2 W c).before_in_eq_fetched 13 rfl (fun _ => rfl) (fun _ _ _ => rfl) (fun t => by rw [aft2_13]; unfold Dat.blockOf blk2; rw [dat2_A]; try rfl) t d).trans
    (by unfold Dat.fetched Dat.blockOf blk2; rw [dat2_A]; try rfl)
theorem bef2_14 (c : Dev nD) (t : Fin cfg2.N) (d) : (dat2 W c).before 14 t d = blk2 W c 14 t :=
  ((dat2 W c).before_in_eq_fetched 14 rfl (fun _ => rfl) (fun _ _ _ => rfl) (fun t => by rw [aft2_14]; unfold Dat.blockOf blk2; rw [dat2_A]; try rfl) t d).trans
    (by unfold Dat.fetched Dat.blockOf blk2; rw [dat2_A]; try rfl)
theorem bef2_15 (c : Dev nD) (t : Fin cfg2.N) (d) : (dat2 W c).before 15 t d = blk2 W c 15 t :=
  ((dat2 W c).before_in_eq_fetched 15 rfl (fun _ => rfl) (fun _ _ _ => rfl) (fun t => by rw [aft2_15]; unfold Dat.blockOf blk2; rw [dat2_A]; try rfl) t d).trans
    (by unfold Dat.fetched Dat.blockOf blk2; rw [dat2_A]; try rfl)

/-- What the body is called with at point `t`, the windows one by one, -/
def pre2 (c : Dev nD) (t : Fin cfg2.N) : sProp 𝕄 :=
  iprop((dat2 W c).Φ t.castSucc ∗ (dat2 W c).owesAt () t.castSucc
    ∗ (∃ d, owns (c : Thread nD τ) (st2_0 t) fullShare ((dat2 W c).before 0 t d)) ∗ (∃ d, owns (c : Thread nD τ) (st2_1 t) fullShare ((dat2 W c).before 1 t d)) ∗ (∃ d, owns (c : Thread nD τ) (st2_2 t) fullShare ((dat2 W c).before 2 t d)) ∗ (∃ d, owns (c : Thread nD τ) (st2_3 t) fullShare ((dat2 W c).before 3 t d)) ∗ (∃ d, owns (c : Thread nD τ) (st2_4 t) fullShare ((dat2 W c).before 4 t d)) ∗ (∃ d, owns (c : Thread nD τ) (st2_5 t) fullShare ((dat2 W c).before 5 t d)) ∗ (∃ d, owns (c : Thread nD τ) (st2_6 t) fullShare ((dat2 W c).before 6 t d)) ∗ (∃ d, owns (c : Thread nD τ) (st2_7 t) fullShare ((dat2 W c).before 7 t d)) ∗ (∃ d, owns (c : Thread nD τ) (st2_8 t) fullShare ((dat2 W c).before 8 t d)) ∗ (∃ d, owns (c : Thread nD τ) (st2_9 t) fullShare ((dat2 W c).before 9 t d)) ∗ (∃ d, owns (c : Thread nD τ) (st2_10 t) fullShare ((dat2 W c).before 10 t d)) ∗ (∃ d, owns (c : Thread nD τ) (st2_11 t) fullShare ((dat2 W c).before 11 t d)) ∗ (∃ d, owns (c : Thread nD τ) (st2_12 t) fullShare ((dat2 W c).before 12 t d)) ∗ (∃ d, owns (c : Thread nD τ) (st2_13 t) fullShare ((dat2 W c).before 13 t d)) ∗ (∃ d, owns (c : Thread nD τ) (st2_14 t) fullShare ((dat2 W c).before 14 t d)) ∗ (∃ d, owns (c : Thread nD τ) (st2_15 t) fullShare ((dat2 W c).before 15 t d)) ∗ (∃ d, owns (c : Thread nD τ) (st2_16 t) fullShare ((dat2 W c).before 16 t d)))
/-- and what it returns. -/
def post2 (c : Dev nD) (t : Fin cfg2.N) : sProp 𝕄 :=
  iprop((dat2 W c).Φ t.succ ∗ (dat2 W c).owesAt () t.succ
    ∗ owns (c : Thread nD τ) (st2_0 t) fullShare ((dat2 W c).after 0 t) ∗ owns (c : Thread nD τ) (st2_1 t) fullShare ((dat2 W c).after 1 t) ∗ owns (c : Thread nD τ) (st2_2 t) fullShare ((dat2 W c).after 2 t) ∗ owns (c : Thread nD τ) (st2_3 t) fullShare ((dat2 W c).after 3 t) ∗ owns (c : Thread nD τ) (st2_4 t) fullShare ((dat2 W c).after 4 t) ∗ owns (c : Thread nD τ) (st2_5 t) fullShare ((dat2 W c).after 5 t) ∗ owns (c : Thread nD τ) (st2_6 t) fullShare ((dat2 W c).after 6 t) ∗ owns (c : Thread nD τ) (st2_7 t) fullShare ((dat2 W c).after 7 t) ∗ owns (c : Thread nD τ) (st2_8 t) fullShare ((dat2 W c).after 8 t) ∗ owns (c : Thread nD τ) (st2_9 t) fullShare ((dat2 W c).after 9 t) ∗ owns (c : Thread nD τ) (st2_10 t) fullShare ((dat2 W c).after 10 t) ∗ owns (c : Thread nD τ) (st2_11 t) fullShare ((dat2 W c).after 11 t) ∗ owns (c : Thread nD τ) (st2_12 t) fullShare ((dat2 W c).after 12 t) ∗ owns (c : Thread nD τ) (st2_13 t) fullShare ((dat2 W c).after 13 t) ∗ owns (c : Thread nD τ) (st2_14 t) fullShare ((dat2 W c).after 14 t) ∗ owns (c : Thread nD τ) (st2_15 t) fullShare ((dat2 W c).after 15 t) ∗ owns (c : Thread nD τ) (st2_16 t) fullShare ((dat2 W c).after 16 t))

set_option maxHeartbeats 1000000 in
theorem point2 (c : Dev nD) (t : Fin cfg2.N) :
    pre2 W c t ⊢ wp frame (wpE (defs₀ (F := F)) Variants.none c none) Set.univ (bodyAt2 t) (fun _ => post2 W c t) := by
  unfold pre2 post2 bodyAt2
  simp only [bef2_0, bef2_1, bef2_2, bef2_3, bef2_4, bef2_5, bef2_6, bef2_7, bef2_8, bef2_9, bef2_10, bef2_11, bef2_12, bef2_13, bef2_14, bef2_15]
  rw [show (dat2 W c).Φ t.succ = Pipeline.scopedRest spec2 c from rfl, show (dat2 W c).Φ t.castSucc = Pipeline.scopedRest spec2 c from rfl,
    show (dat2 W c).owesAt () t.succ = (dat2 W c).owesAt () t.castSucc from rfl,
    aft2_0, aft2_1, aft2_2, aft2_3, aft2_4, aft2_5, aft2_6, aft2_7, aft2_8, aft2_9, aft2_10, aft2_11, aft2_12, aft2_13, aft2_14, aft2_15, aft2_16]
  rw [scopedRest2_eq]
  iintro ⟨⟨S0, S1, S2, S3, S4, S5, S6, S7, S8, S9, S10, S11, S12, S13, S14, S15, S16, S17, S18, S19, X0, X1, X2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (body_sound c Set.univ (grid2.coords t) _ _ _ _ _ _ _ _ _ _ _ _ _ _ _ _ _ _ _ _ _ _ _ _ _ _ _ _ _ _ _ _ _ _ _ _ _ _ _ _ (blk2 W c 0 t) (blk2 W c 1 t) (blk2 W c 2 t) (blk2 W c 3 t) (blk2 W c 4 t) (blk2 W c 5 t) (blk2 W c 6 t) (blk2 W c 7 t) (blk2 W c 8 t) (blk2 W c 9 t) (blk2 W c 10 t) (blk2 W c 11 t) (blk2 W c 12 t) (blk2 W c 13 t) (blk2 W c 14 t) (blk2 W c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [X0]; · iapply (owns_of_pt (F := F) c cc2_scratch0); iexact X0
  isplitl [X1]; · iapply (owns_of_pt (F := F) c cc2_scratch1); iexact X1
  isplitl [X2]; · iapply (owns_of_pt (F := F) c cc2_scratch2); iexact X2
  iintro ⟨H0, H1, H2, H3, H4, H5, H6, H7, H8, H9, H10, H11, H12, H13, H14, H15, H16, X0, X1, X2⟩
  isplitr [Ho H0 H1 H2 H3 H4 H5 H6 H7 H8 H9 H10 H11 H12 H13 H14 H15 H16]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [X0]; · iapply (pt_of_owns (F := F) c cc2_scratch0); iexact X0
    isplitl [X1]; · iapply (pt_of_owns (F := F) c cc2_scratch1); iexact X1
    iapply (pt_of_owns (F := F) c cc2_scratch2); iexact X2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem row2 (t : Fin cfg2.N) :
    defs₀ (F := F) .tc cfg2.body (cfg2.bodyArgs t (cfg2.slots t)) = bodyAt2 t := by
  unfold defs₀; rw [Defs.onTc_tc]

/-- The body at every point. -/
theorem body2 (c : Dev nD) : BodyObligation (dat2 (F := F) W c) (defs₀ (F := F)) Variants.none () Set.univ := fun t => by
  rw [bigSep_W2, bigSep_W2, row2]
  exact triple_restated (point2 W c t) rfl .rfl fun _ => .rfl

end Cert.KernelIdeal.Main

end
-- ==== Proof.Run.lean ====
/-
  The whole program's run: the host's three stretches and the three kernel calls in turn, each buffer followed from
  the launch to the end.
-/
module

public import proofs.«01_k».proof.Proof.Region0
public import proofs.«01_k».proof.Proof.Region1
public import proofs.«01_k».proof.Proof.Region2

@[expose] public section

set_option maxRecDepth 16384

noncomputable section

namespace Cert.KernelIdeal.Main

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between items -/

/-- At launch; -/
@[irreducible] def W0 : Val F := fun c b => m (c, b)
/-- after the first stretch; -/
@[irreducible] def W1 : Val F := fun c => StableHlo.after hostOps0 (W0 m c)
/-- after the statistics; -/
@[irreducible] def W2 : Val F := fun c => Function.update (Function.update (W1 m c) main_v64_0 ((dat0 (W1 m) c).arrAt 5 cfg0.N)) main_v64_1 ((dat0 (W1 m) c).arrAt 6 cfg0.N)
/-- after the second stretch; -/
@[irreducible] def W3 : Val F := fun c => StableHlo.after hostOps1 (W2 m c)
/-- after the selection; -/
@[irreducible] def W4 : Val F := fun c => Function.update (W3 m c) main_v67 ((dat1 (W3 m) c).arrAt 2 cfg1.N)
/-- after the third stretch; -/
@[irreducible] def W5 : Val F := fun c => StableHlo.after hostOps2 (W4 m c)
/-- and after the main call. -/
@[irreducible] def W6 : Val F := fun c => Function.update (W5 m c) main_v73 ((dat2 (W5 m) c).arrAt 16 cfg2.N)

theorem W1_of (c : Dev nD) (r : Ref sig .tc) (h : r ∉ hostOps0_W) : W1 m c r = W0 m c r := by
  unfold W1; exact StableHlo.after_of_writes_sub hostOps0 _ hostOps0_writes h
theorem W2_of (c : Dev nD) (r : Ref sig .tc) (h0 : r ≠ main_v64_0) (h1 : r ≠ main_v64_1) : W2 m c r = W1 m c r := by
  unfold W2
  rw [Function.update_of_ne (StableHlo.devRef_ne_of_ne h1), Function.update_of_ne (StableHlo.devRef_ne_of_ne h0)]
theorem W2_scl (c : Dev nD) : W2 m c main_v64_0 = (dat0 (W1 m) c).arrAt 5 cfg0.N := by
  unfold W2
  rw [Function.update_of_ne (StableHlo.devRef_ne_of_ne (by decide)), Function.update_self]
theorem W2_shf (c : Dev nD) : W2 m c main_v64_1 = (dat0 (W1 m) c).arrAt 6 cfg0.N := by
  unfold W2
  rw [Function.update_self]
theorem W3_of (c : Dev nD) (r : Ref sig .tc) (h : r ∉ hostOps1_W) : W3 m c r = W2 m c r := by
  unfold W3; exact StableHlo.after_of_writes_sub hostOps1 _ hostOps1_writes h
theorem W4_of (c : Dev nD) (r : Ref sig .tc) (h : r ≠ main_v67) : W4 m c r = W3 m c r := by
  unfold W4; rw [Function.update_of_ne (StableHlo.devRef_ne_of_ne h)]
theorem W4_sel (c : Dev nD) : W4 m c main_v67 = (dat1 (W3 m) c).arrAt 2 cfg1.N := by
  unfold W4; rw [Function.update_self]
theorem W5_of (c : Dev nD) (r : Ref sig .tc) (h : r ∉ hostOps2_W) : W5 m c r = W4 m c r := by
  unfold W5; exact StableHlo.after_of_writes_sub hostOps2 _ hostOps2_writes h
theorem W6_of (c : Dev nD) (r : Ref sig .tc) (h : r ≠ main_v73) : W6 m c r = W5 m c r := by
  unfold W6; rw [Function.update_of_ne (StableHlo.devRef_ne_of_ne h)]
theorem W6_out (c : Dev nD) : W6 m c main_v73 = (dat2 (W5 m) c).arrAt 16 cfg2.N := by
  unfold W6; rw [Function.update_self]

/-- A buffer nothing writes ends as launched. -/
theorem W6_kept (c : Dev nD) (r : Ref sig .tc) (h0 : r ∉ hostOps0_W) (h1 : r ∉ hostOps1_W) (h2 : r ∉ hostOps2_W)
    (h : r ∉ ([main_v64_0, main_v64_1, main_v67, main_v73] : List (Ref sig .tc))) : W6 m c r = m ((c : Thread nD τ).loc r) := by
  simp only [List.mem_cons, List.not_mem_nil, or_false, not_or] at h
  rw [W6_of m c r h.2.2.2, W5_of m c r h2, W4_of m c r h.2.2.1, W3_of m c r h1, W2_of m c r h.1 h.2.1, W1_of m c r h0]
  unfold W0; rfl

/-! ## The items -/

/-- The three calls' data. -/
def pd : (p : Fin 3) → (c : Dev nD) → Dat τ (Elt F) Unit ℕ (UR sig nD τ) ℕ (cfgs p) c
  | ⟨0, _⟩ => fun c => dat0 (W1 m) c
  | ⟨1, _⟩ => fun c => dat1 (W3 m) c
  | ⟨2, _⟩ => fun c => dat2 (W5 m) c

/-- An array that an item leaves alone is no output's. -/
theorem in_kept {cfg : Cfg sig Λ₀} {c : Dev nD} (dat : Dat τ (Elt F) Unit ℕ (UR sig nD τ) ℕ cfg c) (w : Fin cfg.W) (h : (cfg.win w).isOut = false)
    {X : Buf (Elt F) ((cfg.win w).arr.view.loc (c : Thread nD τ))} (hX : dat.A w = X) : dat.arrAt w cfg.N = X :=
  (dat.arrAt_in w h _).trans hX

theorem in0_ne : ∀ w : Fin cfg0.W, w.val < 5 → Pipeline.arrRef spec0 w ≠ main_v64_0 ∧ Pipeline.arrRef spec0 w ≠ main_v64_1 ∧ (cfg0.win w).isOut = false := by decide
theorem in1_ne : ∀ w : Fin cfg1.W, w.val < 2 → Pipeline.arrRef spec1 w ≠ main_v67 ∧ (cfg1.win w).isOut = false := by decide
theorem in2_ne : ∀ w : Fin cfg2.W, w.val < 16 → Pipeline.arrRef spec2 w ≠ main_v73 ∧ (cfg2.win w).isOut = false := by decide

theorem end0 (c : Dev nD) (w : Fin cfg0.W) : (dat0 (W1 m) c).arrAt w cfg0.N = W2 m c (Pipeline.arrRef spec0 w) := by
  by_cases h : w.val < 5
  · exact in_kept (dat0 (W1 m) c) w (in0_ne w h).2.2 (W2_of m c _ (in0_ne w h).1 (in0_ne w h).2.1).symm
  · have := w.isLt
    change w.val < 7 at this
    by_cases h5 : w.val = 5
    · obtain rfl : w = (5 : Fin 7) := Fin.ext h5
      exact (W2_scl m c).symm
    · obtain rfl : w = (6 : Fin 7) := Fin.ext (by show w.val = 6; omega)
      exact (W2_shf m c).symm
theorem end1 (c : Dev nD) (w : Fin cfg1.W) : (dat1 (W3 m) c).arrAt w cfg1.N = W4 m c (Pipeline.arrRef spec1 w) := by
  by_cases h : w.val < 2
  · exact in_kept (dat1 (W3 m) c) w (in1_ne w h).2 (W4_of m c _ (in1_ne w h).1).symm
  · obtain rfl : w = (2 : Fin 3) := Fin.ext (by have := w.isLt; change w.val < 3 at this; show w.val = 2; omega)
    exact (W4_sel m c).symm
theorem end2 (c : Dev nD) (w : Fin cfg2.W) : (dat2 (W5 m) c).arrAt w cfg2.N = W6 m c (Pipeline.arrRef spec2 w) := by
  by_cases h : w.val < 16
  · exact in_kept (dat2 (W5 m) c) w (in2_ne w h).2 (W6_of m c _ (in2_ne w h).1).symm
  · obtain rfl : w = (16 : Fin 17) := Fin.ext (by have := w.isLt; change w.val < 17 at this; show w.val = 16; omega)
    exact (W6_out m c).symm

def reg0 : RegionSeg (pcfgs (F := F)) adm (pd m) () defs₀ Variants.none L lv 0 :=
  regOf (pd m) 0 launch0.to₀ (W1 m) (W2 m) (body0 (W1 m)) (fun _ _ => rfl) (fun _ => rfl) (fun _ _ => rfl) (fun _ _ _ => rfl) (dat0_A (W1 m)) (end0 m)
    (fun c b hb => W2_of m c b (fun h => hb (h ▸ Finset.mem_image.mpr ⟨(5 : Fin 7), Finset.mem_univ _, rfl⟩)) (fun h => hb (h ▸ Finset.mem_image.mpr ⟨(6 : Fin 7), Finset.mem_univ _, rfl⟩)))
def reg1 : RegionSeg (pcfgs (F := F)) adm (pd m) () defs₀ Variants.none L lv 1 :=
  regOf (pd m) 1 launch1.to₀ (W3 m) (W4 m) (body1 (W3 m)) (fun _ _ => rfl) (fun _ => rfl) (fun _ _ => rfl) (fun _ _ _ => rfl) (dat1_A (W3 m)) (end1 m)
    (fun c b hb => W4_of m c b (fun h => hb (h ▸ Finset.mem_image.mpr ⟨(2 : Fin 3), Finset.mem_univ _, rfl⟩)))
def reg2 : RegionSeg (pcfgs (F := F)) adm (pd m) () defs₀ Variants.none L lv 2 :=
  regOf (pd m) 2 launch₀2 (W5 m) (W6 m) (body2 (W5 m)) (fun _ _ => rfl) (fun _ => rfl) (fun _ _ => rfl) (fun _ _ _ => rfl) (dat2_A (W5 m)) (end2 m)
    (fun c b hb => W6_of m c b (fun h => hb (h ▸ Finset.mem_image.mpr ⟨(16 : Fin 17), Finset.mem_univ _, rfl⟩)))

/-- A stretch of the host's operations over the unscoped buffers. -/
def stretch (ops : List (HloOp τ sig (Elt F))) (hsub : ops.Forall fun op => op.bufs ⊆ StableHlo.tcRefs τ sig) (hfresh : ops.Forall fun op => op.fresh = ∅) (W : Val F) :
    HostSeg (Ix := Unit) (Name := ℕ) (U := UR sig nD τ) (Lvl := ℕ) (pcfgs (F := F)) defs₀ Variants.none L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W Ride

/-- The items in order. -/
abbrev items : List (Seg (pcfgs (F := F)) adm (pd m) () defs₀ Variants.none L lv) :=
  [.host (stretch hostOps0 hostOps0_sub hostOps0_fresh (W0 m)), .region (reg0 m), .host (stretch hostOps1 hostOps1_sub hostOps1_fresh (W2 m)), .region (reg1 m),
    .host (stretch hostOps2 hostOps2_sub hostOps2_fresh (W4 m)), .region (reg2 m)]

theorem pre_of (c : Dev nD) (V V' : Valuation τ sig (Elt F)) (h : V = V') :
    (iprop(StableHlo.held (c : Thread nD τ) (Pipeline.ucRefs τ sig) V ∗ Ride c) : sProp 𝕄)
      ⊢ iprop(StableHlo.held (c : Thread nD τ) (Pipeline.ucRefs τ sig) V' ∗ Ride c) := by rw [h]

theorem last_of (c : Dev nD) (V : Valuation τ sig (Elt F)) :
    (iprop(StableHlo.held (c : Thread nD τ) (Pipeline.ucRefs τ sig) V ∗ Ride c) : sProp 𝕄)
      ⊢ iprop(StableHlo.held (c : Thread nD τ) (Pipeline.ucRefs τ sig) V ∗ ∃ W, owes (c : Thread nD τ) (0 : CellTallies nD τ sig Unit) W) := by
  iintro ⟨H, HO, -⟩
  isplitl [H]; · iexact H
  iexact HO

theorem launch_of (c : Dev nD) :
    (iprop(unscopedBufs c (fun b => m ((c.tc : Thread nD τ).loc b)) ∗ unscopedSems0 c
        ∗ owes (c.tc : Thread nD τ) ((fun _ => 0 : Dev nD → CellTallies nD τ sig Unit) c) ∅ ∗ Pipeline.launchCred (fun _ => 0) c ∗ prngReg c (ρ c) ∗ emp) : sProp 𝕄)
      ⊢ iprop(StableHlo.held (c : Thread nD τ) (Pipeline.ucRefs τ sig) (W0 m c) ∗ Ride c) := by
  rw [← Pipeline.unscopedBufs_held c (W0 m c), show (fun b : Ref sig .tc => W0 m c b) = fun b => m ((c.tc : Thread nD τ).loc b) from by unfold W0; rfl]
  iintro ⟨Hb, -, HO, -, Hp, -⟩
  isplitl [Hb]; · iexact Hb
  isplitl [HO]; · iexists _; iexact HO
  iexists _; iexact Hp

theorem launch_all :
    (bigSep Finset.univ fun c : Dev nD => iprop(unscopedBufs c (fun b => m ((c.tc : Thread nD τ).loc b)) ∗ unscopedSems0 c
        ∗ owes (c.tc : Thread nD τ) ((fun _ => 0 : Dev nD → CellTallies nD τ sig Unit) c) ∅ ∗ Pipeline.launchCred (fun _ => 0) c ∗ prngReg c (ρ c) ∗ emp) : sProp 𝕄)
      ⊢ bigSep Finset.univ fun c : Dev nD => iprop(StableHlo.held (c : Thread nD τ) (Pipeline.ucRefs τ sig) (W0 m c) ∗ Ride c) :=
  bigSep_mono fun c _ => launch_of m ρ c

abbrev EP : Emb (URounds (GSem nD τ sig) Unit) 𝕄 := emb₁

set_option backward.isDefEq.respectTransparency.types false in
/-- Every weakly fair run ends, every unscoped buffer at `W6`, every semaphore counter at zero. -/
theorem run : θ_run defs (onTc (τ := τ) (main (F := F))) ⟨m, fun _ => 0, ρ⟩ (fun r => (∀ (c : Dev nD) (b : Ref sig .tc),
      (Proc.devRef .tc b : DevRef τ sig) ∈ Pipeline.ucRefs τ sig → r.2.mem ((c : Thread nD τ).loc b) = W6 m c b) ∧ r.2.sem = fun _ => 0) := by
  refine Pipeline.θ_run_regions_kit_dev_sems (pcfgs (F := F)) adm (pd m) () cellOf_inj EP defs₀ Variants.none L lv m ρ main (fun _ => items m)
    (fun c Q => by
      rewrite [main_chain c, Seg.run_eq_chain,
        show (items m).map Seg.prog = [
          StableHlo.seq hostOps0, Prog.lift (.customCall (Pipeline.entry 0) ()), StableHlo.seq hostOps1,
          Prog.lift (.customCall (Pipeline.entry 1) ()), StableHlo.seq hostOps2, Prog.lift (.customCall (Pipeline.entry 2) ())] from rfl]
      dsimp (config := { failIfUnchanged := false }) only
      exact .rfl)
    (fun c => by simp only [items, Seg.pipes_host, Seg.pipes_region, Seg.pipes_nil]; decide) (fun _ => 0) (fun _ _ => rfl) (fun _ => iprop(emp))
    (initOf (Pipeline.cells cfgs cellOf_inj) (Pipeline.launchToks cfgs cellOf_inj))
    (by
      iintro Hu
      imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Ride c))
    (Tₙ := fun c => iprop(StableHlo.held (c : Thread nD τ) (Pipeline.ucRefs τ sig) (W6 m c)))
    (hch := fun c => ⟨.rfl, pre_of c _ _ (by unfold W1; rfl), .rfl, pre_of c _ _ (by unfold W3; rfl), .rfl, pre_of c _ _ (by unfold W5; rfl), last_of c _⟩)
    (hinit := ?_)
    (QY := fun c s => ∀ b : Ref sig .tc, (Proc.devRef .tc b : DevRef τ sig) ∈ Pipeline.ucRefs τ sig → s.mem ((c : Thread nD τ).loc b) = W6 m c b)
    (hfin := fun c s' => ?_) (hQ := fun _ h hz => ⟨h, funext fun g => hz g (.inr (regions_no_unscoped g.2))⟩)
  · iintro ⟨H, -⟩
    imodintro
    iapply (launch_all m ρ)
    iexact H
  · unfold StableHlo.held
    iintro ⟨Hh, HSI⟩
    ihave Hr := (pointsTo_read_all (Pipeline.ucRefs τ sig) (fun b => ((c : Thread nD τ).1, b)) (W6 m c) s') $$ [Hh HSI]
    · isplitl [Hh] <;> iassumption
    icases Hr with ⟨%h, HSI⟩
    imodintro
    isplitr
    · ipureintro; exact fun b hb => h _ hb
    iexact HSI

end Cert.KernelIdeal.Main

end
-- ==== Proof.Frame.lean ====
/-
  What a run leaves behind: the arguments as launched, every semaphore counter at zero.
-/
module

public import proofs.«01_k».proof.Proof.Run

@[expose] public section

set_option maxRecDepth 16384

noncomputable section

namespace Cert.KernelIdeal.Main

open Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The program's arguments. -/
abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

/-- No item writes an argument. -/
theorem args_free : ∀ b ∈ args, b ∉ hostOps0_W ∧ b ∉ hostOps1_W ∧ b ∉ hostOps2_W
    ∧ b ∉ ([main_v64_0, main_v64_1, main_v67, main_v73] : List (Ref sig .tc)) := by decide

theorem args_live : ∀ b ∈ args, (Proc.devRef .tc b : DevRef τ sig) ∈ Pipeline.ucRefs τ sig := by
  intro b hb
  refine Finset.mem_filter.mpr ⟨StableHlo.devRef_mem_tcRefs b, ?_⟩
  revert b
  decide

theorem out_live : (Proc.devRef .tc main_v73 : DevRef τ sig) ∈ Pipeline.ucRefs τ sig :=
  Finset.mem_filter.mpr ⟨StableHlo.devRef_mem_tcRefs main_v73, by decide⟩

/-- A final memory that holds `W6` holds the arguments as launched. -/
theorem arg_end {M : (ℓ : Loc nD τ sig) → Buf (Elt F) ℓ} {c : Dev nD}
    (h : ∀ b : Ref sig .tc, (Proc.devRef .tc b : DevRef τ sig) ∈ Pipeline.ucRefs τ sig → M ((c : Thread nD τ).loc b) = W6 m c b)
    (b : Ref sig .tc) (hb : b ∈ args) : M ((c : Thread nD τ).loc b) = m ((c : Thread nD τ).loc b) :=
  (h b (args_live b hb)).trans (W6_kept m c b (args_free b hb).1 (args_free b hb).2.1 (args_free b hb).2.2.1 (args_free b hb).2.2.2)

/-- Every run ends with the result's buffer at `W6`, the arguments as launched and the counters at zero. -/
theorem ends : θ_run defs (onTc (τ := τ) (main (F := F))) ⟨m, fun _ => 0, ρ⟩ (fun r => (∀ c : Dev nD,
      r.2.mem ((c : Thread nD τ).loc main_v73) = W6 m c main_v73
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)) ∧ r.2.sem = fun _ => 0) :=
  (θ_run defs _ _).mono (fun r h => ⟨fun c => by
    refine ⟨h.1 c main_v73 out_live, ?_, ?_, ?_, ?_, ?_, ?_, ?_, ?_, ?_, ?_, ?_, ?_, ?_, ?_, ?_, ?_, ?_, ?_, ?_, ?_⟩ <;> exact arg_end m (h.1 c) _ (by decide), h.2⟩) (run m ρ)

end Cert.KernelIdeal.Main

end
-- ==== Proof.Words.lean ====
/-
  The kernel's program and its idealization are one program: the frame, proved for every reading of the floats, is the
  kernel's at words as well.
-/
module

public import proofs.«01_k».proof.Defs
public import proofs.«01_k».proof.Proof.Gen.Kernel
public import proofs.«01_k».proof.Proof.Frame

@[expose] public section

set_option maxRecDepth 16384

noncomputable section

namespace Cert.Proof

open Idealize.ShloMosaic Idealize.SL.Sem

set_option maxHeartbeats 0 in
/-- The three bodies are the same, -/
theorem bodies_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => exact rfl
  | 1, (t, s) => exact rfl
  | 2, (t, s) => exact rfl

set_option maxHeartbeats 0 in
/-- so are the calls, -/
theorem defs_eq : Cert.Kernel.defs (F := Bits) = Cert.KernelIdeal.defs (F := Bits) := by
  unfold Cert.Kernel.defs Cert.KernelIdeal.defs
  exact congrArg (Pipeline.defs Cert.KernelIdeal.pcfgs) bodies_eq

set_option maxHeartbeats 0 in
/-- and so is the host's program. -/
theorem main_eq : Cert.Kernel.main (F := Bits) = Cert.KernelIdeal.main (F := Bits) := rfl

set_option maxHeartbeats 0 in
/-- The kernel runs, its arguments as launched and its counters at zero. -/
theorem frame_p : Cert.quiescent_Kernel (hKernel := Cert.Kernel.Gen.facts) := fun m g _ => by
  rw [main_eq, defs_eq]
  exact (θ_run Cert.KernelIdeal.defs _ _).mono (fun r h => ⟨fun c => (h.1 c).2, h.2⟩) (Cert.KernelIdeal.Main.ends (F := Bits) m g)

end Cert.Proof

end
-- ==== Proof.Spec.lean ====
/-
  The pieces of the function both programs compute, over the extended reals, at plain coordinates.
-/
module

public import Idealize.ShloMosaic.Lib.Pointwise

@[expose] public section

set_option maxRecDepth 16384

noncomputable section

namespace Cert.Spec

open Idealize.ShloMosaic

section Reads
variable {α : Type}

/-! An array read at two spellings of the same place. -/

theorem rd1 {A : ℕ} (V : (⟨1, ![A]⟩ : Shape).Idx → α) {a a' : Fin A} (ha : a.val = a'.val) : V (ix1 a) = V (ix1 a') := by
  obtain rfl := Fin.ext ha; rfl
theorem rd2 {A B : ℕ} (V : (⟨2, ![A, B]⟩ : Shape).Idx → α) {a a' : Fin A} {b b' : Fin B} (ha : a.val = a'.val) (hb : b.val = b'.val) :
    V (ix2 a b) = V (ix2 a' b') := by
  obtain rfl := Fin.ext ha; obtain rfl := Fin.ext hb; rfl
theorem rd3 {A B C : ℕ} (V : (⟨3, ![A, B, C]⟩ : Shape).Idx → α) {a a' : Fin A} {b b' : Fin B} {c c' : Fin C} (ha : a.val = a'.val) (hb : b.val = b'.val)
    (hc : c.val = c'.val) : V (ix3 a b c) = V (ix3 a' b' c') := by
  obtain rfl := Fin.ext ha; obtain rfl := Fin.ext hb; obtain rfl := Fin.ext hc; rfl
theorem rd4 {A B C D : ℕ} (V : (⟨4, ![A, B, C, D]⟩ : Shape).Idx → α) {a a' : Fin A} {b b' : Fin B} {c c' : Fin C} {d d' : Fin D} (ha : a.val = a'.val)
    (hb : b.val = b'.val) (hc : c.val = c'.val) (hd : d.val = d'.val) : V (ix4 a b c d) = V (ix4 a' b' c' d') := by
  obtain rfl := Fin.ext ha; obtain rfl := Fin.ext hb; obtain rfl := Fin.ext hc; obtain rfl := Fin.ext hd; rfl

end Reads

/-- An array of extended reals. -/
abbrev Arr (s : Shape) : Type := Vec Ideal s .f32

/-- The value of the last mark that is set among the first `n`, zero where none is. -/
def chain (z v : Fin 19 → EReal) : ℕ → EReal
  | 0 => 0
  | n + 1 => if h : n < 19 then (if z ⟨n, h⟩ ≠ 0 then v ⟨n, h⟩ else chain z v n) else chain z v n

/-- The coarse row under a fine one. -/
def up (n : ℕ) : Fin 112 := Fin.ofNat 112 (n / 2)

/-- The style field at a fine pixel. -/
def styl (seg : Arr ⟨4, ![2, 19, 112, 112]⟩) (codes : Arr ⟨3, ![2, 19, 64]⟩) (b : Fin 2) (s : Fin 64) (h q : ℕ) : EReal :=
  chain (fun j => seg (ix4 b j (up h) (up q))) (fun j => codes (ix3 b j s)) 19

/-- A field of 224 rows and columns with a border of zeros, at a place counted from the border. -/
def padz (f : ℕ → ℕ → EReal) (r q : ℕ) : EReal := if 1 ≤ r ∧ r ≤ 224 ∧ 1 ≤ q ∧ q ≤ 224 then f (r - 1) (q - 1) else 0

/-- The three-by-three convolution of the bordered fields, one per input channel. -/
def conv {K : ℕ} (f : Fin K → ℕ → ℕ → EReal) (w : Fin 3 → Fin 3 → Fin K → EReal) (h q : ℕ) : EReal :=
  ∑ dy : Fin 3, ∑ dx : Fin 3, ∑ k, padz (f k) (h + dy) (q + dx) * w dy dx k

/-- The leaky rectifier. -/
def leaky (p : EReal) : EReal := if 0 ≤ p then p else Ideal.ofBits .f32 0x3E4CCCCD#32 * p

/-- A hidden channel of the mask's network. -/
def hidd (mask : Arr ⟨4, ![2, 3, 112, 112]⟩) (w : Arr ⟨4, ![128, 3, 3, 3]⟩) (bias : Arr ⟨1, ![128]⟩) (b : Fin 2) (k : Fin 128) (h q : ℕ) : EReal :=
  leaky (conv (fun c y x => mask (ix4 b c (up y) (up x))) (fun dy dx c => w (ix4 k c dy dx)) h q + bias (ix1 k))

end Cert.Spec

end
-- ==== Proof.Maths.lean ====
/-
  Two facts about the mathematics: the variance from plain sums is the variance, so the folded scale and shift normalise; and
  a weight between zero and one may be multiplied into a convolution's weights.
-/
module

public import proofs.«01_k».proof.Proof.Spec
public import Idealize.ShloMosaic.Lib.Pointwise

@[expose] public section

set_option maxRecDepth 16384

noncomputable section

namespace Cert.Spec

open Idealize.ShloMosaic

/-! ## Instance normalisation -/

/-- A channel's pixels. -/
abbrev Img : Type := Fin 224 → Fin 224 → EReal

def cnt : EReal := Ideal.ofBits .f32 0x47440000#32
def eps : EReal := Ideal.ofBits .f32 0x3727C5AC#32

/-- The mean and the variance from plain sums of the two summands `x + v n`. -/
def kmean (x n : Img) (v : EReal) : EReal := Ideal.div ((∑ h, ∑ q, x h q) + v * ∑ h, ∑ q, n h q) cnt
def kvar (x n : Img) (v : EReal) : EReal :=
  Ideal.div ((∑ h, ∑ q, x h q * x h q) + Ideal.ofBits .f32 0x40000000#32 * v * (∑ h, ∑ q, x h q * n h q) + v * v * ∑ h, ∑ q, n h q * n h q) cnt - kmean x n v * kmean x n v
def kscl (x n : Img) (v w : EReal) : EReal := w * Ideal.div 1 (Ideal.sqrt (kvar x n v + eps))
def kshf (x n : Img) (v w b : EReal) : EReal := b - kmean x n v * kscl x n v w

/-- The mean and the variance themselves. -/
def rmean (y : Img) : EReal := Ideal.div (∑ h, ∑ q, y h q) cnt
def rvar (y : Img) : EReal := Ideal.div (∑ h, ∑ q, (y h q - rmean y) * (y h q - rmean y)) cnt
/-- The normalised pixel. -/
def rnorm (y : Img) (w b : EReal) (h q : Fin 224) : EReal := Ideal.div (y h q - rmean y) (Ideal.sqrt (rvar y + eps)) * w + b

theorem cnt_val : cnt = ((50176 : ℝ) : EReal) := by
  simp [cnt, Ideal.ofBits, Ideal.ieee, -EReal.coe_mul]; norm_num
theorem two_val : Ideal.ofBits .f32 0x40000000#32 = ((2 : ℝ) : EReal) := by
  simp [Ideal.ofBits, Ideal.ieee, -EReal.coe_mul]; norm_num
theorem eps_val : ∃ e : ℝ, 0 < e ∧ eps = (e : EReal) := by
  refine ⟨10995116 * 2 ^ (-40 : ℤ), by positivity, ?_⟩
  simp [eps, Ideal.ofBits, Ideal.ieee, -EReal.coe_mul]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem var_real (x n : Fin 224 → Fin 224 → ℝ) (v μ : ℝ) (hμ : (∑ h, ∑ q, x h q) + v * ∑ h, ∑ q, n h q = 50176 * μ) :
    ∑ h, ∑ q, (x h q + n h q * v - μ) * (x h q + n h q * v - μ)
      = (∑ h, ∑ q, x h q * x h q) + 2 * v * (∑ h, ∑ q, x h q * n h q) + v * v * (∑ h, ∑ q, n h q * n h q) - 50176 * (μ * μ) := by
  have e : ∀ h q, (x h q + n h q * v - μ) * (x h q + n h q * v - μ)
      = x h q * x h q + 2 * v * (x h q * n h q) + v * v * (n h q * n h q) - 2 * μ * x h q - 2 * μ * v * n h q + μ * μ := fun h q => by ring
  simp only [e, Finset.sum_add_distrib, Finset.sum_sub_distrib, ← Finset.mul_sum, Finset.sum_const, Finset.card_univ, Fintype.card_fin, nsmul_eq_mul]
  push_cast
  linear_combination (-2 * μ) * hμ

/-- The folded form is the normalised pixel, for finite pixels, noise and weights. -/
theorem norm_eq (x n : Fin 224 → Fin 224 → ℝ) (v w : ℝ) (b : EReal) (h q : Fin 224) :
    ((x h q : EReal) + (n h q : EReal) * v) * kscl (fun h q => x h q) (fun h q => n h q) v w + kshf (fun h q => x h q) (fun h q => n h q) v w b
      = rnorm (fun h q => (x h q : EReal) + (n h q : EReal) * v) w b h q := by
  obtain ⟨e, he, hev⟩ := eps_val
  have hc : (50176 : ℝ) ≠ 0 := by norm_num
  set μ : ℝ := ((∑ h, ∑ q, x h q) + v * ∑ h, ∑ q, n h q) / 50176 with hμd
  have hμ : (∑ h, ∑ q, x h q) + v * ∑ h, ∑ q, n h q = 50176 * μ := by rw [hμd]; field_simp
  set s : ℝ := (∑ h, ∑ q, (x h q + n h q * v - μ) * (x h q + n h q * v - μ)) / 50176 with hs
  have hs0 : 0 ≤ s := div_nonneg (Finset.sum_nonneg fun h _ => Finset.sum_nonneg fun q _ => mul_self_nonneg _) (by norm_num)
  have hkm : kmean (fun h q => x h q) (fun h q => n h q) v = (μ : EReal) := by
    unfold kmean
    rw [cnt_val, Ideal.div_coe hc]
    simp only [← coe_sum, ← EReal.coe_mul, ← EReal.coe_add]
    rw [hμd]; congr 1; ring
  have hrm : rmean (fun h q => (x h q : EReal) + (n h q : EReal) * v) = (μ : EReal) := by
    unfold rmean
    rw [cnt_val, Ideal.div_coe hc]
    simp only [← coe_sum, ← EReal.coe_mul, ← EReal.coe_add]
    rw [hμd]
    simp only [Finset.sum_add_distrib, ← Finset.sum_mul]
    ring_nf
  have hrv : rvar (fun h q => (x h q : EReal) + (n h q : EReal) * v) = (s : EReal) := by
    unfold rvar
    rw [hrm, cnt_val, Ideal.div_coe hc]
    simp only [← coe_sum, ← EReal.coe_mul, ← EReal.coe_add, ← EReal.coe_sub]
    rw [hs]; congr 1; ring
  have hkv : kvar (fun h q => x h q) (fun h q => n h q) v = (s : EReal) := by
    unfold kvar
    rw [hkm, cnt_val, two_val, Ideal.div_coe hc]
    simp only [← coe_sum, ← EReal.coe_mul, ← EReal.coe_add, ← EReal.coe_sub]
    rw [hs, var_real x n v μ hμ]
    congr 1
    field_simp
  have hroot : Ideal.sqrt ((s : EReal) + eps) = ((Real.sqrt (s + e) : ℝ) : EReal) := by
    rw [hev, ← EReal.coe_add, Ideal.sqrt_coe, if_neg (by linarith)]
  have hr : Real.sqrt (s + e) ≠ 0 := (Real.sqrt_pos.2 (by linarith)).ne'
  unfold rnorm kshf kscl
  rw [hrv, hkv, hkm, hrm, hroot, Ideal.div_coe hr, Ideal.div_coe hr, one_mul]
  simp only [← EReal.coe_mul, ← EReal.coe_add, ← EReal.coe_sub]
  rw [sub_eq_add_neg, add_comm b, ← add_assoc, ← EReal.coe_neg, ← EReal.coe_add]
  congr 2
  ring

/-! ## The folded form at infinite pixels, noise or variance -/

/-- A real number among the extended ones. -/
def Re (a : EReal) : Prop := ∃ r : ℝ, a = r

theorem re_add {a b : EReal} : Re (a + b) ↔ Re a ∧ Re b := by
  constructor
  · rintro ⟨r, h⟩
    induction a using EReal.rec with
    | bot => simp at h
    | top => induction b using EReal.rec with
      | bot => simp at h
      | top => simp at h
      | coe b => simp at h
    | coe a => induction b using EReal.rec with
      | bot => simp at h
      | top => simp at h
      | coe b => exact ⟨⟨a, rfl⟩, b, rfl⟩
  · rintro ⟨⟨a, rfl⟩, b, rfl⟩
    exact ⟨a + b, (EReal.coe_add a b).symm⟩

theorem re_neg {a : EReal} : Re (-a) ↔ Re a := by
  constructor
  · rintro ⟨r, h⟩
    exact ⟨-r, by rw [EReal.coe_neg, ← h, neg_neg]⟩
  · rintro ⟨r, rfl⟩
    exact ⟨-r, (EReal.coe_neg r).symm⟩

theorem re_sub {a b : EReal} : Re (a - b) ↔ Re a ∧ Re b := by rw [sub_eq_add_neg, re_add, re_neg]

theorem re_mul {a b : EReal} (ha : Re a) (hb : Re b) : Re (a * b) := by
  obtain ⟨a, rfl⟩ := ha
  obtain ⟨b, rfl⟩ := hb
  exact ⟨a * b, (EReal.coe_mul a b).symm⟩

/-- A real product of nonzero factors has real factors. -/
theorem re_of_mul {a b : EReal} (h : Re (a * b)) (ha : a ≠ 0) (hb : b ≠ 0) : Re a := by
  obtain ⟨r, h⟩ := h
  induction a using EReal.rec with
  | coe a => exact ⟨a, rfl⟩
  | top =>
    rcases lt_or_gt_of_ne hb with h' | h'
    · rw [EReal.top_mul_of_neg h'] at h; simp at h
    · rw [EReal.top_mul_of_pos h'] at h; simp at h
  | bot =>
    rcases lt_or_gt_of_ne hb with h' | h'
    · rw [EReal.bot_mul_of_neg h'] at h; simp at h
    · rw [EReal.bot_mul_of_pos h'] at h; simp at h

theorem re_of_mul' {a b : EReal} (h : Re (a * b)) (ha : a ≠ 0) (hb : b ≠ 0) : Re b := by
  rw [mul_comm] at h
  exact re_of_mul h hb ha

theorem re_sq {a : EReal} (h : Re (a * a)) : Re a := by
  by_cases h0 : a = 0
  · exact ⟨0, h0⟩
  · exact re_of_mul h h0 h0

/-- A real sum over an image has real summands. -/
theorem re_sum {ι : Type} {s : Finset ι} {f : ι → EReal} (h : Re (∑ i ∈ s, f i)) : ∀ i ∈ s, Re (f i) := by
  classical
  induction s using Finset.induction_on with
  | empty => simp
  | insert a s ha ih =>
    rw [Finset.sum_insert ha] at h
    intro i hi
    rcases Finset.mem_insert.1 hi with rfl | hi
    · exact (re_add.1 h).1
    · exact ih (re_add.1 h).2 i hi
theorem re_sums {f : Img} (h : Re (∑ h, ∑ q, f h q)) (a b : Fin 224) : Re (f a b) :=
  re_sum (re_sum h a (Finset.mem_univ a)) b (Finset.mem_univ b)

theorem re_cnt {a : EReal} (h : Re (Ideal.div a cnt)) : Re a := by
  have hc : (50176 : ℝ) ≠ 0 := by norm_num
  rw [cnt_val, Ideal.div_coe hc] at h
  by_cases h0 : a = 0
  · exact ⟨0, h0⟩
  · exact re_of_mul h h0 (by norm_num)

/-- Dividing by the root of an infinity gives zero. -/
theorem div_root (a : EReal) {z : EReal} (hz : ¬Re z) : Ideal.div a (Ideal.sqrt (z + eps)) = 0 := by
  obtain ⟨e, -, he⟩ := eps_val
  rw [he]
  induction z using EReal.rec with
  | coe r => exact absurd ⟨r, rfl⟩ hz
  | top =>
    rw [EReal.top_add_coe]
    show Ideal.div a ⊤ = 0
    unfold Ideal.div
    rw [if_neg (by simp)]; simp
  | bot =>
    rw [EReal.bot_add]
    show Ideal.div a ⊥ = 0
    unfold Ideal.div
    rw [if_neg (by simp)]; simp

theorem sq_nonneg' (a : EReal) : 0 ≤ a * a := by
  induction a using EReal.rec with
  | coe r => exact_mod_cast mul_self_nonneg r
  | top => simp
  | bot => simp

/-- The squares' sum vanishes only where the image does. -/
theorem sums_ne {n : Img} {a b : Fin 224} (h : n a b ≠ 0) : ∑ h, ∑ q, n h q * n h q ≠ 0 := fun e => by
  have e1 := (Finset.sum_eq_zero_iff_of_nonneg fun h _ => Finset.sum_nonneg fun q _ => sq_nonneg' (n h q)).1 e a (Finset.mem_univ a)
  have e2 := (Finset.sum_eq_zero_iff_of_nonneg fun q _ => sq_nonneg' (n a q)).1 e1 b (Finset.mem_univ b)
  exact h (by simpa using e2)

/-- An infinite pixel makes the kernel's variance infinite, -/
theorem kvar_inf {x n : Img} {v : EReal} {a b : Fin 224} (h : ¬Re (x a b + n a b * v)) : ¬Re (kvar x n v) := fun hk => by
  unfold kvar at hk
  obtain ⟨h12, h3⟩ := re_add.1 (re_cnt (re_sub.1 hk).1)
  have hx : Re (x a b) := re_sq (re_sums (re_add.1 h12).1 a b)
  refine h (re_add.2 ⟨hx, ?_⟩)
  by_cases hv : v = 0
  · exact ⟨0, by rw [hv, mul_zero]; rfl⟩
  by_cases hn : n a b = 0
  · exact ⟨0, by rw [hn, zero_mul]; rfl⟩
  have hvv : v * v ≠ 0 := by simpa using hv
  have hT := sums_ne hn
  exact re_mul (re_sq (re_sums (re_of_mul' h3 hvv hT) a b)) (re_sq (re_of_mul h3 hvv hT))

/-- and the reference's. -/
theorem rvar_inf {y : Img} {a b : Fin 224} (h : ¬Re (y a b)) : ¬Re (rvar y) := fun hk => by
  have e := re_sub.1 (re_sq (re_sums (f := fun h q => (y h q - rmean y) * (y h q - rmean y)) (re_cnt hk) a b))
  exact h e.1

/-- Without noise, whichever of its two factors vanishes. -/
theorem norm_still (x : Fin 224 → Fin 224 → ℝ) (n : Img) (v : EReal) (w : ℝ) (b : EReal) (hz : v = 0 ∨ n = fun _ _ => 0) (h q : Fin 224) :
    ((x h q : EReal) + n h q * v) * kscl (fun h q => x h q) n v w + kshf (fun h q => x h q) n v w b
      = rnorm (fun h q => (x h q : EReal) + n h q * v) w b h q := by
  have e := norm_eq x (fun _ _ => 0) 0 w b h q
  rcases hz with rfl | rfl
  all_goals
    simp only [kscl, kshf, kvar, kmean, EReal.coe_zero, zero_mul, mul_zero, Finset.sum_const_zero, add_zero] at e ⊢
    exact e

/-- The folded form is the normalised pixel, for a real weight. -/
theorem norm_any (x n : Img) (v : EReal) (w : ℝ) (b : EReal) (h q : Fin 224) :
    (x h q + n h q * v) * kscl x n v w + kshf x n v w b = rnorm (fun h q => x h q + n h q * v) w b h q := by
  by_cases hy : ∀ h q, Re (x h q + n h q * v)
  · have hx : ∀ h q, ∃ r : ℝ, x h q = r := fun h q => (re_add.1 (hy h q)).1
    have hn : ∀ h q, Re (n h q * v) := fun h q => (re_add.1 (hy h q)).2
    choose x' hx' using hx
    obtain rfl : x = fun h q => (x' h q : EReal) := funext fun h => funext fun q => hx' h q
    by_cases hz : v = 0 ∨ n = fun _ _ => 0
    · exact norm_still x' n v w b hz h q
    · obtain ⟨hv, hne⟩ := not_or.1 hz
      have hvr : Re v := by
        by_contra hv'
        refine hne (funext fun h => funext fun q => ?_)
        by_contra h0
        exact hv' (re_of_mul' (hn h q) h0 hv)
      have hnr : ∀ h q, ∃ r : ℝ, n h q = r := fun h q => by
        by_cases h0 : n h q = 0
        · exact ⟨0, h0⟩
        · exact re_of_mul (hn h q) h0 hv
      choose n' hn' using hnr
      obtain rfl : n = fun h q => (n' h q : EReal) := funext fun h => funext fun q => hn' h q
      obtain ⟨v, rfl⟩ := hvr
      exact norm_eq x' n' v w b h q
  · simp only [not_forall] at hy
    obtain ⟨a, c, hy⟩ := hy
    unfold rnorm kshf kscl
    rw [div_root _ (kvar_inf hy), div_root _ (rvar_inf (y := fun h q => x h q + n h q * v) hy)]
    simp

/-! ## Weights multiplied into a convolution -/

/-- Multiplying by a nonnegative real distributes over any sum. -/
theorem mul_sum_real {ι : Type} (a : ℝ) (ha : 0 ≤ a) (s : Finset ι) (f : ι → EReal) : (a : EReal) * ∑ i ∈ s, f i = ∑ i ∈ s, (a : EReal) * f i := by
  classical
  induction s using Finset.induction_on with
  | empty => simp
  | insert i s hi ih =>
    rw [Finset.sum_insert hi, Finset.sum_insert hi, EReal.left_distrib_of_nonneg_of_ne_top (by exact_mod_cast ha) (EReal.coe_ne_top a), ih]

theorem conv_mul {K : ℕ} (a : ℝ) (ha : 0 ≤ a) (f : Fin K → ℕ → ℕ → EReal) (w : Fin 3 → Fin 3 → Fin K → EReal) (h q : ℕ) :
    conv f (fun dy dx k => (a : EReal) * w dy dx k) h q = a * conv f w h q := by
  unfold conv
  rw [mul_sum_real a ha]
  refine Finset.sum_congr rfl fun dy _ => ?_
  rw [mul_sum_real a ha]
  refine Finset.sum_congr rfl fun dx _ => ?_
  rw [mul_sum_real a ha]
  exact Finset.sum_congr rfl fun k _ => by rw [← mul_assoc, mul_comm _ (a : EReal), mul_assoc]

/-- The blending weight of an extended real is a real between zero and one, and so is its complement. -/
theorem sigmoid_real (t : EReal) : ∃ a b : ℝ, 0 ≤ a ∧ 0 ≤ b ∧ Ideal.div 1 (1 + Ideal.exp (-t)) = (a : EReal) ∧ 1 - Ideal.div 1 (1 + Ideal.exp (-t)) = (b : EReal) := by
  have key : ∃ a : ℝ, 0 ≤ a ∧ a ≤ 1 ∧ Ideal.div 1 (1 + Ideal.exp (-t)) = (a : EReal) := by
    induction t using EReal.rec with
    | bot =>
      refine ⟨0, le_rfl, zero_le_one, ?_⟩
      show Ideal.div 1 (1 + ⊤) = _
      rw [EReal.add_top_of_ne_bot (by decide)]
      unfold Ideal.div
      rw [if_neg (by decide)]; simp
    | top =>
      refine ⟨1, zero_le_one, le_rfl, ?_⟩
      show Ideal.div 1 (1 + 0) = _
      rw [add_zero]
      unfold Ideal.div
      rw [if_neg one_ne_zero]; simp
    | coe r =>
      refine ⟨1 / (1 + Real.exp (-r)), by positivity, ?_, ?_⟩
      · rw [div_le_one (by positivity)]; linarith [Real.exp_pos (-r)]
      · show Ideal.div 1 (1 + ((Real.exp (-r) : ℝ) : EReal)) = _
        rw [show (1 : EReal) + ((Real.exp (-r) : ℝ) : EReal) = ((1 + Real.exp (-r) : ℝ) : EReal) by push_cast; rfl, Ideal.div_coe (by positivity), one_mul]
  obtain ⟨a, h0, h1, e⟩ := key
  refine ⟨a, 1 - a, h0, by linarith, e, ?_⟩
  rw [e]; push_cast; rfl

/-- Two blended convolutions with their blended biases, the weight multiplied in or left outside. -/
theorem blend {K L : ℕ} (t : EReal) (f : Fin K → ℕ → ℕ → EReal) (u : Fin 3 → Fin 3 → Fin K → EReal) (g : Fin L → ℕ → ℕ → EReal) (w : Fin 3 → Fin 3 → Fin L → EReal)
    (c d : EReal) (h q : ℕ) :
    ((Ideal.div 1 (1 + Ideal.exp (-t)) * c + (1 - Ideal.div 1 (1 + Ideal.exp (-t))) * d)
        + (conv f (fun dy dx k => Ideal.div 1 (1 + Ideal.exp (-t)) * u dy dx k) h q + conv g (fun dy dx k => (1 - Ideal.div 1 (1 + Ideal.exp (-t))) * w dy dx k) h q))
      = Ideal.div 1 (1 + Ideal.exp (-t)) * (conv f u h q + c) + (1 - Ideal.div 1 (1 + Ideal.exp (-t))) * (conv g w h q + d) := by
  obtain ⟨a, b, ha, hb, ea, eb⟩ := sigmoid_real t
  rw [ea] at eb ⊢
  rw [eb, conv_mul a ha, conv_mul b hb, EReal.left_distrib_of_nonneg_of_ne_top (by exact_mod_cast ha) (EReal.coe_ne_top a),
    EReal.left_distrib_of_nonneg_of_ne_top (by exact_mod_cast hb) (EReal.coe_ne_top b)]
  abel

end Cert.Spec

end
-- ==== Proof.Goal.lean ====
/-
  The result both programs compute, as a function of the arguments.
-/
module

public import proofs.«01_k».proof.Proof.Maths

@[expose] public section

noncomputable section

namespace Cert.Spec

open Idealize.ShloMosaic

/-- The blending weight. -/
def sig1 (t : EReal) : EReal := Ideal.div 1 (1 + Ideal.exp (-t))

/-- The arguments. -/
@[ext] structure Args where
  x : Arr ⟨4, ![2, 96, 224, 224]⟩
  seg : Arr ⟨4, ![2, 19, 112, 112]⟩
  codes : Arr ⟨3, ![2, 19, 64]⟩
  mask : Arr ⟨4, ![2, 3, 112, 112]⟩
  noise : Arr ⟨4, ![2, 224, 224, 1]⟩
  nv : Arr ⟨1, ![96]⟩
  iw : Arr ⟨1, ![96]⟩
  ib : Arr ⟨1, ![96]⟩
  mw : Arr ⟨4, ![128, 3, 3, 3]⟩
  mb : Arr ⟨1, ![128]⟩
  ggw : Arr ⟨4, ![96, 128, 3, 3]⟩
  ggb : Arr ⟨1, ![96]⟩
  gbw : Arr ⟨4, ![96, 128, 3, 3]⟩
  gbb : Arr ⟨1, ![96]⟩
  sgw : Arr ⟨4, ![96, 64, 3, 3]⟩
  sgb : Arr ⟨1, ![96]⟩
  sbw : Arr ⟨4, ![96, 64, 3, 3]⟩
  sbb : Arr ⟨1, ![96]⟩
  bg : Arr ⟨1, ![1]⟩
  bb : Arr ⟨1, ![1]⟩

namespace Args
variable (A : Args)

/-- The style's and the mask's convolution at a result channel. -/
def cs (w : Arr ⟨4, ![96, 64, 3, 3]⟩) (b : Fin 2) (k : Fin 96) (h q : ℕ) : EReal :=
  conv (styl A.seg A.codes b) (fun dy dx s => w (ix4 k s dy dx)) h q
def cm (w : Arr ⟨4, ![96, 128, 3, 3]⟩) (b : Fin 2) (k : Fin 96) (h q : ℕ) : EReal :=
  conv (hidd A.mask A.mw A.mb b) (fun dy dx s => w (ix4 k s dy dx)) h q

/-- The modulation's two halves. -/
def gam (b : Fin 2) (k : Fin 96) (h q : ℕ) : EReal :=
  sig1 (A.bg (ix1 0)) * (A.cs A.sgw b k h q + A.sgb (ix1 k)) + (1 - sig1 (A.bg (ix1 0))) * (A.cm A.ggw b k h q + A.ggb (ix1 k))
def bet (b : Fin 2) (k : Fin 96) (h q : ℕ) : EReal :=
  sig1 (A.bb (ix1 0)) * (A.cs A.sbw b k h q + A.sbb (ix1 k)) + (1 - sig1 (A.bb (ix1 0))) * (A.cm A.gbw b k h q + A.gbb (ix1 k))

/-- A channel of the input, and the noise. -/
def xi (b : Fin 2) (k : Fin 96) : Img := fun h q => A.x (ix4 b k h q)
def ni (b : Fin 2) : Img := fun h q => A.noise (ix4 b q h 0)

/-- The normalised pixel, as the reference and as the kernel computes it. -/
def nrm (b : Fin 2) (k : Fin 96) (h q : Fin 224) : EReal :=
  rnorm (fun h q => A.xi b k h q + A.ni b h q * A.nv (ix1 k)) (A.iw (ix1 k)) (A.ib (ix1 k)) h q
def nrmK (b : Fin 2) (k : Fin 96) (h q : Fin 224) : EReal :=
  (A.xi b k h q + A.ni b h q * A.nv (ix1 k)) * kscl (A.xi b k) (A.ni b) (A.nv (ix1 k)) (A.iw (ix1 k))
    + kshf (A.xi b k) (A.ni b) (A.nv (ix1 k)) (A.iw (ix1 k)) (A.ib (ix1 k))

def out (i : (⟨4, ![2, 96, 224, 224]⟩ : Shape).Idx) : EReal :=
  A.nrm (i 0) (i 1) (i 2) (i 3) * (1 + A.gam (i 0) (i 1) (i 2 : Fin 224).val (i 3 : Fin 224).val) + A.bet (i 0) (i 1) (i 2 : Fin 224).val (i 3 : Fin 224).val

/-- The two normalised forms agree where the affine weight is real. -/
theorem nrmK_eq (hA : ∀ i, ∃ r : ℝ, A.iw i = r) (b : Fin 2) (k : Fin 96) (h q : Fin 224) : A.nrmK b k h q = A.nrm b k h q := by
  obtain ⟨w, hw⟩ := hA (ix1 k)
  unfold nrmK nrm
  rw [hw]
  exact norm_any (A.xi b k) (A.ni b) _ w _ h q

end Args
end Cert.Spec

end
-- ==== Proof.VHost.lean ====
/-
  What the host's stretches hand the kernel calls, at an index.
-/
module

public import proofs.«01_k».proof.Proof.Run
public import proofs.«01_k».proof.Proof.Goal
public import Idealize.ShloMosaic.Lib.Pointwise
public import Idealize.ShloMosaic.Lib.Pipeline.ValueKit

@[expose] public section

set_option maxRecDepth 16384

noncomputable section

namespace Cert.KernelIdeal.Main

open Cert.KernelIdeal.Gen
open Idealize.ShloMosaic Idealize.ShloMosaic.TcCoe
open Idealize.ShloMosaic.StableHlo
open Cert.Spec
variable (m : (ℓ : Loc nD τ sig) → Buf (Elt Ideal) ℓ) (c : Dev nD)

theorem W1_v51 (b : Fin 2) (h q : Fin 224) :
    (W1 m c main_v51 : Vec Ideal S2x224x224 .f32) (ix3 b h q) = (W0 m c main_arg4 : Vec Ideal S2x224x224x1 .f32) (ix4 b q h 0) := by
  unfold W1
  after_results
  pointwise
theorem W1_v53 (b : Fin 2) (p : Fin 12544) (j : Fin 19) :
    (W1 m c main_v53 : Vec Ideal S2x12544x19 .f32) (ix3 b p j) = (W0 m c main_arg1 : Vec Ideal S2x19x112x112 .f32) (ix4 b j ⟨p / 112, by omega⟩ ⟨p % 112, by omega⟩) := by
  unfold W1
  after_results
  pointwise
theorem W1_v59 (b : Fin 2) (h q : Fin 224) (k : Fin 3) :
    (W1 m c main_v59 : Vec Ideal S2x224x224x3 .bf16) (ix4 b h q k) = (W0 m c main_arg3 : Vec Ideal S2x3x112x112 .f32) (ix4 b k ⟨h / 2, by omega⟩ ⟨q / 2, by omega⟩) := by
  unfold W1
  after_results
  pointwise
theorem W1_v60 (k : Fin 96) :
    (W1 m c main_v60 : Vec Ideal S1x96 .f32) (ix2 0 k) = (W0 m c main_arg5 : Vec Ideal S96 .f32) (ix1 k) := by
  unfold W1
  after_results
  pointwise
theorem W1_v61 (t : Fin 3) (k : Fin 32) :
    (W1 m c main_v61 : Vec Ideal S3x1x32 .f32) (ix3 t 0 k) = (W0 m c main_arg5 : Vec Ideal S96 .f32) (ix1 ⟨t * 32 + k, by omega⟩) := by
  unfold W1
  after_results
  pointwise
theorem W1_v62 (t : Fin 3) (k : Fin 32) :
    (W1 m c main_v62 : Vec Ideal S3x1x32 .f32) (ix3 t 0 k) = (W0 m c main_arg6 : Vec Ideal S96 .f32) (ix1 ⟨t * 32 + k, by omega⟩) := by
  unfold W1
  after_results
  pointwise
theorem W1_v63 (t : Fin 3) (k : Fin 32) :
    (W1 m c main_v63 : Vec Ideal S3x1x32 .f32) (ix3 t 0 k) = (W0 m c main_arg7 : Vec Ideal S96 .f32) (ix1 ⟨t * 32 + k, by omega⟩) := by
  unfold W1
  after_results
  pointwise
theorem W1_v34 (j : Fin 27) (k : Fin 128) :
    (W1 m c main_v34 : Vec Ideal S27x128 .bf16) (ix2 j k) = (W0 m c main_arg8 : Vec Ideal S128x3x3x3 .f32) (ix4 k ⟨j % 3, by omega⟩ ⟨j / 9, by omega⟩ ⟨j / 3 % 3, by omega⟩) := by
  unfold W1
  after_results
  pointwise
theorem W1_v49 (k : Fin 128) :
    (W1 m c main_v49 : Vec Ideal S1x128 .f32) (ix2 0 k) = (W0 m c main_arg9 : Vec Ideal S128 .f32) (ix1 k) := by
  unfold W1
  after_results
  pointwise
theorem W1_v48 (k : Fin 192) :
    (W1 m c main_v48 : Vec Ideal S1x192 .f32) (ix2 0 k)
      = if h : k.val < 96 then sig1 ((W0 m c main_arg18 : Vec Ideal S1 .f32) (ix1 0)) * (W0 m c main_arg15 : Vec Ideal S96 .f32) (ix1 ⟨k, h⟩)
            + (1 - sig1 ((W0 m c main_arg18 : Vec Ideal S1 .f32) (ix1 0))) * (W0 m c main_arg11 : Vec Ideal S96 .f32) (ix1 ⟨k, h⟩)
        else sig1 ((W0 m c main_arg19 : Vec Ideal S1 .f32) (ix1 0)) * (W0 m c main_arg17 : Vec Ideal S96 .f32) (ix1 ⟨k - 96, by omega⟩)
            + (1 - sig1 ((W0 m c main_arg19 : Vec Ideal S1 .f32) (ix1 0))) * (W0 m c main_arg13 : Vec Ideal S96 .f32) (ix1 ⟨k - 96, by omega⟩) := by
  unfold W1
  after_results
  pointwise [sig1]
theorem W1_v19 (t : Fin 9) (s : Fin 64) (k : Fin 192) :
    (W1 m c main_v19 : Vec Ideal S9x64x192 .bf16) (ix3 t s k)
      = if h : k.val < 96 then sig1 ((W0 m c main_arg18 : Vec Ideal S1 .f32) (ix1 0)) * (W0 m c main_arg14 : Vec Ideal S96x64x3x3 .f32) (ix4 ⟨k, h⟩ s ⟨t / 3, by omega⟩ ⟨t % 3, by omega⟩)
        else sig1 ((W0 m c main_arg19 : Vec Ideal S1 .f32) (ix1 0)) * (W0 m c main_arg16 : Vec Ideal S96x64x3x3 .f32) (ix4 ⟨k - 96, by omega⟩ s ⟨t / 3, by omega⟩ ⟨t % 3, by omega⟩) := by
  unfold W1
  after_results
  pointwise [sig1]
theorem W1_v31 (t : Fin 9) (s : Fin 128) (k : Fin 192) :
    (W1 m c main_v31 : Vec Ideal S9x128x192 .bf16) (ix3 t s k)
      = if h : k.val < 96 then (1 - sig1 ((W0 m c main_arg18 : Vec Ideal S1 .f32) (ix1 0))) * (W0 m c main_arg10 : Vec Ideal S96x128x3x3 .f32) (ix4 ⟨k, h⟩ s ⟨t / 3, by omega⟩ ⟨t % 3, by omega⟩)
        else (1 - sig1 ((W0 m c main_arg19 : Vec Ideal S1 .f32) (ix1 0))) * (W0 m c main_arg12 : Vec Ideal S96x128x3x3 .f32) (ix4 ⟨k - 96, by omega⟩ s ⟨t / 3, by omega⟩ ⟨t % 3, by omega⟩) := by
  unfold W1
  after_results
  pointwise [sig1]

theorem W3_v65 (b : Fin 2) (k : Fin 96) :
    (W3 m c main_v65 : Vec Ideal S2x1x96 .f32) (ix3 b 0 k) = (W2 m c main_v64_0 : Vec Ideal S2x3x1x32 .f32) (ix4 b ⟨k / 32, by omega⟩ 0 ⟨k % 32, by omega⟩) := by
  unfold W3
  after_results
  pointwise
theorem W3_v66 (b : Fin 2) (k : Fin 96) :
    (W3 m c main_v66 : Vec Ideal S2x1x96 .f32) (ix3 b 0 k) = (W2 m c main_v64_1 : Vec Ideal S2x3x1x32 .f32) (ix4 b ⟨k / 32, by omega⟩ 0 ⟨k % 32, by omega⟩) := by
  unfold W3
  after_results
  pointwise
theorem W5_v72 (b : Fin 2) (h q : Fin 224) (s : Fin 64) :
    (W5 m c main_v72 : Vec Ideal S2x224x224x64 .bf16) (ix4 b h q s) = (W4 m c main_v67 : Vec Ideal S2x12544x64 .bf16) (ix3 b ⟨h / 2 * 112 + q / 2, by omega⟩ s) := by
  unfold W5
  after_results
  pointwise

end Cert.KernelIdeal.Main

end
-- ==== Proof.VAcc.lean ====
/-
  The accumulations of the main call's body at an index.
-/
module

public import proofs.«01_k».proof.Proof.Body2
public import Idealize.ShloMosaic.Lib.Pointwise

@[expose] public section

set_option maxRecDepth 16384

noncomputable section

namespace Cert.KernelIdeal.Main

open Cert.KernelIdeal.Gen
open Idealize.ShloMosaic Idealize.ShloMosaic.TcCoe

/-- What one tap adds at pixel `p` and channel `c`. -/
def tap (x19 : Vec Ideal S34x226x64 .bf16) (x20 : Vec Ideal S34x226x128 .bf16) (x13 : Vec Ideal S9x64x192 .bf16) (x14 : Vec Ideal S9x128x192 .bf16)
    (dy dx : Fin 3) (p : Fin 7168) (c : Fin 192) : EReal :=
  (∑ s : Fin 64, x19 (ix3 ⟨dy + p / 224, by omega⟩ ⟨dx + p % 224, by omega⟩ s) * x13 (ix3 ⟨3 * dy + dx, by omega⟩ s c))
    + ∑ k : Fin 128, x20 (ix3 ⟨dy + p / 224, by omega⟩ ⟨dx + p % 224, by omega⟩ k) * x14 (ix3 ⟨3 * dy + dx, by omega⟩ k c)

/-- One accumulation step. -/
theorem step_apply (x19 : Vec Ideal S34x226x64 .bf16) (x20 : Vec Ideal S34x226x128 .bf16) (x13 : Vec Ideal S9x64x192 .bf16) (x14 : Vec Ideal S9x128x192 .bf16)
    (a : FVec Ideal S7168x192 .f32) (dy dx : Fin 3) (h1 h2 h3 h4) (p : Fin 7168) (c : Fin 192) :
    k2_pay13 (View.ld x19 (Rect.unit (s := S34x226x64) ![dy, dx, 0] S32x224x64.size h1)) (View.ld x20 (Rect.unit (s := S34x226x128) ![dy, dx, 0] S32x224x128.size h2)) a
      (View.ld x13 (Rect.unit (s := S9x64x192) ![3 * dy + dx, 0, 0] S1x64x192.size h3)) (View.ld x14 (Rect.unit (s := S9x128x192) ![3 * dy + dx, 0, 0] S1x128x192.size h4)) (ix2 p c)
      = a (ix2 p c) + tap x19 x20 x13 x14 dy dx p c := by
  pointwise [k2_pay13, tap]

theorem acc0_apply (x19 : Vec Ideal S34x226x64 .bf16) (x20 : Vec Ideal S34x226x128 .bf16) (x13 : Vec Ideal S9x64x192 .bf16) (x14 : Vec Ideal S9x128x192 .bf16)
    (x17 : Vec Ideal S1x192 .f32) (p : Fin 7168) (c : Fin 192) : acc0 x19 x20 x13 x14 x17 (ix2 p c) = x17 (ix2 0 c) := by
  unfold acc0
  pointwise [k2_pay12]

/-- The accumulator after all nine taps. -/
theorem acc9_apply (x19 : Vec Ideal S34x226x64 .bf16) (x20 : Vec Ideal S34x226x128 .bf16) (x13 : Vec Ideal S9x64x192 .bf16) (x14 : Vec Ideal S9x128x192 .bf16)
    (x17 : Vec Ideal S1x192 .f32) (p : Fin 7168) (c : Fin 192) :
    acc9 x19 x20 x13 x14 x17 (ix2 p c) = x17 (ix2 0 c) + ∑ dy : Fin 3, ∑ dx : Fin 3, tap x19 x20 x13 x14 dy dx p c := by
  simp only [Fin.sum_univ_three]
  rw [
    (show acc9 x19 x20 x13 x14 x17 (ix2 p c) = _ from step_apply x19 x20 x13 x14 (acc8 x19 x20 x13 x14 x17) 2 2 _ _ _ _ p c),
    (show acc8 x19 x20 x13 x14 x17 (ix2 p c) = _ from step_apply x19 x20 x13 x14 (acc7 x19 x20 x13 x14 x17) 2 1 _ _ _ _ p c),
    (show acc7 x19 x20 x13 x14 x17 (ix2 p c) = _ from step_apply x19 x20 x13 x14 (acc6 x19 x20 x13 x14 x17) 2 0 _ _ _ _ p c),
    (show acc6 x19 x20 x13 x14 x17 (ix2 p c) = _ from step_apply x19 x20 x13 x14 (acc5 x19 x20 x13 x14 x17) 1 2 _ _ _ _ p c),
    (show acc5 x19 x20 x13 x14 x17 (ix2 p c) = _ from step_apply x19 x20 x13 x14 (acc4 x19 x20 x13 x14 x17) 1 1 _ _ _ _ p c),
    (show acc4 x19 x20 x13 x14 x17 (ix2 p c) = _ from step_apply x19 x20 x13 x14 (acc3 x19 x20 x13 x14 x17) 1 0 _ _ _ _ p c),
    (show acc3 x19 x20 x13 x14 x17 (ix2 p c) = _ from step_apply x19 x20 x13 x14 (acc2 x19 x20 x13 x14 x17) 0 2 _ _ _ _ p c),
    (show acc2 x19 x20 x13 x14 x17 (ix2 p c) = _ from step_apply x19 x20 x13 x14 (acc1 x19 x20 x13 x14 x17) 0 1 _ _ _ _ p c),
    (show acc1 x19 x20 x13 x14 x17 (ix2 p c) = _ from step_apply x19 x20 x13 x14 (acc0 x19 x20 x13 x14 x17) 0 0 _ _ _ _ p c),
    acc0_apply]
  abel

/-- A result channel: the normalised input modulated by the two halves of the accumulator. -/
theorem out16_apply (x8 : Vec Ideal S1x96x32x224 .f32) (x9 : Vec Ideal S1x32x224 .f32) (x10 : Vec Ideal S1x96 .f32) (x11 x12 : Vec Ideal S1x1x96 .f32) (a : FVec Ideal S7168x192 .f32)
    (c : Fin 96) (r : Fin 32) (q : Fin 224) :
    out16 x8 x9 x10 x11 x12 a (ix4 0 c r q)
      = ((x8 (ix4 0 c r q) + x9 (ix3 0 r q) * x10 (ix2 0 c)) * x11 (ix3 0 0 c) + x12 (ix3 0 0 c)) * (1 + a (ix2 ⟨r * 224 + q, by omega⟩ ⟨c, by omega⟩))
        + a (ix2 ⟨r * 224 + q, by omega⟩ ⟨96 + c, by omega⟩) := by
  unfold out16
  pointwise [k2_pay1, k2_pay29, k2_pay30, k2_pay31, k2_pay32, k2_pay33, k2_pay34, k2_pay35]

end Cert.KernelIdeal.Main

end
-- ==== Proof.VHid.lean ====
/-
  The hidden layer's pre-activations in the main call's body, at an index.
-/
module

public import proofs.«01_k».proof.Proof.VAcc
public import proofs.«01_k».proof.Proof.Spec

@[expose] public section

set_option maxRecDepth 16384

noncomputable section

namespace Cert.KernelIdeal.Main

open Cert.KernelIdeal.Gen
open Idealize.ShloMosaic Idealize.ShloMosaic.TcCoe

/-- The mask's rows with their halo. -/
def halo (a : BitVec 32) (v30 : Vec Ideal S1x2x224x3 .bf16) (v35 : Vec Ideal S1x2x224x3 .bf16) (v39 : Vec Ideal S1x32x224x3 .bf16) : FVec Ideal S36x224x3 .bf16 :=
  concatenate S36x224x3 0 [⟨S2x224x3, Scalar.select (Scalar.cmpi .sgt a 0#32) (shapeCast S2x224x3 v30 shapeCasts_S1x2x224x3_S2x224x3) (broadcast S2x224x3 (Scalar.ofBits .bf16 0x0000#16))⟩,
    ⟨S32x224x3, shapeCast S32x224x3 v39 shapeCasts_S1x32x224x3_S32x224x3⟩,
    ⟨S2x224x3, Scalar.select (Scalar.cmpi .slt a 6#32) (shapeCast S2x224x3 v35 shapeCasts_S1x2x224x3_S2x224x3) (broadcast S2x224x3 (Scalar.ofBits .bf16 0x0000#16))⟩]
    concatenates_S2x224x3_S32x224x3_S2x224x3_S36x224x3_d0

/-- The same with a zero column each side. -/
def bord (V : FVec Ideal S36x224x3 .bf16) : FVec Ideal S36x226x3 .bf16 :=
  concatenate S36x226x3 1 [⟨S36x1x3, broadcast S36x1x3 (Scalar.ofBits .bf16 0x0000#16)⟩, ⟨S36x224x3, V⟩, ⟨S36x1x3, broadcast S36x1x3 (Scalar.ofBits .bf16 0x0000#16)⟩]
    concatenates_S36x1x3_S36x224x3_S36x1x3_S36x226x3_d1

/-- The nine shifted copies side by side. -/
def cols (V : FVec Ideal S36x226x3 .bf16) : FVec Ideal S34x224x27 .bf16 :=
  concatenate S34x224x27 2
    [⟨S34x224x3, extractStridedSlice S34x224x3 ![0, 0, 0] V slices_S36x226x3_o0_0_0_S34x224x3⟩, ⟨S34x224x3, extractStridedSlice S34x224x3 ![0, 1, 0] V slices_S36x226x3_o0_1_0_S34x224x3⟩, ⟨S34x224x3, extractStridedSlice S34x224x3 ![0, 2, 0] V slices_S36x226x3_o0_2_0_S34x224x3⟩,
     ⟨S34x224x3, extractStridedSlice S34x224x3 ![1, 0, 0] V slices_S36x226x3_o1_0_0_S34x224x3⟩, ⟨S34x224x3, extractStridedSlice S34x224x3 ![1, 1, 0] V slices_S36x226x3_o1_1_0_S34x224x3⟩, ⟨S34x224x3, extractStridedSlice S34x224x3 ![1, 2, 0] V slices_S36x226x3_o1_2_0_S34x224x3⟩,
     ⟨S34x224x3, extractStridedSlice S34x224x3 ![2, 0, 0] V slices_S36x226x3_o2_0_0_S34x224x3⟩, ⟨S34x224x3, extractStridedSlice S34x224x3 ![2, 1, 0] V slices_S36x226x3_o2_1_0_S34x224x3⟩, ⟨S34x224x3, extractStridedSlice S34x224x3 ![2, 2, 0] V slices_S36x226x3_o2_2_0_S34x224x3⟩]
    concatenates_S34x224x3_S34x224x3_S34x224x3_S34x224x3_S34x224x3_S34x224x3_S34x224x3_S34x224x3_S34x224x3_S34x224x27_d2

/-- The copies times the weights. -/
def mac (V : FVec Ideal S34x224x27 .bf16) (w : FVec Ideal S27x128 .bf16) : FVec Ideal S7616x128 .f32 :=
  matmul dot_S7616x27_S27x128_S7616x128_1_0_0_1_n_n none (shapeCast S7616x27 V shapeCasts_S34x224x27_S7616x27) (shapeCast S27x128 w shapeCasts_S27x128_S27x128) (constant S7616x128 .f32 0x00000000#32)

theorem pay8_eq (a : BitVec 32) (v30 v35 : Vec Ideal S1x2x224x3 .bf16) (v39 : Vec Ideal S1x32x224x3 .bf16) (w : Vec Ideal S27x128 .bf16) :
    k2_pay8 a v30 v35 v39 w = mac (cols (bord (halo a v30 v35 v39))) w := rfl

theorem mac_apply (V : FVec Ideal S34x224x27 .bf16) (w : FVec Ideal S27x128 .bf16) (p : Fin 7616) (k : Fin 128) :
    mac V w (ix2 p k) = ∑ j : Fin 27, V (ix3 ⟨p / 224, by omega⟩ ⟨p % 224, by omega⟩ j) * w (ix2 j k) := by
  pointwise [mac]

theorem cols_apply (V : FVec Ideal S36x226x3 .bf16) (r : Fin 34) (q : Fin 224) (j : Fin 27) :
    cols V (ix3 r q j) = V (ix3 ⟨r + j / 9, by omega⟩ ⟨q + j / 3 % 3, by omega⟩ ⟨j % 3, by omega⟩) := by
  pointwise [cols]
  fin_vals j with hk
  all_goals simp only [hk, Nat.reduceSub, Nat.reduceLT, ↓reduceDIte]
  all_goals exact Cert.Spec.rd3 V (by dsimp only; omega) (by dsimp only; omega) (by dsimp only)

theorem bord_apply (V : FVec Ideal S36x224x3 .bf16) (r : Fin 36) (q : Fin 226) (c : Fin 3) :
    bord V (ix3 r q c) = if h : 1 ≤ q.val ∧ q.val ≤ 224 then V (ix3 r ⟨q.val - 1, by omega⟩ c) else 0 := by
  pointwise [bord]
  by_cases h : 1 ≤ q.val ∧ q.val ≤ 224
  · rw [dif_pos h, dif_neg (by omega), dif_pos (by omega)]
  · rw [dif_neg h]
    by_cases h1 : q.val < 1
    · rw [dif_pos h1]
    · rw [dif_neg h1, dif_neg (by omega)]

theorem cmp_gt (T : Fin 7) : Scalar.cmpi .sgt (BitVec.ofNat 32 T.val) 0#32 = if 0 < T.val then 1 else 0 := by
  revert T; decide
theorem cmp_lt (T : Fin 7) : Scalar.cmpi .slt (BitVec.ofNat 32 T.val) 6#32 = if T.val < 6 then 1 else 0 := by
  revert T; decide

theorem halo_raw (a : BitVec 32) (v30 v35 : Vec Ideal S1x2x224x3 .bf16) (v39 : Vec Ideal S1x32x224x3 .bf16) (r : Fin 36) (q : Fin 224) (c : Fin 3) :
    halo a v30 v35 v39 (ix3 r q c) = if h : r.val < 2 then Scalar.select (Scalar.cmpi .sgt a 0#32) (v30 (ix4 0 ⟨r, h⟩ q c)) 0
      else if h2 : r.val - 2 < 32 then v39 (ix4 0 ⟨r - 2, h2⟩ q c) else Scalar.select (Scalar.cmpi .slt a 6#32) (v35 (ix4 0 ⟨r - 2 - 32, by omega⟩ q c)) 0 := by
  pointwise [halo]

theorem halo_apply (f : Fin 3 → ℕ → ℕ → EReal) (T : Fin 7) (x5 x7 : Vec Ideal S1x2x224x3 .bf16) (x6 : Vec Ideal S1x32x224x3 .bf16)
    (h5 : 0 < T.val → ∀ r q c, x5 (ix4 0 r q c) = f c (32 * T.val - 2 + r.val) q.val) (h6 : ∀ r q c, x6 (ix4 0 r q c) = f c (32 * T.val + r.val) q.val)
    (h7 : T.val < 6 → ∀ r q c, x7 (ix4 0 r q c) = f c (32 * T.val + 32 + r.val) q.val) (r : Fin 36) (q : Fin 224) (c : Fin 3) :
    halo (BitVec.ofNat 32 T.val) x5 x7 x6 (ix3 r q c) = if 2 ≤ 32 * T.val + r.val ∧ 32 * T.val + r.val < 226 then f c (32 * T.val + r.val - 2) q.val else 0 := by
  rw [halo_raw, cmp_gt, cmp_lt]
  simp only [Scalar.select_def]
  by_cases h1 : r.val < 2
  · rw [dif_pos h1]
    by_cases hT : 0 < T.val
    · rw [if_pos hT, if_pos rfl, h5 hT, if_pos (by omega)]
      exact congrArg (f c · q.val) (by dsimp only; omega)
    · rw [if_neg hT, if_neg (by decide), if_neg (by omega)]
  · rw [dif_neg h1]
    by_cases h2 : r.val - 2 < 32
    · rw [dif_pos h2, h6, if_pos (by omega)]
      exact congrArg (f c · q.val) (by dsimp only; omega)
    · rw [dif_neg h2]
      by_cases hT : T.val < 6
      · rw [if_pos hT, if_pos rfl, h7 hT, if_pos (by omega)]
        exact congrArg (f c · q.val) (by dsimp only; omega)
      · rw [if_neg hT, if_neg (by decide), if_neg (by omega)]

theorem z2 : (![0, 0] : Fin 2 → ℕ) = fun _ => 0 := by funext a; fin_cases a <;> rfl
theorem z3 : (![0, 0, 0] : Fin 3 → ℕ) = fun _ => 0 := by funext a; fin_cases a <;> rfl
theorem z4 : (![0, 0, 0, 0] : Fin 4 → ℕ) = fun _ => 0 := by funext a; fin_cases a <;> rfl
theorem ld2 {e : EltTy} {A B : ℕ} (x : Vec Ideal ⟨2, ![A, B]⟩ e) (h) : View.ld x (Rect.unit (s := ⟨2, ![A, B]⟩) ![0, 0] (Shape.size ⟨2, ![A, B]⟩) h) = x :=
  View.ld_unit_zero (S := ⟨2, ![A, B]⟩) z2 h x
theorem ld3 {e : EltTy} {A B C : ℕ} (x : Vec Ideal ⟨3, ![A, B, C]⟩ e) (h) : View.ld x (Rect.unit (s := ⟨3, ![A, B, C]⟩) ![0, 0, 0] (Shape.size ⟨3, ![A, B, C]⟩) h) = x :=
  View.ld_unit_zero (S := ⟨3, ![A, B, C]⟩) z3 h x
theorem ld4 {e : EltTy} {A B C D : ℕ} (x : Vec Ideal ⟨4, ![A, B, C, D]⟩ e) (h) :
    View.ld x (Rect.unit (s := ⟨4, ![A, B, C, D]⟩) ![0, 0, 0, 0] (Shape.size ⟨4, ![A, B, C, D]⟩) h) = x :=
  View.ld_unit_zero (S := ⟨4, ![A, B, C, D]⟩) z4 h x

theorem sum27 (g : Fin 27 → EReal) : ∑ j, g j = ∑ dy : Fin 3, ∑ dx : Fin 3, ∑ c : Fin 3, g ⟨9 * dy + 3 * dx + c, by omega⟩ := by
  simp only [← Fintype.sum_prod_type']
  exact (Fintype.sum_bijective (fun x : Fin 3 × Fin 3 × Fin 3 => (⟨9 * x.1 + 3 * x.2.1 + x.2.2, by omega⟩ : Fin 27)) (by decide) _ _ fun _ => rfl).symm

/-- The hidden layer before its bias, at a row inside the image. -/
theorem pre20_apply (f : Fin 3 → ℕ → ℕ → EReal) (w : Fin 3 → Fin 3 → Fin 3 → EReal) (i : grid2.Coords) (T : Fin 7) (hi : (i 1).val = T.val) (x5 x7 : Vec Ideal S1x2x224x3 .bf16) (x6 : Vec Ideal S1x32x224x3 .bf16) (x15 : Vec Ideal S27x128 .bf16) (k : Fin 128)
    (h5 : 0 < T.val → ∀ r q c, x5 (ix4 0 r q c) = f c (32 * T.val - 2 + r.val) q.val) (h6 : ∀ r q c, x6 (ix4 0 r q c) = f c (32 * T.val + r.val) q.val)
    (h7 : T.val < 6 → ∀ r q c, x7 (ix4 0 r q c) = f c (32 * T.val + 32 + r.val) q.val) (hw : ∀ dy dx c : Fin 3, x15 (ix2 ⟨9 * dy + 3 * dx + c, by omega⟩ k) = w dy dx c)
    (r : Fin 34) (q : Fin 224) (hr : 1 ≤ 32 * T.val + r.val) :
    pre20 i x5 x6 x7 x15 (ix2 ⟨r * 224 + q, by omega⟩ k) = Cert.Spec.conv f w (32 * T.val + r.val - 1) q.val := by
  unfold pre20
  rw [pay8_eq, mac_apply, sum27, hi]
  unfold Cert.Spec.conv
  refine Finset.sum_congr rfl fun dy _ => Finset.sum_congr rfl fun dx _ => Finset.sum_congr rfl fun c _ => ?_
  rw [cols_apply, bord_apply, ld2, ld4, ld4, ld4, hw]
  refine congrArg (· * w dy dx c) ?_
  unfold Cert.Spec.padz
  by_cases hq : 1 ≤ q.val + dx.val ∧ q.val + dx.val ≤ 224
  · rw [dif_pos (by dsimp only; omega), halo_apply f T x5 x7 x6 h5 h6 h7]
    by_cases hh : 2 ≤ 32 * T.val + (r.val + dy.val) ∧ 32 * T.val + (r.val + dy.val) < 226
    · rw [if_pos (by dsimp only; omega), if_pos (by omega)]
      have hc : (⟨(9 * dy.val + 3 * dx.val + c.val) % 3, by omega⟩ : Fin 3) = c := Fin.ext (by dsimp only; omega)
      rw [hc]
      congr 1 <;> dsimp only <;> omega
    · rw [if_neg (by dsimp only; omega), if_neg (by omega)]
  · rw [dif_neg (by dsimp only; omega), if_neg (by omega)]

/-! ## A patched block at an index -/

theorem put3 {e : EltTy} {A B C a b c d f g : ℕ} (x : Vec Ideal ⟨3, ![A, B, C]⟩ e) (w : Vec Ideal ⟨3, ![d, f, g]⟩ e) (r : Fin A) (q : Fin B) (k : Fin C) :
    VecWindow.put x ![a, b, c] ![d, f, g] w (ix3 r q k)
      = if h : (a ≤ r.val ∧ r.val < a + d) ∧ (b ≤ q.val ∧ q.val < b + f) ∧ (c ≤ k.val ∧ k.val < c + g)
        then w (ix3 ⟨r.val - a, by omega⟩ ⟨q.val - b, by omega⟩ ⟨k.val - c, by omega⟩) else x (ix3 r q k) := by
  unfold VecWindow.put
  by_cases h : (a ≤ r.val ∧ r.val < a + d) ∧ (b ≤ q.val ∧ q.val < b + f) ∧ (c ≤ k.val ∧ k.val < c + g)
  · rw [dif_pos h, dif_pos (by intro i; fin_cases i; exacts [h.1, h.2.1, h.2.2])]
    exact congrArg w (funext fun i => by fin_cases i <;> rfl)
  · rw [dif_neg h, dif_neg (fun H => h ⟨H 0, H 1, H 2⟩)]

/-- Whether a row of the hidden layer is outside the image. -/
theorem cmp_row (T : Fin 7) (r : Fin 34) :
    IntOp.ori (IntOp.andi (IntOp.cmpi .eq (BitVec.ofNat 32 r.val) 0#32) (Scalar.cmpi .eq (BitVec.ofNat 32 T.val) 0#32))
      (IntOp.andi (IntOp.cmpi .eq (BitVec.ofNat 32 r.val) 33#32) (Scalar.cmpi .eq (BitVec.ofNat 32 T.val) 6#32))
    = if 1 ≤ 32 * T.val + r.val ∧ 32 * T.val + r.val ≤ 224 then 0 else 1 := by
  revert r T; decide

theorem pay11_raw (a : BitVec 32) (v : FVec Ideal S7616x128 .f32) (x16 : Vec Ideal S1x128 .f32) (r : Fin 34) (q : Fin 224) (k : Fin 128) :
    k2_pay11 a v x16 (ix3 r q k) = Scalar.select (IntOp.ori (IntOp.andi (IntOp.cmpi .eq (BitVec.ofNat 32 r.val) 0#32) (Scalar.cmpi .eq a 0#32))
      (IntOp.andi (IntOp.cmpi .eq (BitVec.ofNat 32 r.val) 33#32) (Scalar.cmpi .eq a 6#32))) 0 (Cert.Spec.leaky (v (ix2 ⟨r * 224 + q, by omega⟩ k) + x16 (ix2 0 k))) := by
  pointwise [k2_pay11, Cert.Spec.leaky]

theorem pay2_apply (j) : (k2_pay2 (F := Ideal)) j = 0 := by
  pointwise [k2_pay2]
theorem pay3_apply (j) : (k2_pay3 (F := Ideal)) j = 0 := by
  pointwise [k2_pay3]
theorem pay9_apply (j) : (k2_pay9 (F := Ideal)) j = 0 := by
  pointwise [k2_pay9]
theorem pay10_apply (j) : (k2_pay10 (F := Ideal)) j = 0 := by
  pointwise [k2_pay10]
theorem pay4_raw (i : grid2.Coords) (x : Vec Ideal S1x1x224x64 .bf16) (r : Fin 1) (q : Fin 224) (k : Fin 64) :
    k2_pay4 i x (ix3 r q k) = Scalar.select (Scalar.cmpi .sgt (BitVec.ofNat 32 (i 1).val) 0#32) (x (ix4 0 0 q k)) 0 := by
  pointwise [k2_pay4]
theorem pay5_apply (x : Vec Ideal S1x32x224x64 .bf16) (r : Fin 32) (q : Fin 224) (k : Fin 64) : k2_pay5 x (ix3 r q k) = x (ix4 0 r q k) := by
  pointwise [k2_pay5]
theorem pay7_raw (b : BitVec 1) (x : Vec Ideal S1x1x224x64 .bf16) (r : Fin 1) (q : Fin 224) (k : Fin 64) :
    k2_pay7 b (k2_pay6 x) (Scalar.ofBits .bf16 0x0000#16) (ix3 r q k) = Scalar.select b (x (ix4 0 0 q k)) 0 := by
  pointwise [k2_pay7, k2_pay6]

/-- The style scratch is the bordered style field, from row `32 T` of the border's count on. -/
theorem style19_apply (f : Fin 64 → ℕ → ℕ → EReal) (i : grid2.Coords) (T : Fin 7) (hi : (i 1).val = T.val) (x2 x4 : Vec Ideal S1x1x224x64 .bf16) (x3 : Vec Ideal S1x32x224x64 .bf16)
    (h2 : 0 < T.val → ∀ q s, x2 (ix4 0 0 q s) = f s (32 * T.val - 1) q.val) (h3 : ∀ r q s, x3 (ix4 0 r q s) = f s (32 * T.val + r.val) q.val)
    (h4 : T.val < 6 → ∀ q s, x4 (ix4 0 0 q s) = f s (32 * T.val + 32) q.val) (r : Fin 34) (q : Fin 226) (s : Fin 64) :
    style19 i x2 x3 x4 (ix3 r q s) = Cert.Spec.padz (f s) (32 * T.val + r.val) q.val := by
  unfold style19 last19 rows19
  rw [put3, put3, put3, put3, put3, ld4, ld4, ld4]
  unfold Cert.Spec.padz
  by_cases hq : 1 ≤ q.val ∧ q.val ≤ 224
  · by_cases hr : r.val = 33
    · rw [dif_pos (by omega), pay7_raw, hi, cmp_lt, Scalar.select_def]
      by_cases hT : T.val < 6
      · rw [if_pos hT, if_pos rfl, h4 hT, if_pos (by omega)]
        congr 1; omega
      · rw [if_neg hT, if_neg (by decide), if_neg (by omega)]
    · rw [dif_neg (by omega)]
      by_cases hr0 : r.val = 0
      · rw [dif_neg (by omega), dif_pos (by omega), pay4_raw, hi, cmp_gt, Scalar.select_def]
        by_cases hT : 0 < T.val
        · rw [if_pos hT, if_pos rfl, h2 hT, if_pos (by omega)]
          congr 1; omega
        · rw [if_neg hT, if_neg (by decide), if_neg (by omega)]
      · rw [dif_pos (by omega), pay5_apply, h3, if_pos (by omega)]
        congr 1; dsimp only; omega
  · rw [dif_neg (by omega), dif_neg (by omega), dif_neg (by omega), if_neg (by omega)]
    by_cases hq0 : q.val = 0
    · rw [dif_neg (by omega), dif_pos (by omega), pay2_apply]
    · rw [dif_pos (by omega), pay3_apply]

/-- The hidden scratch is the bordered hidden layer. -/
theorem hid20_apply (f : Fin 3 → ℕ → ℕ → EReal) (w : Fin 3 → Fin 3 → Fin 3 → EReal) (i : grid2.Coords) (T : Fin 7) (hi : (i 1).val = T.val) (x5 x7 : Vec Ideal S1x2x224x3 .bf16) (x6 : Vec Ideal S1x32x224x3 .bf16) (x15 : Vec Ideal S27x128 .bf16) (x16 : Vec Ideal S1x128 .f32) (k : Fin 128)
    (h5 : 0 < T.val → ∀ r q c, x5 (ix4 0 r q c) = f c (32 * T.val - 2 + r.val) q.val) (h6 : ∀ r q c, x6 (ix4 0 r q c) = f c (32 * T.val + r.val) q.val)
    (h7 : T.val < 6 → ∀ r q c, x7 (ix4 0 r q c) = f c (32 * T.val + 32 + r.val) q.val) (hw : ∀ dy dx c : Fin 3, x15 (ix2 ⟨9 * dy + 3 * dx + c, by omega⟩ k) = w dy dx c)
    (r : Fin 34) (q : Fin 226) :
    hid20 i x5 x6 x7 x15 x16 (ix3 r q k) = Cert.Spec.padz (fun h q => Cert.Spec.leaky (Cert.Spec.conv f w h q + x16 (ix2 0 k))) (32 * T.val + r.val) q.val := by
  unfold hid20 rows20
  rw [put3, put3, put3, ld2]
  unfold Cert.Spec.padz
  by_cases hq : 1 ≤ q.val ∧ q.val ≤ 224
  · rw [dif_pos (by omega), pay11_raw, hi, Scalar.select_def]
    by_cases hr : 1 ≤ 32 * T.val + r.val ∧ 32 * T.val + r.val ≤ 224
    · rw [(cmp_row T ⟨r.val - 0, by omega⟩).trans (if_pos hr), if_neg (by decide), if_pos (by omega)]
      refine congrArg (fun z => Cert.Spec.leaky (z + _)) ?_
      exact (pre20_apply f w i T hi x5 x7 x6 x15 k h5 h6 h7 hw r ⟨q.val - 1, by omega⟩ hr.1)
    · rw [(cmp_row T ⟨r.val - 0, by omega⟩).trans (if_neg hr), if_pos rfl, if_neg (by omega)]
  · rw [dif_neg (by omega), if_neg (by omega)]
    by_cases hq0 : q.val = 0
    · rw [dif_neg (by omega), dif_pos (by omega), pay9_apply]
    · rw [dif_pos (by omega), pay10_apply]

end Cert.KernelIdeal.Main

end
-- ==== Proof.VBlk.lean ====
/-
  The main call's blocks, at an index of the arrays they are cut from.
-/
module

public import proofs.«01_k».proof.Proof.VHost
public import proofs.«01_k».proof.Proof.VHid
public import proofs.«01_k».proof.Proof.VAcc

@[expose] public section

set_option maxRecDepth 16384

noncomputable section

namespace Cert.KernelIdeal.Main

open Cert.KernelIdeal.Gen
open Idealize.ShloMosaic Idealize.ShloMosaic.TcCoe
open Cert.Spec
variable (W : Val Ideal) (c : Dev nD)

theorem lt2 (t : Fin cfg2.N) : t.val < 14 := t.isLt
/-- The image and the row group of a point. -/
abbrev im2 (t : Fin cfg2.N) : Fin 2 := ⟨t.val / 7, by have := lt2 t; omega⟩
abbrev rg2 (t : Fin cfg2.N) : Fin 7 := ⟨t.val % 7, by omega⟩
/-- Row `r` of a fine array. -/
abbrev fine (r : ℕ) : Fin 224 := Fin.ofNat 224 r

theorem co2 : ∀ t : Fin cfg2.N, (grid2.coords t 1).val = t.val % 7 := (by decide +kernel : ∀ t : Fin grid2.N, _)
theorem i2_0 : ∀ t : Fin cfg2.N, win2_0.index t = ![t.val / 7, t.val % 7 * 32 - 1, 0, 0] := (by decide +kernel : ∀ t : Fin grid2.N, _)
theorem i2_1 : ∀ t : Fin cfg2.N, win2_1.index t = ![t.val / 7, t.val % 7, 0, 0] := (by decide +kernel : ∀ t : Fin grid2.N, _)
theorem i2_2 : ∀ t : Fin cfg2.N, win2_2.index t = ![t.val / 7, min (t.val % 7 * 32 + 32) 223, 0, 0] := (by decide +kernel : ∀ t : Fin grid2.N, _)
theorem i2_3 : ∀ t : Fin cfg2.N, win2_3.index t = ![t.val / 7, t.val % 7 * 16 - 1, 0, 0] := (by decide +kernel : ∀ t : Fin grid2.N, _)
theorem i2_4 : ∀ t : Fin cfg2.N, win2_4.index t = ![t.val / 7, t.val % 7, 0, 0] := (by decide +kernel : ∀ t : Fin grid2.N, _)
theorem i2_5 : ∀ t : Fin cfg2.N, win2_5.index t = ![t.val / 7, min (t.val % 7 * 16 + 16) 111, 0, 0] := (by decide +kernel : ∀ t : Fin grid2.N, _)
theorem i2_6 : ∀ t : Fin cfg2.N, win2_6.index t = ![t.val / 7, 0, t.val % 7, 0] := (by decide +kernel : ∀ t : Fin grid2.N, _)
theorem i2_7 : ∀ t : Fin cfg2.N, win2_7.index t = ![t.val / 7, t.val % 7, 0] := (by decide +kernel : ∀ t : Fin grid2.N, _)
theorem i2_8 : ∀ t : Fin cfg2.N, win2_8.index t = ![0, 0] := (by decide +kernel : ∀ t : Fin grid2.N, _)
theorem i2_9 : ∀ t : Fin cfg2.N, win2_9.index t = ![t.val / 7, 0, 0] := (by decide +kernel : ∀ t : Fin grid2.N, _)
theorem i2_10 : ∀ t : Fin cfg2.N, win2_10.index t = ![t.val / 7, 0, 0] := (by decide +kernel : ∀ t : Fin grid2.N, _)
theorem i2_11 : ∀ t : Fin cfg2.N, win2_11.index t = ![0, 0, 0] := (by decide +kernel : ∀ t : Fin grid2.N, _)
theorem i2_12 : ∀ t : Fin cfg2.N, win2_12.index t = ![0, 0, 0] := (by decide +kernel : ∀ t : Fin grid2.N, _)
theorem i2_13 : ∀ t : Fin cfg2.N, win2_13.index t = ![0, 0] := (by decide +kernel : ∀ t : Fin grid2.N, _)
theorem i2_14 : ∀ t : Fin cfg2.N, win2_14.index t = ![0, 0] := (by decide +kernel : ∀ t : Fin grid2.N, _)
theorem i2_15 : ∀ t : Fin cfg2.N, win2_15.index t = ![0, 0] := (by decide +kernel : ∀ t : Fin grid2.N, _)
theorem i2_16 : ∀ t : Fin cfg2.N, win2_16.index t = ![t.val / 7, 0, t.val % 7, 0] := (by decide +kernel : ∀ t : Fin grid2.N, _)

theorem b2_0 (t : Fin cfg2.N) (q : Fin 224) (s : Fin 64) :
    (blk2 W c 0 t : Vec Ideal S1x1x224x64 .bf16) (ix4 0 0 q s) = (W c main_v72 : Vec Ideal S2x224x224x64 .bf16) (ix4 (im2 t) ⟨t.val % 7 * 32 - 1, by omega⟩ q s) := by
  blk_ext [blk2, i2_0 t]
theorem b2_1 (t : Fin cfg2.N) (r : Fin 32) (q : Fin 224) (s : Fin 64) :
    (blk2 W c 1 t : Vec Ideal S1x32x224x64 .bf16) (ix4 0 r q s) = (W c main_v72 : Vec Ideal S2x224x224x64 .bf16) (ix4 (im2 t) ⟨t.val % 7 * 32 + r, by omega⟩ q s) := by
  blk_ext [blk2, i2_1 t]
theorem b2_2 (t : Fin cfg2.N) (q : Fin 224) (s : Fin 64) :
    (blk2 W c 2 t : Vec Ideal S1x1x224x64 .bf16) (ix4 0 0 q s) = (W c main_v72 : Vec Ideal S2x224x224x64 .bf16) (ix4 (im2 t) ⟨min (t.val % 7 * 32 + 32) 223, by omega⟩ q s) := by
  blk_ext [blk2, i2_2 t]
theorem b2_3 (t : Fin cfg2.N) (r : Fin 2) (q : Fin 224) (s : Fin 3) :
    (blk2 W c 3 t : Vec Ideal S1x2x224x3 .bf16) (ix4 0 r q s) = (W c main_v59 : Vec Ideal S2x224x224x3 .bf16) (ix4 (im2 t) ⟨(t.val % 7 * 16 - 1) * 2 + r, by omega⟩ q s) := by
  blk_ext [blk2, i2_3 t]
theorem b2_4 (t : Fin cfg2.N) (r : Fin 32) (q : Fin 224) (s : Fin 3) :
    (blk2 W c 4 t : Vec Ideal S1x32x224x3 .bf16) (ix4 0 r q s) = (W c main_v59 : Vec Ideal S2x224x224x3 .bf16) (ix4 (im2 t) ⟨t.val % 7 * 32 + r, by omega⟩ q s) := by
  blk_ext [blk2, i2_4 t]
theorem b2_5 (t : Fin cfg2.N) (r : Fin 2) (q : Fin 224) (s : Fin 3) :
    (blk2 W c 5 t : Vec Ideal S1x2x224x3 .bf16) (ix4 0 r q s) = (W c main_v59 : Vec Ideal S2x224x224x3 .bf16) (ix4 (im2 t) ⟨min (t.val % 7 * 16 + 16) 111 * 2 + r, by omega⟩ q s) := by
  blk_ext [blk2, i2_5 t]
theorem b2_6 (t : Fin cfg2.N) (k : Fin 96) (r : Fin 32) (q : Fin 224) :
    (blk2 W c 6 t : Vec Ideal S1x96x32x224 .f32) (ix4 0 k r q) = (W c main_arg0 : Vec Ideal S2x96x224x224 .f32) (ix4 (im2 t) k ⟨t.val % 7 * 32 + r, by omega⟩ q) := by
  blk_ext [blk2, i2_6 t]
theorem b2_7 (t : Fin cfg2.N) (r : Fin 32) (q : Fin 224) :
    (blk2 W c 7 t : Vec Ideal S1x32x224 .f32) (ix3 0 r q) = (W c main_v51 : Vec Ideal S2x224x224 .f32) (ix3 (im2 t) ⟨t.val % 7 * 32 + r, by omega⟩ q) := by
  blk_ext [blk2, i2_7 t]
theorem b2_8 (t : Fin cfg2.N) (k : Fin 96) :
    (blk2 W c 8 t : Vec Ideal S1x96 .f32) (ix2 0 k) = (W c main_v60 : Vec Ideal S1x96 .f32) (ix2 0 k) := by
  blk_ext [blk2, i2_8 t]
theorem b2_9 (t : Fin cfg2.N) (k : Fin 96) :
    (blk2 W c 9 t : Vec Ideal S1x1x96 .f32) (ix3 0 0 k) = (W c main_v65 : Vec Ideal S2x1x96 .f32) (ix3 (im2 t) 0 k) := by
  blk_ext [blk2, i2_9 t]
theorem b2_10 (t : Fin cfg2.N) (k : Fin 96) :
    (blk2 W c 10 t : Vec Ideal S1x1x96 .f32) (ix3 0 0 k) = (W c main_v66 : Vec Ideal S2x1x96 .f32) (ix3 (im2 t) 0 k) := by
  blk_ext [blk2, i2_10 t]
theorem b2_11 (t : Fin cfg2.N) (d : Fin 9) (s : Fin 64) (k : Fin 192) :
    (blk2 W c 11 t : Vec Ideal S9x64x192 .bf16) (ix3 d s k) = (W c main_v19 : Vec Ideal S9x64x192 .bf16) (ix3 d s k) := by
  blk_ext [blk2, i2_11 t]
theorem b2_12 (t : Fin cfg2.N) (d : Fin 9) (s : Fin 128) (k : Fin 192) :
    (blk2 W c 12 t : Vec Ideal S9x128x192 .bf16) (ix3 d s k) = (W c main_v31 : Vec Ideal S9x128x192 .bf16) (ix3 d s k) := by
  blk_ext [blk2, i2_12 t]
theorem b2_13 (t : Fin cfg2.N) (j : Fin 27) (k : Fin 128) :
    (blk2 W c 13 t : Vec Ideal S27x128 .bf16) (ix2 j k) = (W c main_v34 : Vec Ideal S27x128 .bf16) (ix2 j k) := by
  blk_ext [blk2, i2_13 t]
theorem b2_14 (t : Fin cfg2.N) (k : Fin 128) :
    (blk2 W c 14 t : Vec Ideal S1x128 .f32) (ix2 0 k) = (W c main_v49 : Vec Ideal S1x128 .f32) (ix2 0 k) := by
  blk_ext [blk2, i2_14 t]
theorem b2_15 (t : Fin cfg2.N) (k : Fin 192) :
    (blk2 W c 15 t : Vec Ideal S1x192 .f32) (ix2 0 k) = (W c main_v48 : Vec Ideal S1x192 .f32) (ix2 0 k) := by
  blk_ext [blk2, i2_15 t]
theorem e2_16 (t : Fin cfg2.N) (y : S1x96x32x224.Idx) :
    (win2_16.blk t).view.emb y = (ix4 (im2 t) (y 1) ⟨t.val % 7 * 32 + (y 2).val, by have h : (y 2).val < 32 := (y 2).isLt; omega⟩ (y 3) : S2x96x224x224.Idx) := by
  blk_ext [i2_16 t]

end Cert.KernelIdeal.Main

end
-- ==== Proof.VMain.lean ====
/-
  What the main call leaves, at an index.
-/
module

public import proofs.«01_k».proof.Proof.VBlk

@[expose] public section

set_option maxRecDepth 16384

noncomputable section

namespace Cert.KernelIdeal.Main

open Cert.KernelIdeal.Gen
open Idealize.ShloMosaic Idealize.ShloMosaic.TcCoe
open Cert.Spec
variable (W : Val Ideal) (c : Dev nD)

/-- An array of extended reals, at an index. -/
abbrev ev (s : Shape) (V : s.Idx → EReal) (i : s.Idx) : EReal := V i

/-- The style field, the mask field and the hidden field the main call is given. -/
def fS (b : Fin 2) (s : Fin 64) (h q : ℕ) : EReal := ev S2x224x224x64 (W c main_v72) (ix4 b (fine h) (fine q) s)
def fM (b : Fin 2) (k : Fin 3) (h q : ℕ) : EReal := ev S2x224x224x3 (W c main_v59) (ix4 b (fine h) (fine q) k)
def fH (b : Fin 2) (k : Fin 128) (h q : ℕ) : EReal :=
  leaky (conv (fM W c b) (fun dy dx j => ev S27x128 (W c main_v34) (ix2 ⟨9 * dy + 3 * dx + j, by omega⟩ k)) h q + ev S1x128 (W c main_v49) (ix2 0 k))

/-- The accumulated channel `k`. -/
def accF (b : Fin 2) (k : Fin 192) (h q : ℕ) : EReal :=
  ev S1x192 (W c main_v48) (ix2 0 k)
    + (conv (fS W c b) (fun dy dx s => ev S9x64x192 (W c main_v19) (ix3 ⟨3 * dy + dx, by omega⟩ s k)) h q
      + conv (fH W c b) (fun dy dx s => ev S9x128x192 (W c main_v31) (ix3 ⟨3 * dy + dx, by omega⟩ s k)) h q)

theorem style_at (t : Fin cfg2.N) (r : Fin 34) (q : Fin 226) (s : Fin 64) :
    style19 (grid2.coords t) (blk2 W c 0 t) (blk2 W c 1 t) (blk2 W c 2 t) (ix3 r q s) = padz (fS W c (im2 t) s) (32 * (rg2 t).val + r.val) q.val := by
  refine style19_apply (fS W c (im2 t)) _ (rg2 t) (co2 t) _ _ _ (fun h q s => ?_) (fun r q s => ?_) (fun h q s => ?_) r q s
  · have h : 0 < t.val % 7 := h
    refine (b2_0 W c t q s).trans ?_
    refine rd4 _ rfl ?_ ?_ rfl <;> simp only [fine, Fin.val_ofNat] <;> omega
  · refine (b2_1 W c t r q s).trans ?_
    refine rd4 _ rfl ?_ ?_ rfl <;> simp only [fine, Fin.val_ofNat] <;> omega
  · have h : t.val % 7 < 6 := h
    refine (b2_2 W c t q s).trans ?_
    refine rd4 _ rfl ?_ ?_ rfl <;> simp only [fine, Fin.val_ofNat] <;> omega

theorem hid_at (t : Fin cfg2.N) (r : Fin 34) (q : Fin 226) (k : Fin 128) :
    hid20 (grid2.coords t) (blk2 W c 3 t) (blk2 W c 4 t) (blk2 W c 5 t) (blk2 W c 13 t) (blk2 W c 14 t) (ix3 r q k)
      = padz (fH W c (im2 t) k) (32 * (rg2 t).val + r.val) q.val := by
  refine (hid20_apply (fM W c (im2 t)) (fun dy dx j => (W c main_v34 : Vec Ideal S27x128 .bf16) (ix2 ⟨9 * dy + 3 * dx + j, by omega⟩ k)) _ (rg2 t) (co2 t) _ _ _ _ _ k
    (fun h r q s => ?_) (fun r q s => ?_) (fun h r q s => ?_) (fun dy dx j => b2_13 W c t _ k) r q).trans ?_
  · have h : 0 < t.val % 7 := h
    refine (b2_3 W c t r q s).trans ?_
    refine rd4 _ rfl ?_ ?_ rfl <;> simp only [fine, Fin.val_ofNat] <;> omega
  · refine (b2_4 W c t r q s).trans ?_
    refine rd4 _ rfl ?_ ?_ rfl <;> simp only [fine, Fin.val_ofNat] <;> omega
  · have h : t.val % 7 < 6 := h
    refine (b2_5 W c t r q s).trans ?_
    refine rd4 _ rfl ?_ ?_ rfl <;> simp only [fine, Fin.val_ofNat] <;> omega
  · unfold fH
    rw [show (blk2 W c 14 t : Vec Ideal S1x128 .f32) (ix2 0 k) = _ from b2_14 W c t k]

/-- The accumulator at a point of the grid. -/
theorem acc_at (t : Fin cfg2.N) (r : Fin 32) (q : Fin 224) (k : Fin 192) :
    acc9 (style19 (grid2.coords t) (blk2 W c 0 t) (blk2 W c 1 t) (blk2 W c 2 t))
        (hid20 (grid2.coords t) (blk2 W c 3 t) (blk2 W c 4 t) (blk2 W c 5 t) (blk2 W c 13 t) (blk2 W c 14 t))
        (blk2 W c 11 t) (blk2 W c 12 t) (blk2 W c 15 t) (ix2 ⟨r * 224 + q, by omega⟩ k)
      = accF W c (im2 t) k (t.val % 7 * 32 + r.val) q.val := by
  refine (acc9_apply _ _ _ _ _ _ k).trans ?_
  unfold accF
  refine congrArg₂ (· + ·) (b2_15 W c t k) ?_
  unfold conv
  rw [← Finset.sum_add_distrib]
  refine Finset.sum_congr rfl fun dy _ => ?_
  rw [← Finset.sum_add_distrib]
  refine Finset.sum_congr rfl fun dx _ => ?_
  unfold tap
  have hr : (r.val * 224 + q.val) / 224 = r.val := by omega
  have hq : (r.val * 224 + q.val) % 224 = q.val := by omega
  refine congrArg₂ (· + ·) (Finset.sum_congr rfl fun s _ => congrArg₂ (· * ·) ?_ (b2_11 W c t _ s k)) (Finset.sum_congr rfl fun s _ => congrArg₂ (· * ·) ?_ (b2_12 W c t _ s k))
  · refine (style_at W c t _ _ s).trans ?_
    dsimp only
    rw [hr, hq]; congr 1 <;> omega
  · refine (hid_at W c t _ _ s).trans ?_
    dsimp only
    rw [hr, hq]; congr 1 <;> omega

/-- The main call's result. -/
def outF (b : Fin 2) (k : Fin 96) (h q : Fin 224) : EReal :=
  ((ev S2x96x224x224 (W c main_arg0) (ix4 b k h q) + ev S2x224x224 (W c main_v51) (ix3 b h q) * ev S1x96 (W c main_v60) (ix2 0 k))
      * ev S2x1x96 (W c main_v65) (ix3 b 0 k) + ev S2x1x96 (W c main_v66) (ix3 b 0 k)) * (1 + accF W c b ⟨k, by omega⟩ h q)
    + accF W c b ⟨96 + k, by omega⟩ h q
def outArr : Vec Ideal S2x96x224x224 .f32 := fun i => outF W c (i 0) (i 1) (i 2) (i 3)

theorem out_at (x8 : Vec Ideal S1x96x32x224 .f32) (x9 : Vec Ideal S1x32x224 .f32) (x10 : Vec Ideal S1x96 .f32) (x11 x12 : Vec Ideal S1x1x96 .f32) (a : FVec Ideal S7168x192 .f32)
    (y : S1x96x32x224.Idx) :
    out16 x8 x9 x10 x11 x12 a y = out16 x8 x9 x10 x11 x12 a (ix4 0 (y 1) (y 2) (y 3)) := by
  congr 1
  funext d; fin_cases d
  · exact Subsingleton.elim (α := Fin 1) _ _
  all_goals rfl

theorem arr2 : (dat2 W c).arrAt 16 cfg2.N = outArr W c := by
  refine (dat2 W c).arrAt_eq_of_covers 16 _ (by decide +kernel) fun t hf y => ?_
  blk_simp
  rw [aft2_16]
  refine (out_at _ _ _ _ _ _ y).trans ((out16_apply _ _ _ _ _ _ (y 1) (y 2) (y 3)).trans ?_)
  refine Eq.trans ?_ (congrArg (outArr W c) (e2_16 t y).symm)
  unfold outArr outF
  refine congrArg₂ (· + ·) (congrArg₂ (· * ·) (congrArg₂ (· + ·) (congrArg₂ (· * ·) (congrArg₂ (· + ·) ?_ (congrArg₂ (· * ·) ?_ ?_)) ?_) ?_) (congrArg (1 + ·) ?_)) ?_
  · exact b2_6 W c t _ _ _
  · exact b2_7 W c t _ _
  · exact b2_8 W c t _
  · exact b2_9 W c t _
  · exact b2_10 W c t _
  · exact acc_at W c t _ _ _
  · exact acc_at W c t _ _ _

end Cert.KernelIdeal.Main

end
-- ==== Proof.VSel.lean ====
/-
  The selection call's result at an index: the product with the one-hot row is the code of the last mark set.
-/
module

public import proofs.«01_k».proof.Proof.Region1
public import proofs.«01_k».proof.Proof.Spec
public import Idealize.ShloMosaic.Lib.Pointwise

@[expose] public section

set_option maxRecDepth 16384

noncomputable section

namespace Cert.Spec

open Idealize.ShloMosaic

theorem chain_none (z v : Fin 19 → EReal) (n : ℕ) (h : ∀ k : Fin 19, k.val < n → z k = 0) : chain z v n = 0 := by
  induction n with
  | zero => rfl
  | succ n ih =>
    unfold chain
    by_cases hn : n < 19
    · rw [dif_pos hn, if_neg (not_not.2 (h ⟨n, hn⟩ (Nat.lt_succ_self n))), ih fun k hk => h k (by omega)]
    · rw [dif_neg hn, ih fun k hk => h k (by omega)]

theorem chain_last (z v : Fin 19 → EReal) (j : Fin 19) (hj : z j ≠ 0) (n : ℕ) (hn : j.val < n) (h : ∀ k : Fin 19, j < k → z k = 0) : chain z v n = v j := by
  induction n with
  | zero => omega
  | succ n ih =>
    unfold chain
    by_cases hl : n < 19
    · rw [dif_pos hl]
      by_cases e : j.val = n
      · have : (⟨n, hl⟩ : Fin 19) = j := Fin.ext e.symm
        rw [this, if_pos hj]
      · rw [if_neg (not_not.2 (h ⟨n, hl⟩ (by show j.val < n; omega))), ih (by omega)]
    · rw [dif_neg hl, ih (by omega)]

end Cert.Spec

namespace Cert.KernelIdeal.Main

open Cert.KernelIdeal.Gen
open Idealize.ShloMosaic Idealize.ShloMosaic.TcCoe

theorem toInt_max (a b : BitVec 32) : (IntOp.maxsi a b).toInt = max a.toInt b.toInt := by
  unfold IntOp.maxsi
  simp only [BitVec.slt_iff_toInt_lt]
  split_ifs <;> omega

theorem toInt_small (j : Fin 19) : (BitVec.ofNat 32 j.val).toInt = (j.val : ℤ) := by
  revert j; decide

/-- The largest marked index, minus one where nothing is marked. -/
def top (z : Fin 19 → EReal) : BitVec 32 :=
  Finset.fold IntOp.maxsi (2147483648#32) (fun x : Fin 19 => if z x ≠ 0 then BitVec.ofNat 32 x.val else 4294967295#32) Finset.univ

theorem top_iff (z : Fin 19 → EReal) (j : Fin 19) : BitVec.ofNat 32 j.val = top z ↔ z j ≠ 0 ∧ ∀ k, z k ≠ 0 → k ≤ j := by
  have hM : (top z).toInt = Finset.fold max (2147483648#32 : BitVec 32).toInt (fun x : Fin 19 => if z x ≠ 0 then (x.val : ℤ) else -1) Finset.univ := by
    unfold top
    rw [← Finset.fold_hom (m := BitVec.toInt) (op' := max) toInt_max]
    refine Finset.fold_congr fun x _ => ?_
    split_ifs
    · exact (toInt_small x)
    · rfl
  have h0 : (2147483648#32 : BitVec 32).toInt = -2147483648 := rfl
  rw [h0] at hM
  have hle : ∀ k, z k ≠ 0 → (k.val : ℤ) ≤ (top z).toInt := fun k hk => by
    rw [hM, Finset.le_fold_max]
    exact Or.inr ⟨k, Finset.mem_univ k, by rw [if_pos hk]⟩
  constructor
  · intro e
    have e' : (j.val : ℤ) = (top z).toInt := by rw [← e, toInt_small]
    have hj := e'.le
    rw [hM, Finset.le_fold_max] at hj
    obtain hj | ⟨x, -, hx⟩ := hj
    · omega
    · by_cases hz : z x ≠ 0
      · rw [if_pos hz] at hx
        have := hle x hz
        have hxj : x = j := Fin.ext (by omega)
        refine ⟨hxj ▸ hz, fun k hk => ?_⟩
        have := hle k hk
        rw [Fin.le_def]; omega
      · rw [if_neg hz] at hx; omega
  · rintro ⟨hj, hk⟩
    refine BitVec.eq_of_toInt_eq ?_
    rw [toInt_small]
    refine le_antisymm (hle j hj) ?_
    rw [hM, Finset.fold_max_le]
    refine ⟨by omega, fun x _ => ?_⟩
    split_ifs with hz
    · have := Fin.le_def.1 (hk x hz); omega
    · omega

/-- The value of a comparison's word. -/
theorem bit_val (b : BitVec 1) : (FloatOps.sitofp (F := Ideal) .f32 (BitVec.setWidth 32 b) : EReal) = if b = 1 then 1 else 0 := by
  have : b = 0 ∨ b = 1 := by revert b; decide
  show (((BitVec.setWidth 32 b).toInt : ℝ) : EReal) = _
  obtain rfl | rfl := this
  · rw [if_neg (by decide), show (BitVec.setWidth 32 (0 : BitVec 1)).toInt = 0 from rfl]; simp
  · rw [if_pos rfl, show (BitVec.setWidth 32 (1 : BitVec 1)).toInt = 1 from rfl]; simp

theorem onehot (z v : Fin 19 → EReal) :
    ∑ x : Fin 19, (FloatOps.sitofp (F := Ideal) .f32 (BitVec.setWidth 32 (IntOp.cmpi .eq (BitVec.ofNat 32 x.val) (top z))) : EReal) * v x = Cert.Spec.chain z v 19 := by
  have hb : ∀ x : Fin 19, (FloatOps.sitofp (F := Ideal) .f32 (BitVec.setWidth 32 (IntOp.cmpi .eq (BitVec.ofNat 32 x.val) (top z))) : EReal) * v x
      = if z x ≠ 0 ∧ ∀ k, z k ≠ 0 → k ≤ x then v x else 0 := fun x => by
    rw [bit_val]
    have : (IntOp.cmpi .eq (BitVec.ofNat 32 x.val) (top z) = 1) ↔ BitVec.ofNat 32 x.val = top z := by
      show BitVec.ofBool (BitVec.ofNat 32 x.val == top z) = 1 ↔ _
      by_cases h : BitVec.ofNat 32 x.val = top z
      · rw [h]; simp
      · rw [beq_false_of_ne h]; simp [h]
    rw [if_congr (this.trans (top_iff z x)) rfl rfl]
    split_ifs <;> simp
  rw [Finset.sum_congr rfl fun x _ => hb x]
  by_cases hz : ∃ k, z k ≠ 0
  · obtain ⟨k, hk⟩ := hz
    have hne : (Finset.univ.filter fun k => z k ≠ 0).Nonempty := ⟨k, by simp [hk]⟩
    set j := (Finset.univ.filter fun k => z k ≠ 0).max' hne with hj
    have h1 : z j ≠ 0 := by simpa using Finset.max'_mem _ hne
    have h2 : ∀ k, z k ≠ 0 → k ≤ j := fun k hk => Finset.le_max' _ k (by simp [hk])
    rw [Finset.sum_eq_single j, if_pos ⟨h1, h2⟩, Cert.Spec.chain_last z v j h1 19 j.isLt fun k hk => by
      by_contra h; exact absurd (h2 k h) (not_le.2 hk)]
    · intro x _ hx
      rw [if_neg fun h => hx (le_antisymm (h2 x h.1) (h.2 j h1))]
    · exact fun h => absurd (Finset.mem_univ j) h
  · have hz' : ∀ k, z k = 0 := fun k => by by_contra h; exact hz ⟨k, h⟩
    rw [Cert.Spec.chain_none z v 19 fun k _ => hz' k]
    exact Finset.sum_eq_zero fun x _ => if_neg fun h => h.1 (hz' x)

theorem sel_apply (x0 : Vec Ideal S1x12544x19 .f32) (x1 : Vec Ideal S1x19x64 .f32) (p : Fin 12544) (s : Fin 64) :
    sel x0 x1 (ix3 0 p s) = Cert.Spec.chain (fun j => x0 (ix3 0 p j)) (fun j => x1 (ix3 0 j s)) 19 := by
  rw [← onehot]
  unfold sel
  pointwise [k1_pay1]
  rfl

end Cert.KernelIdeal.Main

end
-- ==== Proof.VStats.lean ====
/-
  The statistics call's results at an index.
-/
module

public import proofs.«01_k».proof.Proof.Region0
public import proofs.«01_k».proof.Proof.VHid
public import proofs.«01_k».proof.Proof.Maths
public import Idealize.ShloMosaic.Lib.Pipeline.ValueKit

@[expose] public section

set_option maxRecDepth 16384

noncomputable section

namespace Cert.KernelIdeal.Main

open Cert.KernelIdeal.Gen
open Idealize.ShloMosaic Idealize.ShloMosaic.TcCoe

/-- A block's sums, scale and shift, in the names of the mathematics. -/
theorem mean_apply (x0 : Vec Ideal S1x32x224x224 .f32) (x1 : Vec Ideal S1x224x224 .f32) (x2 : Vec Ideal S1x1x32 .f32) (k : Fin 32) :
    k0_pay7 x0 x1 x2 (ix1 k) = Cert.Spec.kmean (fun h q => x0 (ix4 0 k h q)) (fun h q => x1 (ix3 0 h q)) (x2 (ix3 0 0 k)) := by
  pointwise [k0_pay7, k0_pay6, k0_pay5, k0_pay4]
  rfl

theorem var_apply (x0 : Vec Ideal S1x32x224x224 .f32) (x1 : Vec Ideal S1x224x224 .f32) (x2 : Vec Ideal S1x1x32 .f32) (k : Fin 32) :
    k0_pay8 x0 x1 x2 (ix1 k) = Cert.Spec.kvar (fun h q => x0 (ix4 0 k h q)) (fun h q => x1 (ix3 0 h q)) (x2 (ix3 0 0 k)) := by
  unfold k0_pay8 Cert.Spec.kvar
  rw [← mean_apply x0 x1 x2 k]
  generalize k0_pay7 x0 x1 x2 = m
  pointwise [k0_pay6, k0_pay5, k0_pay4]
  rfl

theorem scl_apply (x0 : Vec Ideal S1x32x224x224 .f32) (x1 : Vec Ideal S1x224x224 .f32) (x2 x3 x4 : Vec Ideal S1x1x32 .f32) (k : Fin 32) :
    scl x0 x1 x2 x3 x4 (ix4 0 0 0 k) = Cert.Spec.kscl (fun h q => x0 (ix4 0 k h q)) (fun h q => x1 (ix3 0 h q)) (x2 (ix3 0 0 k)) (x3 (ix3 0 0 k)) := by
  unfold scl Cert.Spec.kscl
  rw [ld4, ld3, ld3, ld3, ← var_apply]
  generalize k0_pay8 x0 x1 x2 = v
  pointwise [k0_pay2, k0_pay1]
  rfl

theorem shf_apply (x0 : Vec Ideal S1x32x224x224 .f32) (x1 : Vec Ideal S1x224x224 .f32) (x2 x3 x4 : Vec Ideal S1x1x32 .f32) (k : Fin 32) :
    shf x0 x1 x2 x3 x4 (ix4 0 0 0 k) = Cert.Spec.kshf (fun h q => x0 (ix4 0 k h q)) (fun h q => x1 (ix3 0 h q)) (x2 (ix3 0 0 k)) (x3 (ix3 0 0 k)) (x4 (ix3 0 0 k)) := by
  unfold shf Cert.Spec.kshf Cert.Spec.kscl
  rw [ld4, ld3, ld3, ld3, ld3, ← var_apply, ← mean_apply]
  generalize k0_pay8 x0 x1 x2 = v
  generalize k0_pay7 x0 x1 x2 = m
  pointwise [k0_pay3, k0_pay1]
  rfl

end Cert.KernelIdeal.Main

end
-- ==== Proof.VArr.lean ====
/-
  What the selection call and the statistics call leave, at an index.
-/
module

public import proofs.«01_k».proof.Proof.VHost
public import proofs.«01_k».proof.Proof.VSel
public import proofs.«01_k».proof.Proof.VStats

@[expose] public section

set_option maxRecDepth 16384

noncomputable section

namespace Cert.KernelIdeal.Main

open Cert.KernelIdeal.Gen
open Idealize.ShloMosaic Idealize.ShloMosaic.TcCoe
open Cert.Spec
variable (W : Val Ideal) (c : Dev nD)

theorem sel_at (x0 : Vec Ideal S1x12544x19 .f32) (x1 : Vec Ideal S1x19x64 .f32) (y : S1x12544x64.Idx) :
    sel x0 x1 y = chain (fun j => x0 (ix3 0 (y 1) j)) (fun j => x1 (ix3 0 j (y 2))) 19 := by
  refine Eq.trans ?_ (sel_apply x0 x1 (y 1) (y 2))
  refine congrArg (sel x0 x1) (funext fun a => ?_)
  fin_cases a
  · exact Subsingleton.elim (α := Fin 1) _ _
  all_goals rfl

theorem scl_at (x0 : Vec Ideal S1x32x224x224 .f32) (x1 : Vec Ideal S1x224x224 .f32) (x2 x3 x4 : Vec Ideal S1x1x32 .f32) (y : S1x1x1x32.Idx) :
    scl x0 x1 x2 x3 x4 y = kscl (fun h q => x0 (ix4 0 (y 3) h q)) (fun h q => x1 (ix3 0 h q)) (x2 (ix3 0 0 (y 3))) (x3 (ix3 0 0 (y 3))) := by
  refine Eq.trans ?_ (scl_apply x0 x1 x2 x3 x4 (y 3))
  refine congrArg (scl x0 x1 x2 x3 x4) (funext fun a => ?_)
  fin_cases a
  iterate 3 exact Subsingleton.elim (α := Fin 1) _ _
  rfl

theorem shf_at (x0 : Vec Ideal S1x32x224x224 .f32) (x1 : Vec Ideal S1x224x224 .f32) (x2 x3 x4 : Vec Ideal S1x1x32 .f32) (y : S1x1x1x32.Idx) :
    shf x0 x1 x2 x3 x4 y = kshf (fun h q => x0 (ix4 0 (y 3) h q)) (fun h q => x1 (ix3 0 h q)) (x2 (ix3 0 0 (y 3))) (x3 (ix3 0 0 (y 3))) (x4 (ix3 0 0 (y 3))) := by
  refine Eq.trans ?_ (shf_apply x0 x1 x2 x3 x4 (y 3))
  refine congrArg (shf x0 x1 x2 x3 x4) (funext fun a => ?_)
  fin_cases a
  iterate 3 exact Subsingleton.elim (α := Fin 1) _ _
  rfl

theorem idx1 : ∀ t : Fin cfg1.N, win1_0.index t = ![t.val, 0, 0] ∧ win1_1.index t = ![t.val, 0, 0] ∧ win1_2.index t = ![t.val, 0, 0] :=
  (by decide +kernel : ∀ t : Fin grid1.N, _)
theorem lt1 (t : Fin cfg1.N) : t.val < 2 := t.isLt

theorem b1_0 (t : Fin cfg1.N) (p : Fin 12544) (j : Fin 19) :
    (blk1 W c 0 t : Vec Ideal S1x12544x19 .f32) (ix3 0 p j) = (W c main_v53 : Vec Ideal S2x12544x19 .f32) (ix3 ⟨t.val, lt1 t⟩ p j) := by
  blk_ext [blk1, (idx1 t).1]
theorem b1_1 (t : Fin cfg1.N) (j : Fin 19) (s : Fin 64) :
    (blk1 W c 1 t : Vec Ideal S1x19x64 .f32) (ix3 0 j s) = (W c main_arg2 : Vec Ideal S2x19x64 .f32) (ix3 ⟨t.val, lt1 t⟩ j s) := by
  blk_ext [blk1, (idx1 t).2.1]

/-- The selection call's result. -/
def selArr (X : Vec Ideal S2x12544x19 .f32) (Y : Vec Ideal S2x19x64 .f32) : Vec Ideal S2x12544x64 .bf16 :=
  fun i => chain (fun j => X (ix3 (i 0) (i 1) j)) (fun j => Y (ix3 (i 0) j (i 2))) 19

theorem e1 (t : Fin cfg1.N) (y : S1x12544x64.Idx) :
    (win1_2.blk t).view.emb y = (ix3 ⟨t.val, lt1 t⟩ (y 1) (y 2) : S2x12544x64.Idx) := by
  blk_ext [(idx1 t).2.2]

theorem arr1 : (dat1 W c).arrAt 2 cfg1.N = selArr (W c main_v53) (W c main_arg2) := by
  refine (dat1 W c).arrAt_eq_of_covers 2 _ (by decide +kernel) fun t hf y => ?_
  blk_simp
  rw [aft1_2]
  refine (sel_at _ _ y).trans ?_
  refine Eq.trans ?_ (congrArg (selArr (W c main_v53) (W c main_arg2)) (e1 t y).symm)
  unfold selArr
  exact congrArg₂ (fun z v => chain z v 19) (funext fun j => b1_0 W c t _ j) (funext fun j => b1_1 W c t j _)

theorem idx0 : ∀ t : Fin cfg0.N, win0_0.index t = ![t.val / 3, t.val % 3, 0, 0] ∧ win0_1.index t = ![t.val / 3, 0, 0]
    ∧ win0_2.index t = ![t.val % 3, 0, 0] ∧ win0_3.index t = ![t.val % 3, 0, 0] ∧ win0_4.index t = ![t.val % 3, 0, 0]
    ∧ win0_5.index t = ![t.val / 3, t.val % 3, 0, 0] ∧ win0_6.index t = ![t.val / 3, t.val % 3, 0, 0] :=
  (by decide +kernel : ∀ t : Fin grid0.N, _)
theorem lt0 (t : Fin cfg0.N) : t.val < 6 := t.isLt
/-- The image and the channel group of a point. -/
abbrev im0 (t : Fin cfg0.N) : Fin 2 := ⟨t.val / 3, by have := lt0 t; omega⟩
abbrev gr0 (t : Fin cfg0.N) : Fin 3 := ⟨t.val % 3, by omega⟩

/-- A channel from its group and its place there. -/
abbrev chan (a : Fin 3) (k : Fin 32) : Fin 96 := ⟨a.val * 32 + k.val, by omega⟩

theorem b0_0 (t : Fin cfg0.N) (k : Fin 32) (h q : Fin 224) :
    (blk0 W c 0 t : Vec Ideal S1x32x224x224 .f32) (ix4 0 k h q) = (W c main_arg0 : Vec Ideal S2x96x224x224 .f32) (ix4 (im0 t) (chan (gr0 t) k) h q) := by
  blk_ext [blk0, (idx0 t).1]
theorem b0_1 (t : Fin cfg0.N) (h q : Fin 224) :
    (blk0 W c 1 t : Vec Ideal S1x224x224 .f32) (ix3 0 h q) = (W c main_v51 : Vec Ideal S2x224x224 .f32) (ix3 (im0 t) h q) := by
  blk_ext [blk0, (idx0 t).2.1]
theorem b0_2 (t : Fin cfg0.N) (k : Fin 32) :
    (blk0 W c 2 t : Vec Ideal S1x1x32 .f32) (ix3 0 0 k) = (W c main_v61 : Vec Ideal S3x1x32 .f32) (ix3 (gr0 t) 0 k) := by
  blk_ext [blk0, (idx0 t).2.2.1]
theorem b0_3 (t : Fin cfg0.N) (k : Fin 32) :
    (blk0 W c 3 t : Vec Ideal S1x1x32 .f32) (ix3 0 0 k) = (W c main_v62 : Vec Ideal S3x1x32 .f32) (ix3 (gr0 t) 0 k) := by
  blk_ext [blk0, (idx0 t).2.2.2.1]
theorem b0_4 (t : Fin cfg0.N) (k : Fin 32) :
    (blk0 W c 4 t : Vec Ideal S1x1x32 .f32) (ix3 0 0 k) = (W c main_v63 : Vec Ideal S3x1x32 .f32) (ix3 (gr0 t) 0 k) := by
  blk_ext [blk0, (idx0 t).2.2.2.2.1]
theorem e0_5 (t : Fin cfg0.N) (y : S1x1x1x32.Idx) :
    (win0_5.blk t).view.emb y = (ix4 (im0 t) (gr0 t) 0 (y 3) : S2x3x1x32.Idx) := by
  blk_ext [(idx0 t).2.2.2.2.2.1]
theorem e0_6 (t : Fin cfg0.N) (y : S1x1x1x32.Idx) :
    (win0_6.blk t).view.emb y = (ix4 (im0 t) (gr0 t) 0 (y 3) : S2x3x1x32.Idx) := by
  blk_ext [(idx0 t).2.2.2.2.2.2]

/-- The statistics call's results. -/
def sclArr (X : Vec Ideal S2x96x224x224 .f32) (N : Vec Ideal S2x224x224 .f32) (v w : Vec Ideal S3x1x32 .f32) : Vec Ideal S2x3x1x32 .f32 :=
  fun i => kscl (fun h q => X (ix4 (i 0) (chan (i 1) (i 3)) h q)) (fun h q => N (ix3 (i 0) h q))
    (v (ix3 (i 1) 0 (i 3))) (w (ix3 (i 1) 0 (i 3)))
def shfArr (X : Vec Ideal S2x96x224x224 .f32) (N : Vec Ideal S2x224x224 .f32) (v w b : Vec Ideal S3x1x32 .f32) : Vec Ideal S2x3x1x32 .f32 :=
  fun i => kshf (fun h q => X (ix4 (i 0) (chan (i 1) (i 3)) h q)) (fun h q => N (ix3 (i 0) h q))
    (v (ix3 (i 1) 0 (i 3))) (w (ix3 (i 1) 0 (i 3))) (b (ix3 (i 1) 0 (i 3)))

theorem arr0s : (dat0 W c).arrAt 5 cfg0.N = sclArr (W c main_arg0) (W c main_v51) (W c main_v61) (W c main_v62) := by
  refine (dat0 W c).arrAt_eq_of_covers 5 _ (by decide +kernel) fun t hf y => ?_
  blk_simp
  rw [aft0_5]
  refine (scl_at _ _ _ _ _ y).trans ?_
  refine Eq.trans ?_ (congrArg (sclArr (W c main_arg0) (W c main_v51) (W c main_v61) (W c main_v62)) (e0_5 t y).symm)
  unfold sclArr
  refine congr (congr (congr (congrArg kscl ?_) ?_) ?_) ?_
  · funext h q; exact b0_0 W c t _ h q
  · funext h q; exact b0_1 W c t h q
  · exact b0_2 W c t _
  · exact b0_3 W c t _
theorem arr0h : (dat0 W c).arrAt 6 cfg0.N = shfArr (W c main_arg0) (W c main_v51) (W c main_v61) (W c main_v62) (W c main_v63) := by
  refine (dat0 W c).arrAt_eq_of_covers 6 _ (by decide +kernel) fun t hf y => ?_
  blk_simp
  rw [aft0_6]
  refine (shf_at _ _ _ _ _ y).trans ?_
  refine Eq.trans ?_ (congrArg (shfArr (W c main_arg0) (W c main_v51) (W c main_v61) (W c main_v62) (W c main_v63)) (e0_6 t y).symm)
  unfold shfArr
  refine congr (congr (congr (congr (congrArg kshf ?_) ?_) ?_) ?_) ?_
  · funext h q; exact b0_0 W c t _ h q
  · funext h q; exact b0_1 W c t h q
  · exact b0_2 W c t _
  · exact b0_3 W c t _
  · exact b0_4 W c t _

end Cert.KernelIdeal.Main

end
-- ==== Proof.VKer.lean ====
/-
  The kernel's result, as the function of its arguments.
-/
module

public import proofs.«01_k».proof.Proof.VMain
public import proofs.«01_k».proof.Proof.VArr

@[expose] public section

set_option maxRecDepth 16384

noncomputable section

namespace Cert.KernelIdeal.Main

open Cert.KernelIdeal.Gen
open Idealize.ShloMosaic Idealize.ShloMosaic.TcCoe
open Cert.Spec
variable (m : (ℓ : Loc nD τ sig) → Buf (Elt Ideal) ℓ) (c : Dev nD)

/-- The arguments of a launch. -/
def kArgs : Args where
  x := W0 m c main_arg0
  seg := W0 m c main_arg1
  codes := W0 m c main_arg2
  mask := W0 m c main_arg3
  noise := W0 m c main_arg4
  nv := W0 m c main_arg5
  iw := W0 m c main_arg6
  ib := W0 m c main_arg7
  mw := W0 m c main_arg8
  mb := W0 m c main_arg9
  ggw := W0 m c main_arg10
  ggb := W0 m c main_arg11
  gbw := W0 m c main_arg12
  gbb := W0 m c main_arg13
  sgw := W0 m c main_arg14
  sgb := W0 m c main_arg15
  sbw := W0 m c main_arg16
  sbb := W0 m c main_arg17
  bg := W0 m c main_arg18
  bb := W0 m c main_arg19

/-- A buffer that only the first stretch may write. -/
theorem W3_first (r : Ref sig .tc) (h1 : r ∉ hostOps1_W) (h : r ∉ ([main_v64_0, main_v64_1] : List (Ref sig .tc))) : W3 m c r = W1 m c r := by
  simp only [List.mem_cons, List.not_mem_nil, or_false, not_or] at h
  rw [W3_of m c r h1, W2_of m c r h.1 h.2]
theorem W5_first (r : Ref sig .tc) (h1 : r ∉ hostOps1_W) (h2 : r ∉ hostOps2_W) (h : r ∉ ([main_v64_0, main_v64_1] : List (Ref sig .tc))) (h' : r ≠ main_v67) :
    W5 m c r = W1 m c r := by
  rw [W5_of m c r h2, W4_of m c r h', W3_first m c r h1 h]

theorem fS_eq (b : Fin 2) (s : Fin 64) (h q : ℕ) : fS (W5 m) c b s h q = styl (kArgs m c).seg (kArgs m c).codes b s h q := by
  unfold fS
  refine (W5_v72 m c b _ _ s).trans ?_
  rw [W4_sel, arr1]
  unfold selArr styl
  refine congrArg₂ (fun z v => chain z v 19) (funext fun j => ?_) (funext fun j => ?_)
  · rw [W3_first m c main_v53 (by decide) (by decide)]
    refine (W1_v53 m c b _ j).trans ?_
    refine rd4 _ rfl rfl ?_ ?_ <;> simp only [fine, up, Fin.val_ofNat, ix3_1] <;> omega
  · rw [W3_first m c main_arg2 (by decide) (by decide), W1_of m c main_arg2 (by decide)]
    rfl

theorem fM_eq (b : Fin 2) (k : Fin 3) (h q : ℕ) : fM (W5 m) c b k h q = (kArgs m c).mask (ix4 b k (up h) (up q)) := by
  unfold fM
  rw [W5_first m c main_v59 (by decide) (by decide) (by decide) (by decide)]
  refine (W1_v59 m c b _ _ k).trans ?_
  refine rd4 _ rfl rfl ?_ ?_ <;> simp only [fine, up, Fin.val_ofNat] <;> omega

theorem fH_eq (b : Fin 2) (k : Fin 128) (h q : ℕ) : fH (W5 m) c b k h q = hidd (kArgs m c).mask (kArgs m c).mw (kArgs m c).mb b k h q := by
  unfold fH hidd
  rw [W5_first m c main_v34 (by decide) (by decide) (by decide) (by decide), W5_first m c main_v49 (by decide) (by decide) (by decide) (by decide)]
  rw [show fM (W5 m) c b = _ from funext fun k => funext fun h => funext fun q => fM_eq m c b k h q]
  refine congrArg leaky (congrArg₂ (· + ·) (congrArg (fun w => conv _ w h q) (funext fun dy => funext fun dx => funext fun j => ?_)) (W1_v49 m c k))
  refine (W1_v34 m c _ k).trans ?_
  refine rd4 _ rfl ?_ ?_ ?_ <;> dsimp only <;> omega

theorem accG (b : Fin 2) (k : Fin 96) (h q : ℕ) : accF (W5 m) c b ⟨k, by omega⟩ h q = (kArgs m c).gam b k h q := by
  unfold accF Args.gam Args.cs Args.cm
  rw [W5_first m c main_v48 (by decide) (by decide) (by decide) (by decide), W5_first m c main_v19 (by decide) (by decide) (by decide) (by decide),
    W5_first m c main_v31 (by decide) (by decide) (by decide) (by decide),
    show fS (W5 m) c b = _ from funext fun k => funext fun h => funext fun q => fS_eq m c b k h q,
    show fH (W5 m) c b = _ from funext fun k => funext fun h => funext fun q => fH_eq m c b k h q]
  refine Eq.trans ?_ (blend ((kArgs m c).bg (ix1 0)) _ _ _ _ _ _ h q)
  refine congrArg₂ (· + ·) ?_ (congrArg₂ (· + ·) (congrArg (fun w => conv _ w h q) (funext fun dy => funext fun dx => funext fun j => ?_))
    (congrArg (fun w => conv _ w h q) (funext fun dy => funext fun dx => funext fun j => ?_)))
  · refine (W1_v48 m c _).trans ((dif_pos k.isLt).trans ?_)
    rfl
  · refine (W1_v19 m c _ j _).trans ((dif_pos k.isLt).trans ?_)
    refine congrArg₂ (· * ·) rfl (rd4 _ rfl rfl ?_ ?_) <;> dsimp only <;> omega
  · refine (W1_v31 m c _ j _).trans ((dif_pos k.isLt).trans ?_)
    refine congrArg₂ (· * ·) rfl (rd4 _ rfl rfl ?_ ?_) <;> dsimp only <;> omega

theorem accB (b : Fin 2) (k : Fin 96) (h q : ℕ) : accF (W5 m) c b ⟨96 + k, by omega⟩ h q = (kArgs m c).bet b k h q := by
  unfold accF Args.bet Args.cs Args.cm
  have hk : ¬ (96 + k.val < 96) := by omega
  rw [W5_first m c main_v48 (by decide) (by decide) (by decide) (by decide), W5_first m c main_v19 (by decide) (by decide) (by decide) (by decide),
    W5_first m c main_v31 (by decide) (by decide) (by decide) (by decide),
    show fS (W5 m) c b = _ from funext fun k => funext fun h => funext fun q => fS_eq m c b k h q,
    show fH (W5 m) c b = _ from funext fun k => funext fun h => funext fun q => fH_eq m c b k h q]
  refine Eq.trans ?_ (blend ((kArgs m c).bb (ix1 0)) _ _ _ _ _ _ h q)
  refine congrArg₂ (· + ·) ?_ (congrArg₂ (· + ·) (congrArg (fun w => conv _ w h q) (funext fun dy => funext fun dx => funext fun j => ?_))
    (congrArg (fun w => conv _ w h q) (funext fun dy => funext fun dx => funext fun j => ?_)))
  · refine (W1_v48 m c _).trans ((dif_neg hk).trans ?_)
    refine congrArg₂ (· + ·) (congrArg₂ (· * ·) rfl (rd1 _ ?_)) (congrArg₂ (· * ·) rfl (rd1 _ ?_)) <;> dsimp only <;> omega
  · refine (W1_v19 m c _ j _).trans ((dif_neg hk).trans ?_)
    refine congrArg₂ (· * ·) rfl (rd4 _ ?_ rfl ?_ ?_) <;> dsimp only <;> omega
  · refine (W1_v31 m c _ j _).trans ((dif_neg hk).trans ?_)
    refine congrArg₂ (· * ·) rfl (rd4 _ ?_ rfl ?_ ?_) <;> dsimp only <;> omega

theorem scl_eq (b : Fin 2) (k : Fin 96) :
    ev S2x1x96 (W5 m c main_v65) (ix3 b 0 k) = kscl ((kArgs m c).xi b k) ((kArgs m c).ni b) ((kArgs m c).nv (ix1 k)) ((kArgs m c).iw (ix1 k)) := by
  unfold ev
  rw [W5_of m c main_v65 (by decide), W4_of m c main_v65 (by decide)]
  refine (W3_v65 m c b k).trans ?_
  rw [W2_scl, arr0s]
  unfold sclArr
  have hk : k.val / 32 * 32 + k.val % 32 = k.val := by omega
  refine congr (congr (congr (congrArg kscl (funext fun h => funext fun q => ?_)) (funext fun h => funext fun q => ?_)) ?_) ?_
  · rw [W1_of m c main_arg0 (by decide)]
    exact rd4 _ rfl hk rfl rfl
  · exact W1_v51 m c b h q
  · exact (W1_v61 m c _ _).trans (rd1 _ hk)
  · exact (W1_v62 m c _ _).trans (rd1 _ hk)

theorem shf_eq (b : Fin 2) (k : Fin 96) :
    ev S2x1x96 (W5 m c main_v66) (ix3 b 0 k)
      = kshf ((kArgs m c).xi b k) ((kArgs m c).ni b) ((kArgs m c).nv (ix1 k)) ((kArgs m c).iw (ix1 k)) ((kArgs m c).ib (ix1 k)) := by
  unfold ev
  rw [W5_of m c main_v66 (by decide), W4_of m c main_v66 (by decide)]
  refine (W3_v66 m c b k).trans ?_
  rw [W2_shf, arr0h]
  unfold shfArr
  have hk : k.val / 32 * 32 + k.val % 32 = k.val := by omega
  refine congr (congr (congr (congr (congrArg kshf (funext fun h => funext fun q => ?_)) (funext fun h => funext fun q => ?_)) ?_) ?_) ?_
  · rw [W1_of m c main_arg0 (by decide)]
    exact rd4 _ rfl hk rfl rfl
  · exact W1_v51 m c b h q
  · exact (W1_v61 m c _ _).trans (rd1 _ hk)
  · exact (W1_v62 m c _ _).trans (rd1 _ hk)
  · exact (W1_v63 m c _ _).trans (rd1 _ hk)

theorem outF_eq (hA : ∀ i, ∃ r : ℝ, (kArgs m c).iw i = r) (b : Fin 2) (k : Fin 96) (h q : Fin 224) :
    outF (W5 m) c b k h q = (kArgs m c).nrm b k h q * (1 + (kArgs m c).gam b k h.val q.val) + (kArgs m c).bet b k h.val q.val := by
  unfold outF
  rw [accG, accB, scl_eq, shf_eq, ← Args.nrmK_eq _ hA]
  unfold Args.nrmK
  refine congrArg (fun z => z * _ + _) (congrArg (fun z => z * _ + _) (congrArg₂ (· + ·) ?_ (congrArg₂ (· * ·) ?_ ?_)))
  · rw [W5_first m c main_arg0 (by decide) (by decide) (by decide) (by decide), W1_of m c main_arg0 (by decide)]
    rfl
  · rw [W5_first m c main_v51 (by decide) (by decide) (by decide) (by decide)]
    exact W1_v51 m c _ _ _
  · rw [W5_first m c main_v60 (by decide) (by decide) (by decide) (by decide)]
    exact W1_v60 m c _

/-- The kernel's result. -/
theorem ker_eq (hA : ∀ i, ∃ r : ℝ, (kArgs m c).iw i = r) : W6 m c main_v73 = (kArgs m c).out := by
  rw [W6_out, arr2]
  funext i
  exact outF_eq m c hA (i 0) (i 1) (i 2) (i 3)

end Cert.KernelIdeal.Main

end
-- ==== Proof.VPre.lean ====
/-
  The precondition, read: the affine weight holds real numbers.
-/
module

public import proofs.«01_k».proof.Defs
public import proofs.«01_k».proof.Proof.Gen.Pre_finite
public import proofs.«01_k».proof.Proof.VKer
public import Idealize.ShloMosaic.Lib.ReduceAll

@[expose] public section

set_option maxRecDepth 16384

noncomputable section

namespace Cert.KernelIdeal.Main

open Idealize.ShloMosaic Idealize.ShloMosaic.TcCoe
open Cert.Spec

/-- An extended real whose absolute value compares below the infinity is real. -/
theorem real_of (a : EReal) (h : FloatOps.cmpf (F := Ideal) (φ := .f32) .olt (FloatOps.absf (F := Ideal) (φ := .f32) a) (Ideal.ofBits .f32 0x7F800000#32) = 1#1) :
    ∃ r : ℝ, a = r := by
  have e : Ideal.ofBits .f32 0x7F800000#32 = ⊤ := by simp [Ideal.ofBits, Ideal.ieee]
  rw [e] at h
  induction a using EReal.rec with
  | bot => exact absurd h (show ¬BitVec.ofBool (decide (max (⊥ : EReal) (-⊥) < ⊤)) = 1#1 by simp)
  | top => exact absurd h (show ¬BitVec.ofBool (decide (max (⊤ : EReal) (-⊤) < ⊤)) = 1#1 by simp)
  | coe r => exact ⟨r, rfl⟩

variable (m : (ℓ : Loc nD τ sig) → Buf (Elt Ideal) ℓ) (c : Dev nD)

/-- A buffer at launch. -/
theorem W0_launch (b : DevRef τ sig) : W0 m c b = m (c, b) := by
  unfold W0
  rfl

theorem fin_of (h : Cert.Pre_KernelIdeal_finite m) (i : S96.Idx) : ∃ r : ℝ, (kArgs m c).iw i = r := by
  have e := congrFun (h c) ix0
  dsimp only [Cert.Pre_finite.fn] at e
  have e6 : (kArgs m c).iw = m ((c : Thread nD τ).loc main_arg6) := W0_launch m c _
  rw [e6]
  exact real_of _ (Host.reduce_andi_all _ _ _ _ _ e i)

end Cert.KernelIdeal.Main

end
-- ==== Proof.RUp.lean ====
/-
  The reference's two-fold enlargement of a coarse field: a gather of rows, then of columns, at the words `i / 2`.
-/
module

public import proofs.«01_k».proof.Proof.Gen.ReferenceIdeal.Run
public import proofs.«01_k».proof.Proof.Goal
public import Idealize.ShloMosaic.Lib.Pointwise
public import Idealize.ShloMosaic.Lib.Tactic.CleanTypes

@[expose] public section

set_option maxRecDepth 16384

noncomputable section

namespace Cert.Spec

open Idealize.ShloMosaic

/-- The gather of rows. -/
abbrev rowDims (C : ℕ) (wf : GatherDims.WF ⟨4, ![2, C, 112, 112]⟩ ⟨2, ![224, 1]⟩ ⟨4, ![2, C, 224, 112]⟩ [0, 1, 3] [2] [] [2] [] 1 ![2, C, 1, 112]) :
    GatherDims ⟨4, ![2, C, 112, 112]⟩ ⟨2, ![224, 1]⟩ ⟨4, ![2, C, 224, 112]⟩ where
  offsetDims := [0, 1, 3]
  collapsedSliceDims := [2]
  operandBatchingDims := []
  startIndicesBatchingDims := []
  startIndexMap := [2]
  indexVectorDim := 1
  sliceSizes := ![2, C, 1, 112]
  wf := wf
/-- The gather of columns. -/
abbrev colDims (C : ℕ) (wf : GatherDims.WF ⟨4, ![2, C, 224, 112]⟩ ⟨2, ![224, 1]⟩ ⟨4, ![2, C, 224, 224]⟩ [0, 1, 2] [3] [] [3] [] 1 ![2, C, 224, 1]) :
    GatherDims ⟨4, ![2, C, 224, 112]⟩ ⟨2, ![224, 1]⟩ ⟨4, ![2, C, 224, 224]⟩ where
  offsetDims := [0, 1, 2]
  collapsedSliceDims := [3]
  operandBatchingDims := []
  startIndicesBatchingDims := []
  startIndexMap := [3]
  indexVectorDim := 1
  sliceSizes := ![2, C, 224, 1]
  wf := wf

variable {α : Type}

theorem row_apply {C : ℕ} (wf) (x : (⟨4, ![2, C, 112, 112]⟩ : Shape).Idx → α) (idx : IVec ⟨2, ![224, 1]⟩ 32) (b : Fin 2) (k : Fin C) (h : Fin 224) (q : Fin 112) :
    Host.gather (rowDims C wf) x idx (ix4 b k h q) = x (ix4 b k ⟨min (idx (ix2 h 0)).toInt.toNat 111, by omega⟩ q) := by
  unfold Host.gather
  refine congrArg x (funext fun a => Fin.ext ?_)
  show (rowDims C wf).start (ix4 b k h q) idx a + (rowDims C wf).batchCoord (ix4 b k h q) a + (rowDims C wf).offCoord (ix4 b k h q) a = _
  rw [GatherDims.batchCoord_eq_zero _ _ _ List.not_mem_nil, Nat.add_zero]
  by_cases ha : a = 2
  · subst ha
    rw [GatherDims.offCoord_eq_zero _ _ _ (fun h => ((GatherDims.mem_sKept _ _).mp h).1 (List.mem_singleton.mpr rfl))]
    simp only [Nat.add_zero]
    unfold GatherDims.start
    rw [dif_pos (show (2 : Fin 4) ∈ (rowDims C wf).startIndexMap from List.mem_singleton.mpr rfl)]
    have hsi : (rowDims C wf).siIdx (ix4 b k h q) ⟨List.idxOf (2 : Fin 4) (rowDims C wf).startIndexMap,
        List.idxOf_lt_length_iff.2 (List.mem_singleton.mpr rfl)⟩ = ix2 h 0 := by
      funext d; refine Fin.ext ?_
      match d with
      | ⟨0, _⟩ => rfl
      | ⟨1, _⟩ => rfl
    rw [hsi]
    rfl
  · unfold GatherDims.start
    rw [dif_neg (show a ∉ (rowDims C wf).startIndexMap from fun hm => ha (List.mem_singleton.mp hm)), Nat.zero_add]
    match a, ha with
    | ⟨0, _⟩, _ => rfl
    | ⟨1, _⟩, _ => rfl
    | ⟨2, _⟩, ha => exact absurd rfl ha
    | ⟨3, _⟩, _ => rfl

theorem col_apply {C : ℕ} (wf) (x : (⟨4, ![2, C, 224, 112]⟩ : Shape).Idx → α) (idx : IVec ⟨2, ![224, 1]⟩ 32) (b : Fin 2) (k : Fin C) (h : Fin 224) (q : Fin 224) :
    Host.gather (colDims C wf) x idx (ix4 b k h q) = x (ix4 b k h ⟨min (idx (ix2 q 0)).toInt.toNat 111, by omega⟩) := by
  unfold Host.gather
  refine congrArg x (funext fun a => Fin.ext ?_)
  show (colDims C wf).start (ix4 b k h q) idx a + (colDims C wf).batchCoord (ix4 b k h q) a + (colDims C wf).offCoord (ix4 b k h q) a = _
  rw [GatherDims.batchCoord_eq_zero _ _ _ List.not_mem_nil, Nat.add_zero]
  by_cases ha : a = 3
  · subst ha
    rw [GatherDims.offCoord_eq_zero _ _ _ (fun h => ((GatherDims.mem_sKept _ _).mp h).1 (List.mem_singleton.mpr rfl))]
    simp only [Nat.add_zero]
    unfold GatherDims.start
    rw [dif_pos (show (3 : Fin 4) ∈ (colDims C wf).startIndexMap from List.mem_singleton.mpr rfl)]
    have hsi : (colDims C wf).siIdx (ix4 b k h q) ⟨List.idxOf (3 : Fin 4) (colDims C wf).startIndexMap,
        List.idxOf_lt_length_iff.2 (List.mem_singleton.mpr rfl)⟩ = ix2 q 0 := by
      funext d; refine Fin.ext ?_
      match d with
      | ⟨0, _⟩ => rfl
      | ⟨1, _⟩ => rfl
    rw [hsi]
    rfl
  · unfold GatherDims.start
    rw [dif_neg (show a ∉ (colDims C wf).startIndexMap from fun hm => ha (List.mem_singleton.mp hm)), Nat.zero_add]
    match a, ha with
    | ⟨0, _⟩, _ => rfl
    | ⟨1, _⟩, _ => rfl
    | ⟨2, _⟩, _ => rfl
    | ⟨3, _⟩, ha => exact absurd rfl ha

end Cert.Spec

end
-- ==== Proof.RWord.lean ====
/-
  The reference's index words, and its enlarged marks and mask.
-/
module

public import proofs.«01_k».proof.Proof.RUp

@[expose] public section

set_option maxRecDepth 16384

noncomputable section

namespace Cert.ReferenceIdeal.Value

open Cert.ReferenceIdeal Cert.ReferenceIdeal.Gen Idealize.ShloMosaic Idealize.ShloMosaic.TcCoe
open Cert.Spec
variable (V : Valuation τ sig (Elt Ideal))

/-- The floor of `112 i / 224`. -/
def word : IVec S224 32 :=
  select
    (andi
      (cmpi .ne (signi (muli (iotaInDim S224 32 0) (broadcastInDim S224 ![] bcast_S_S224 (constantI S_ 32 112#32)))) (broadcastInDim S224 ![] bcast_S_S224 (signi (constantI S_ 32 224#32))))
      (cmpi .ne (Host.remsi (muli (iotaInDim S224 32 0) (broadcastInDim S224 ![] bcast_S_S224 (constantI S_ 32 112#32))) (broadcastInDim S224 ![] bcast_S_S224 (constantI S_ 32 224#32)))
        (broadcastInDim S224 ![] bcast_S_S224 (constantI S_ 32 0#32))))
    (subi (Host.divsi (muli (iotaInDim S224 32 0) (broadcastInDim S224 ![] bcast_S_S224 (constantI S_ 32 112#32))) (broadcastInDim S224 ![] bcast_S_S224 (constantI S_ 32 224#32)))
      (broadcastInDim S224 ![] bcast_S_S224 (constantI S_ 32 1#32)))
    (Host.divsi (muli (iotaInDim S224 32 0) (broadcastInDim S224 ![] bcast_S_S224 (constantI S_ 32 112#32))) (broadcastInDim S224 ![] bcast_S_S224 (constantI S_ 32 224#32)))

theorem word_eq : ∀ i : Fin 224, word (ix1 i) = BitVec.ofNat 32 (i.val / 2) := by decide +kernel

theorem w27 (i : Fin 224) : (res_main_v27 V : IVec S224 32) (ix1 i) = BitVec.ofNat 32 (i.val / 2) := word_eq i
theorem w31 (i : Fin 224) : (res_main_v31 V : IVec S224 32) (ix1 i) = BitVec.ofNat 32 (i.val / 2) := word_eq i
theorem w49 (i : Fin 224) : (res_main_v49 V : IVec S224 32) (ix1 i) = BitVec.ofNat 32 (i.val / 2) := word_eq i
theorem w53 (i : Fin 224) : (res_main_v53 V : IVec S224 32) (ix1 i) = BitVec.ofNat 32 (i.val / 2) := word_eq i

/-- A start word, with the wrap of negative indices: it reads as `i / 2`. -/
theorem word_at (x : IVec S224 32) (hx : ∀ i : Fin 224, x (ix1 i) = BitVec.ofNat 32 (i.val / 2)) (i : Fin 224) :
    min ((broadcastInDim S224x1 ![0] bcast_S224_S224x1_0 (select (cmpi .slt x (broadcastInDim S224 ![] bcast_S_S224 (constantI S_ 32 0#32)))
      (addi x (broadcastInDim S224 ![] bcast_S_S224 (constantI S_ 32 112#32))) x) : IVec S224x1 32) (ix2 i 0)).toInt.toNat 111 = (up i.val).val := by
  have e : (broadcastInDim S224x1 ![0] bcast_S224_S224x1_0 (select (cmpi .slt x (broadcastInDim S224 ![] bcast_S_S224 (constantI S_ 32 0#32)))
      (addi x (broadcastInDim S224 ![] bcast_S_S224 (constantI S_ 32 112#32))) x) : IVec S224x1 32) (ix2 i 0)
      = Scalar.select (IntOp.cmpi .slt (x (ix1 i)) 0#32) (IntOp.addi (x (ix1 i)) 112#32) (x (ix1 i)) := by
    pointwise
  rw [e, hx]
  clear e hx x
  revert i
  decide +kernel

/-- A coarse field gathered to a fine one. -/
theorem up_apply {α : Type} {C : ℕ} (wf1 wf2) (x : (⟨4, ![2, C, 112, 112]⟩ : Shape).Idx → α) (I J : IVec ⟨2, ![224, 1]⟩ 32)
    (hI : ∀ i : Fin 224, min (I (ix2 i 0)).toInt.toNat 111 = (up i.val).val) (hJ : ∀ i : Fin 224, min (J (ix2 i 0)).toInt.toNat 111 = (up i.val).val)
    (b : Fin 2) (k : Fin C) (h q : Fin 224) :
    Host.gather (colDims C wf2) (Host.gather (rowDims C wf1) x I) J (ix4 b k h q) = x (ix4 b k (up h.val) (up q.val)) := by
  rw [col_apply, row_apply]
  exact rd4 x rfl rfl (hI h) (hJ q)

theorem v69_apply (b : Fin 2) (j : Fin 19) (h q : Fin 224) :
    (res_main_v69 V : IVec S2x19x224x224 1) (ix4 b j h q)
      = FloatOps.cmpf (F := Ideal) (φ := .f32) .une ((V (Proc.devRef .tc main_arg1) : Vec Ideal S2x19x112x112 .f32) (ix4 b j (up h.val) (up q.val))) 0 := by
  unfold res_main_v69
  refine (congrArg₂ (FloatOps.cmpf (F := Ideal) (φ := .f32) .une) (up_apply _ _ _ _ _ (word_at _ (w27 V)) (word_at _ (w31 V)) b j h q) ?_)
  pointwise

end Cert.ReferenceIdeal.Value

end
-- ==== Proof.RStyle.lean ====
/-
  The reference's style field.
-/
module

public import proofs.«01_k».proof.Proof.RWord

@[expose] public section

set_option maxRecDepth 16384

noncomputable section

namespace Cert.ReferenceIdeal.Value

open Cert.ReferenceIdeal Cert.ReferenceIdeal.Gen Idealize.ShloMosaic Idealize.ShloMosaic.TcCoe
open Cert.Spec
variable (V : Valuation τ sig (Elt Ideal))

theorem sel_une (a x y : EReal) : Scalar.select (FloatOps.cmpf (F := Ideal) (φ := .f32) .une a 0) x y = if a ≠ 0 then x else y := by
  rw [Scalar.select_def]
  show (if BitVec.ofBool (decide (a ≠ 0)) = 1 then x else y) = _
  by_cases h : a = 0 <;> simp [h]

/-- One mark more. -/
theorem mark_step (b : Fin 2) (s : Fin 64) (h q : Fin 224) (n : ℕ) (hn : n < 19) (e : EReal)
    (he : e = chain (fun j => (V (Proc.devRef .tc main_arg1) : Vec Ideal S2x19x112x112 .f32) (ix4 b j (up h.val) (up q.val)))
        (fun j => (V (Proc.devRef .tc main_arg2) : Vec Ideal S2x19x64 .f32) (ix3 b j s)) n) :
    Scalar.select ((res_main_v69 V : IVec S2x19x224x224 1) (ix4 b ⟨n, hn⟩ h q)) ((V (Proc.devRef .tc main_arg2) : Vec Ideal S2x19x64 .f32) (ix3 b ⟨n, hn⟩ s)) e
      = chain (fun j => (V (Proc.devRef .tc main_arg1) : Vec Ideal S2x19x112x112 .f32) (ix4 b j (up h.val) (up q.val)))
        (fun j => (V (Proc.devRef .tc main_arg2) : Vec Ideal S2x19x64 .f32) (ix3 b j s)) (n + 1) := by
  rw [v69_apply]
  refine (sel_une _ _ _).trans ?_
  rw [he]
  conv_rhs => unfold chain
  rw [dif_pos hn]

theorem v119_apply (b : Fin 2) (s : Fin 64) (h q : Fin 224) :
    (res_main_v119 V : Vec Ideal S2x64x224x224 .f32) (ix4 b s h q)
      = chain (fun j => (V (Proc.devRef .tc main_arg1) : Vec Ideal S2x19x112x112 .f32) (ix4 b j (up h.val) (up q.val)))
        (fun j => (V (Proc.devRef .tc main_arg2) : Vec Ideal S2x19x64 .f32) (ix3 b j s)) 7 := by
  unfold res_main_v119
  clean_types
  pointwise
  exact mark_step V b s h q 6 (by decide) _ (mark_step V b s h q 5 (by decide) _ (mark_step V b s h q 4 (by decide) _ (mark_step V b s h q 3 (by decide) _ (mark_step V b s h q 2 (by decide) _ (mark_step V b s h q 1 (by decide) _ (mark_step V b s h q 0 (by decide) _ rfl))))))

theorem v168_apply (b : Fin 2) (s : Fin 64) (h q : Fin 224) :
    (res_main_v168 V : Vec Ideal S2x64x224x224 .f32) (ix4 b s h q)
      = chain (fun j => (V (Proc.devRef .tc main_arg1) : Vec Ideal S2x19x112x112 .f32) (ix4 b j (up h.val) (up q.val)))
        (fun j => (V (Proc.devRef .tc main_arg2) : Vec Ideal S2x19x64 .f32) (ix3 b j s)) 14 := by
  unfold res_main_v168
  clean_types
  pointwise
  exact mark_step V b s h q 13 (by decide) _ (mark_step V b s h q 12 (by decide) _ (mark_step V b s h q 11 (by decide) _ (mark_step V b s h q 10 (by decide) _ (mark_step V b s h q 9 (by decide) _ (mark_step V b s h q 8 (by decide) _ (mark_step V b s h q 7 (by decide) _ (v119_apply V b s h q)))))))

theorem v203_apply (b : Fin 2) (s : Fin 64) (h q : Fin 224) :
    (res_main_v203 V : Vec Ideal S2x64x224x224 .f32) (ix4 b s h q)
      = chain (fun j => (V (Proc.devRef .tc main_arg1) : Vec Ideal S2x19x112x112 .f32) (ix4 b j (up h.val) (up q.val)))
        (fun j => (V (Proc.devRef .tc main_arg2) : Vec Ideal S2x19x64 .f32) (ix3 b j s)) 19 := by
  unfold res_main_v203
  clean_types
  pointwise
  exact mark_step V b s h q 18 (by decide) _ (mark_step V b s h q 17 (by decide) _ (mark_step V b s h q 16 (by decide) _ (mark_step V b s h q 15 (by decide) _ (mark_step V b s h q 14 (by decide) _ (v168_apply V b s h q)))))

/-- A padded field, at a place counted from the border. -/
theorem pad_at (X : Fin 224 → Fin 224 → EReal) (f : ℕ → ℕ → EReal) (hX : ∀ h q : Fin 224, X h q = f h.val q.val) (r q : Fin 226) :
    (if h : (1 ≤ r.val ∧ r.val - 1 < 224) ∧ 1 ≤ q.val ∧ q.val - 1 < 224 then X ⟨r.val - 1, h.1.2⟩ ⟨q.val - 1, h.2.2⟩ else FloatOps.sitofp (F := Ideal) .f32 0#32)
      = padz f r.val q.val := by
  unfold padz
  by_cases h : (1 ≤ r.val ∧ r.val - 1 < 224) ∧ 1 ≤ q.val ∧ q.val - 1 < 224
  · rw [dif_pos h, if_pos (by omega), hX]
  · rw [dif_neg h, if_neg (by omega)]
    show (((0#32 : BitVec 32).toInt : ℝ) : EReal) = 0
    simp

theorem v204_apply (b : Fin 2) (s : Fin 64) (r q : Fin 226) :
    (res_main_v204 V : Vec Ideal S2x64x226x226 .f32) (ix4 b s r q)
      = padz (styl (V (Proc.devRef .tc main_arg1)) (V (Proc.devRef .tc main_arg2)) b s) r.val q.val := by
  unfold res_main_v204
  clean_types
  pointwise
  exact pad_at (fun h q => (res_main_v203 V : Vec Ideal S2x64x224x224 .f32) (ix4 b s h q)) _ (v203_apply V b s) r q

end Cert.ReferenceIdeal.Value

end
-- ==== Proof.RConv.lean ====
/-
  The reference's convolutions.
-/
module

public import proofs.«01_k».proof.Proof.RStyle

@[expose] public section

set_option maxRecDepth 16384

noncomputable section

namespace Cert.ReferenceIdeal.Value

open Cert.ReferenceIdeal Cert.ReferenceIdeal.Gen Idealize.ShloMosaic Idealize.ShloMosaic.TcCoe
open Cert.Spec
variable (V : Valuation τ sig (Elt Ideal))

/-- Nine taps summed in the reference's order. -/
theorem conv_sum {K O : ℕ} (w : Arr ⟨4, ![O, K, 3, 3]⟩) (P : Arr ⟨4, ![2, K, 226, 226]⟩) (f : Fin K → ℕ → ℕ → EReal) (b : Fin 2) (k : Fin O) (h q : Fin 224)
    (hP : ∀ s r q, P (ix4 b s r q) = padz (f s) r.val q.val) :
    (∑ x, w (ix4 k x 0 0) * P (ix4 b x ⟨h.val, by omega⟩ ⟨q.val, by omega⟩)
      + ∑ x, w (ix4 k x 0 1) * P (ix4 b x ⟨h.val, by omega⟩ ⟨1 + q.val, by omega⟩)
      + ∑ x, w (ix4 k x 0 2) * P (ix4 b x ⟨h.val, by omega⟩ ⟨2 + q.val, by omega⟩)
      + ∑ x, w (ix4 k x 1 0) * P (ix4 b x ⟨1 + h.val, by omega⟩ ⟨q.val, by omega⟩)
      + ∑ x, w (ix4 k x 1 1) * P (ix4 b x ⟨1 + h.val, by omega⟩ ⟨1 + q.val, by omega⟩)
      + ∑ x, w (ix4 k x 1 2) * P (ix4 b x ⟨1 + h.val, by omega⟩ ⟨2 + q.val, by omega⟩)
      + ∑ x, w (ix4 k x 2 0) * P (ix4 b x ⟨2 + h.val, by omega⟩ ⟨q.val, by omega⟩)
      + ∑ x, w (ix4 k x 2 1) * P (ix4 b x ⟨2 + h.val, by omega⟩ ⟨1 + q.val, by omega⟩)
      + ∑ x, w (ix4 k x 2 2) * P (ix4 b x ⟨2 + h.val, by omega⟩ ⟨2 + q.val, by omega⟩)) = conv f (fun dy dx s => w (ix4 k s dy dx)) h.val q.val := by
  have T : ∀ (dy dx : Fin 3) (r q' : Fin 226), r.val = h.val + dy.val → q'.val = q.val + dx.val →
      ∑ x, w (ix4 k x dy dx) * P (ix4 b x r q') = ∑ s, padz (f s) (h.val + dy.val) (q.val + dx.val) * w (ix4 k s dy dx) := fun dy dx r q' hr hq =>
    Finset.sum_congr rfl fun x _ => by rw [hP, hr, hq, mul_comm]
  rw [T 0 0 _ _ (by simp [add_comm]) (by simp [add_comm]), T 0 1 _ _ (by simp [add_comm]) (by simp [add_comm]), T 0 2 _ _ (by simp [add_comm]) (by simp [add_comm]), T 1 0 _ _ (by simp [add_comm]) (by simp [add_comm]), T 1 1 _ _ (by simp [add_comm]) (by simp [add_comm]), T 1 2 _ _ (by simp [add_comm]) (by simp [add_comm]), T 2 0 _ _ (by simp [add_comm]) (by simp [add_comm]), T 2 1 _ _ (by simp [add_comm]) (by simp [add_comm]), T 2 2 _ _ (by simp [add_comm]) (by simp [add_comm])]
  unfold conv
  simp only [Fin.sum_univ_three, add_assoc]

theorem v259_apply (b : Fin 2) (k : Fin 96) (h q : Fin 224) :
    (res_main_v259 V : Vec Ideal S2x96x224x224 .f32) (ix4 b k h q)
      = conv (styl (V (Proc.devRef .tc main_arg1)) (V (Proc.devRef .tc main_arg2)) b)
          (fun dy dx s => (V (Proc.devRef .tc main_arg14) : Vec Ideal S96x64x3x3 .f32) (ix4 k s dy dx)) h.val q.val := by
  unfold res_main_v259
  clean_types
  pointwise
  exact conv_sum (V (Proc.devRef .tc main_arg14)) (res_main_v204 V) _ b k h q fun s r q => v204_apply V b s r q

theorem v318_apply (b : Fin 2) (k : Fin 96) (h q : Fin 224) :
    (res_main_v318 V : Vec Ideal S2x96x224x224 .f32) (ix4 b k h q)
      = conv (styl (V (Proc.devRef .tc main_arg1)) (V (Proc.devRef .tc main_arg2)) b)
          (fun dy dx s => (V (Proc.devRef .tc main_arg16) : Vec Ideal S96x64x3x3 .f32) (ix4 k s dy dx)) h.val q.val := by
  unfold res_main_v318
  clean_types
  pointwise
  exact conv_sum (V (Proc.devRef .tc main_arg16)) (res_main_v263 V) _ b k h q fun s r q => v204_apply V b s r q

/-- A doubled image, padded. -/
theorem pad_up {C : ℕ} (wf1 wf2) (x : Arr ⟨4, ![2, C, 112, 112]⟩) (I J : IVec ⟨2, ![224, 1]⟩ 32)
    (hI : ∀ i : Fin 224, min (I (ix2 i 0)).toInt.toNat 111 = (up i.val).val) (hJ : ∀ i : Fin 224, min (J (ix2 i 0)).toInt.toNat 111 = (up i.val).val)
    (b : Fin 2) (k : Fin C) (r q : Fin 226) :
    (if h : (1 ≤ r.val ∧ r.val - 1 < 224) ∧ 1 ≤ q.val ∧ q.val - 1 < 224 then
        Host.gather (colDims C wf2) (Host.gather (rowDims C wf1) x I) J (ix4 b k ⟨r.val - 1, h.1.2⟩ ⟨q.val - 1, h.2.2⟩)
      else FloatOps.sitofp (F := Ideal) .f32 0#32)
      = padz (fun y z => x (ix4 b k (up y) (up z))) r.val q.val :=
  pad_at (fun h q => Host.gather (colDims C wf2) (Host.gather (rowDims C wf1) x I) J (ix4 b k h q)) _
    (fun h q => up_apply wf1 wf2 x I J hI hJ b k h q) r q

theorem v322_apply (b : Fin 2) (s : Fin 3) (r q : Fin 226) :
    (res_main_v322 V : Vec Ideal S2x3x226x226 .f32) (ix4 b s r q)
      = padz (fun y x => (V (Proc.devRef .tc main_arg3) : Vec Ideal S2x3x112x112 .f32) (ix4 b s (up y) (up x))) r.val q.val := by
  unfold res_main_v322
  clean_types
  pointwise
  exact pad_up (C := 3) (by decide) (by decide) (V (Proc.devRef .tc main_arg3)) _ _ (word_at _ (w49 V)) (word_at _ (w53 V)) b s r q

theorem v377_apply (b : Fin 2) (k : Fin 128) (h q : Fin 224) :
    (res_main_v377 V : Vec Ideal S2x128x224x224 .f32) (ix4 b k h q)
      = conv (fun c y x => (V (Proc.devRef .tc main_arg3) : Vec Ideal S2x3x112x112 .f32) (ix4 b c (up y) (up x)))
          (fun dy dx s => (V (Proc.devRef .tc main_arg8) : Vec Ideal S128x3x3x3 .f32) (ix4 k s dy dx)) h.val q.val := by
  unfold res_main_v377
  clean_types
  pointwise
  exact conv_sum (V (Proc.devRef .tc main_arg8)) (res_main_v322 V) _ b k h q fun s r q => v322_apply V b s r q

theorem v380_apply (b : Fin 2) (k : Fin 128) (h q : Fin 224) :
    (res_main_v380 V : Vec Ideal S2x128x224x224 .f32) (ix4 b k h q)
      = conv (fun c y x => (V (Proc.devRef .tc main_arg3) : Vec Ideal S2x3x112x112 .f32) (ix4 b c (up y) (up x)))
          (fun dy dx c => (V (Proc.devRef .tc main_arg8) : Vec Ideal S128x3x3x3 .f32) (ix4 k c dy dx)) h.val q.val
        + (V (Proc.devRef .tc main_arg9) : Arr S128) (ix1 k) := by
  unfold res_main_v380
  clean_types
  pointwise
  exact congrArg (· + (V (Proc.devRef .tc main_arg9) : Arr S128) (ix1 k)) (v377_apply V b k h q)

theorem v385_apply (b : Fin 2) (k : Fin 128) (h q : Fin 224) :
    (res_main_v385 V : Vec Ideal S2x128x224x224 .f32) (ix4 b k h q) = (hidd (V (Proc.devRef .tc main_arg3)) (V (Proc.devRef .tc main_arg8)) (V (Proc.devRef .tc main_arg9)) b) k h.val q.val := by
  unfold res_main_v385
  clean_types
  pointwise
  exact congrArg leaky (v380_apply V b k h q)

theorem v386_apply (b : Fin 2) (s : Fin 128) (r q : Fin 226) :
    (res_main_v386 V : Vec Ideal S2x128x226x226 .f32) (ix4 b s r q) = padz ((hidd (V (Proc.devRef .tc main_arg3)) (V (Proc.devRef .tc main_arg8)) (V (Proc.devRef .tc main_arg9)) b) s) r.val q.val := by
  unfold res_main_v386
  clean_types
  pointwise
  exact pad_at (fun h q => (res_main_v385 V : Vec Ideal S2x128x224x224 .f32) (ix4 b s h q)) _ (v385_apply V b s) r q

theorem v441_apply (b : Fin 2) (k : Fin 96) (h q : Fin 224) :
    (res_main_v441 V : Vec Ideal S2x96x224x224 .f32) (ix4 b k h q)
      = conv (hidd (V (Proc.devRef .tc main_arg3)) (V (Proc.devRef .tc main_arg8)) (V (Proc.devRef .tc main_arg9)) b)
          (fun dy dx s => (V (Proc.devRef .tc main_arg10) : Vec Ideal S96x128x3x3 .f32) (ix4 k s dy dx)) h.val q.val := by
  unfold res_main_v441
  clean_types
  pointwise
  exact conv_sum (V (Proc.devRef .tc main_arg10)) (res_main_v386 V) _ b k h q fun s r q => v386_apply V b s r q

theorem v500_apply (b : Fin 2) (k : Fin 96) (h q : Fin 224) :
    (res_main_v500 V : Vec Ideal S2x96x224x224 .f32) (ix4 b k h q)
      = conv (hidd (V (Proc.devRef .tc main_arg3)) (V (Proc.devRef .tc main_arg8)) (V (Proc.devRef .tc main_arg9)) b)
          (fun dy dx s => (V (Proc.devRef .tc main_arg12) : Vec Ideal S96x128x3x3 .f32) (ix4 k s dy dx)) h.val q.val := by
  unfold res_main_v500
  clean_types
  pointwise
  exact conv_sum (V (Proc.devRef .tc main_arg12)) (res_main_v445 V) _ b k h q fun s r q => v386_apply V b s r q

end Cert.ReferenceIdeal.Value

end
-- ==== Proof.RNorm.lean ====
/-
  The reference's result, as the stated function of its arguments.
-/
module

public import proofs.«01_k».proof.Proof.RConv
public import proofs.«01_k».proof.Proof.Goal

@[expose] public section

set_option maxRecDepth 16384

noncomputable section

namespace Cert.ReferenceIdeal.Value

open Cert.ReferenceIdeal Cert.ReferenceIdeal.Gen Idealize.ShloMosaic Idealize.ShloMosaic.TcCoe
open Cert.Spec
variable (V : Valuation τ sig (Elt Ideal))

/-- The reference's arguments. -/
def rArgs : Args :=
  ⟨V (Proc.devRef .tc main_arg0), V (Proc.devRef .tc main_arg1), V (Proc.devRef .tc main_arg2), V (Proc.devRef .tc main_arg3),
    V (Proc.devRef .tc main_arg4), V (Proc.devRef .tc main_arg5), V (Proc.devRef .tc main_arg6), V (Proc.devRef .tc main_arg7),
    V (Proc.devRef .tc main_arg8), V (Proc.devRef .tc main_arg9), V (Proc.devRef .tc main_arg10), V (Proc.devRef .tc main_arg11),
    V (Proc.devRef .tc main_arg12), V (Proc.devRef .tc main_arg13), V (Proc.devRef .tc main_arg14), V (Proc.devRef .tc main_arg15),
    V (Proc.devRef .tc main_arg16), V (Proc.devRef .tc main_arg17), V (Proc.devRef .tc main_arg18), V (Proc.devRef .tc main_arg19)⟩

/-- The noisy input's channel. -/
def yi (A : Args) (b : Fin 2) (k : Fin 96) : Img := fun h q => A.xi b k h q + A.ni b h q * A.nv (ix1 k)

theorem v5_apply (b : Fin 2) (k : Fin 96) (h q : Fin 224) :
    (res_main_v5 V : Vec Ideal S2x96x224x224 .f32) (ix4 b k h q) = yi (rArgs V) b k h q := by
  unfold res_main_v5
  clean_types
  pointwise
  rfl

theorem v8_eq : (res_main_call0_v8 V : Vec Ideal S_ .f32) ix0 = cnt := by
  unfold res_main_call0_v8
  clean_types
  pointwise
  show cnt - (((0#32 : BitVec 32).toInt : ℝ) : EReal) = cnt
  simp

theorem dev_apply (b : Fin 2) (k : Fin 96) (h q : Fin 224) :
    (res_main_call0_v5 V : Vec Ideal S2x96x224x224 .f32) (ix4 b k h q) = yi (rArgs V) b k h q - rmean (yi (rArgs V) b k) := by
  unfold res_main_call0_v5
  clean_types
  pointwise
  simp only [v5_apply]
  rfl

theorem v509_apply : (res_main_v509 V : Vec Ideal S1 .f32) (ix1 0) = sig1 ((V (Proc.devRef .tc main_arg18) : Arr S1) (ix1 0)) := by
  unfold res_main_v509
  clean_types
  pointwise
  rfl

theorem v515_apply : (res_main_v515 V : Vec Ideal S1 .f32) (ix1 0) = sig1 ((V (Proc.devRef .tc main_arg19) : Arr S1) (ix1 0)) := by
  unfold res_main_v515
  clean_types
  pointwise
  rfl

/-- The result at an index, of its named parts. -/
theorem out_eq (A : Args) (b : Fin 2) (k : Fin 96) (h q : Fin 224) {y d : Img} {n z g t s s' u u' : EReal}
    (hy : ∀ h q, y h q = yi A b k h q) (hd : ∀ h q, d h q = yi A b k h q - rmean (yi A b k)) (hn : n = cnt)
    (hg : g = sig1 (A.bg (ix1 0))) (ht : t = sig1 (A.bb (ix1 0)))
    (hs : s = A.cs A.sgw b k h.val q.val) (hs' : s' = A.cs A.sbw b k h.val q.val)
    (hu : u = A.cm A.ggw b k h.val q.val) (hu' : u' = A.cm A.gbw b k h.val q.val) :
    (Ideal.div (y h q - Ideal.div (∑ h, ∑ q, y h q) cnt) (Ideal.sqrt ((if 0 < n then Ideal.div (∑ h, ∑ q, d h q * d h q) n else z) + eps))
          * A.iw (ix1 k) + A.ib (ix1 k))
        * (1 + (g * (s + A.sgb (ix1 k)) + (1 - g) * (u + A.ggb (ix1 k))))
      + (t * (s' + A.sbb (ix1 k)) + (1 - t) * (u' + A.gbb (ix1 k))) = A.out (ix4 b k h q) := by
  obtain rfl : y = yi A b k := funext fun h => funext fun q => hy h q
  obtain rfl : d = fun h q => yi A b k h q - rmean (yi A b k) := funext fun h => funext fun q => hd h q
  have hc : (0 : EReal) < cnt := by rw [cnt_val]; exact_mod_cast (by norm_num : (0 : ℝ) < 50176)
  rw [hn, hg, ht, hs, hs', hu, hu', if_pos hc]
  rfl

end Cert.ReferenceIdeal.Value

end
-- ==== Proof.lean ====
/-
  The claims: the frames of the kernel's two programs, whose three calls run one after the other between stretches of
  host operations, and of the reference; and that the kernel's result is the reference's.
-/
module

public import proofs.«01_k».proof.Defs
public import proofs.«01_k».proof.Proof.Gen.Pre_finite
public import proofs.«01_k».proof.Proof.Gen.ReferenceIdeal.Run
public import proofs.«01_k».proof.Proof.Frame
public import proofs.«01_k».proof.Proof.Words
public import proofs.«01_k».proof.Proof.VPre
public import proofs.«01_k».proof.Proof.RNorm
public import Idealize.ShloMosaic.Lib.Quiescent

@[expose] public section

set_option maxRecDepth 16384

noncomputable section

namespace Cert.Proof

open Idealize.ShloMosaic Idealize.SL.Sem

/-- The kernel over the extended reals runs, its arguments as launched and its counters at zero, -/
theorem frame_i : Cert.quiescent_KernelIdeal (hKernelIdeal := Cert.KernelIdeal.Gen.facts) := fun m g _ =>
  (θ_run Cert.KernelIdeal.defs _ _).mono (fun r h => ⟨fun c => (h.1 c).2, h.2⟩) (Cert.KernelIdeal.Main.ends m g)

/-- and so does the reference, which declares no semaphore. -/
theorem frame_r : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

section

open Cert.ReferenceIdeal Cert.ReferenceIdeal.Value Cert.Spec

set_option maxHeartbeats 2000000 in
/-- The kernel's result is the reference's. -/
theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m g m' g' hp ha =>
  ⟨fun c => (Cert.KernelIdeal.Main.kArgs m c).out,
    (θ_run Cert.KernelIdeal.defs _ _).mono (fun r h c => ⟨(h.1 c).1.trans (Cert.KernelIdeal.Main.ker_eq m c (Cert.KernelIdeal.Main.fin_of m c hp)), (h.1 c).2⟩)
      (Cert.KernelIdeal.Main.ends m g),
    (θ_run Cert.ReferenceIdeal.defs _ _).mono (fun r h c => ⟨(h c).1.trans (by
        have hA : Cert.KernelIdeal.Main.kArgs m c = rArgs (StableHlo.launchContents m' c) := by
          obtain ⟨h0, h1, h2, h3, h4, h5, h6, h7, h8, h9, h10, h11, h12, h13, h14, h15, h16, h17, h18, h19⟩ := ha c
          have e := Cert.KernelIdeal.Main.W0_launch m c
          exact Args.ext ((e _).trans h0.symm) ((e _).trans h1.symm) ((e _).trans h2.symm) ((e _).trans h3.symm) ((e _).trans h4.symm) ((e _).trans h5.symm) ((e _).trans h6.symm) ((e _).trans h7.symm) ((e _).trans h8.symm) ((e _).trans h9.symm) ((e _).trans h10.symm) ((e _).trans h11.symm) ((e _).trans h12.symm) ((e _).trans h13.symm) ((e _).trans h14.symm) ((e _).trans h15.symm) ((e _).trans h16.symm) ((e _).trans h17.symm) ((e _).trans h18.symm) ((e _).trans h19.symm)
        refine Eq.trans ?_ (congrArg Args.out hA).symm
        generalize StableHlo.launchContents m' c = V
        clear hA hp ha h
        clean_types
        funext i
        obtain ⟨b, k, h, q, rfl⟩ : ∃ b k h q, i = ix4 b k h q := ⟨i 0, i 1, i 2, i 3, eq_ix4 i⟩
        pointwise
        exact out_eq (rArgs V) b k h q (v5_apply V b k) (dev_apply V b k) (v8_eq V) (v509_apply V) (v515_apply V)
          (v259_apply V b k h q) (v318_apply V b k h q) (v441_apply V b k h q) (v500_apply V b k h q)), (h c).2⟩)
      (Cert.ReferenceIdeal.Value.run m' g')⟩

end

theorem claim : Cert.Claim :=
  ⟨Cert.Kernel.Gen.facts, Cert.KernelIdeal.Gen.facts, Cert.ReferenceIdeal.Gen.facts, Cert.Pre_finite.Gen.facts, frame_p, frame_i,
    fun m g _ => frame_i m g trivial, frame_r, fun m g _ => frame_r m g trivial, trivial, value⟩

end Cert.Proof

end
